-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4_finite [hPre_finite : Cert.Pre_finite.Facts] (m : (ℓ : Loc Cert.Kernel4.nD Cert.Kernel4.τ Cert.Kernel4.sig) → Buf (Elt Bits) ℓ) : Prop :=
  ∀ c : Dev Cert.Kernel4.nD,
    (Cert.Pre_finite.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4_pre_finite [hKernel4 : Cert.Kernel4.Facts] [hPre_finite : Cert.Pre_finite.Facts] : Prop :=
  ∀ (m : (ℓ : Loc Cert.Kernel4.nD Cert.Kernel4.τ Cert.Kernel4.sig) → Buf (Elt Bits) ℓ) (g : Dev Cert.Kernel4.nD → PrngReg), Pre_Kernel4_finite m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8)
      ∧ r.2.mem ((c.tc : Thread Cert.Kernel20.nD Cert.Kernel20.τ).loc Cert.Kernel20.main_arg9) = m ((c.tc : Thread Cert.Kernel20.nD Cert.Kernel20.τ).loc Cert.Kernel20.main_arg9)
      ∧ r.2.mem ((c.tc : Thread Cert.Kernel20.nD Cert.Kernel20.τ).loc Cert.Kernel20.main_arg10) = m ((c.tc : Thread Cert.Kernel20.nD Cert.Kernel20.τ).loc Cert.Kernel20.main_arg10)
      ∧ r.2.mem ((c.tc : Thread Cert.Kernel20.nD Cert.Kernel20.τ).loc Cert.Kernel20.main_arg11) = m ((c.tc : Thread Cert.Kernel20.nD Cert.Kernel20.τ).loc Cert.Kernel20.main_arg11)
      ∧ r.2.mem ((c.tc : Thread Cert.Kernel20.nD Cert.Kernel20.τ).loc Cert.Kernel20.main_arg12) = m ((c.tc : Thread Cert.Kernel20.nD Cert.Kernel20.τ).loc Cert.Kernel20.main_arg12)
      ∧ r.2.mem ((c.tc : Thread Cert.Kernel20.nD Cert.Kernel20.τ).loc Cert.Kernel20.main_arg13) = m ((c.tc : Thread Cert.Kernel20.nD Cert.Kernel20.τ).loc Cert.Kernel20.main_arg13)
      ∧ r.2.mem ((c.tc : Thread Cert.Kernel20.nD Cert.Kernel20.τ).loc Cert.Kernel20.main_arg14) = m ((c.tc : Thread Cert.Kernel20.nD Cert.Kernel20.τ).loc Cert.Kernel20.main_arg14))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
      ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
      ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
      ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
      ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
      ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13)
      ∧ r.2.mem ((c.tc : Thread Cert.Kernel20Ideal.nD Cert.Kernel20Ideal.τ).loc Cert.Kernel20Ideal.main_arg14) = m ((c.tc : Thread Cert.Kernel20Ideal.nD Cert.Kernel20Ideal.τ).loc Cert.Kernel20Ideal.main_arg14))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8)
      ∧ r.2.mem ((c.tc : Thread Cert.Reference20Ideal.nD Cert.Reference20Ideal.τ).loc Cert.Reference20Ideal.main_arg9) = m ((c.tc : Thread Cert.Reference20Ideal.nD Cert.Reference20Ideal.τ).loc Cert.Reference20Ideal.main_arg9)
      ∧ r.2.mem ((c.tc : Thread Cert.Reference20Ideal.nD Cert.Reference20Ideal.τ).loc Cert.Reference20Ideal.main_arg10) = m ((c.tc : Thread Cert.Reference20Ideal.nD Cert.Reference20Ideal.τ).loc Cert.Reference20Ideal.main_arg10)
      ∧ r.2.mem ((c.tc : Thread Cert.Reference20Ideal.nD Cert.Reference20Ideal.τ).loc Cert.Reference20Ideal.main_arg11) = m ((c.tc : Thread Cert.Reference20Ideal.nD Cert.Reference20Ideal.τ).loc Cert.Reference20Ideal.main_arg11)
      ∧ r.2.mem ((c.tc : Thread Cert.Reference20Ideal.nD Cert.Reference20Ideal.τ).loc Cert.Reference20Ideal.main_arg12) = m ((c.tc : Thread Cert.Reference20Ideal.nD Cert.Reference20Ideal.τ).loc Cert.Reference20Ideal.main_arg12)
      ∧ r.2.mem ((c.tc : Thread Cert.Reference20Ideal.nD Cert.Reference20Ideal.τ).loc Cert.Reference20Ideal.main_arg13) = m ((c.tc : Thread Cert.Reference20Ideal.nD Cert.Reference20Ideal.τ).loc Cert.Reference20Ideal.main_arg13)
      ∧ r.2.mem ((c.tc : Thread Cert.Reference20Ideal.nD Cert.Reference20Ideal.τ).loc Cert.Reference20Ideal.main_arg14) = m ((c.tc : Thread Cert.Reference20Ideal.nD Cert.Reference20Ideal.τ).loc Cert.Reference20Ideal.main_arg14))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_3)) (v2 : (c : Dev Cert.Kernel4Ideal.nD) → Buf (Elt Ideal) ((c.tc : Thread Cert.Kernel4Ideal.nD Cert.Kernel4Ideal.τ).loc Cert.Kernel4Ideal.main_v29_0)) (v3 : (c : Dev Cert.Kernel4Ideal.nD) → Buf (Elt Ideal) ((c.tc : Thread Cert.Kernel4Ideal.nD Cert.Kernel4Ideal.τ).loc Cert.Kernel4Ideal.main_v29_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_3) = v1 c
          ∧ r.2.mem ((c.tc : Thread Cert.Kernel4Ideal.nD Cert.Kernel4Ideal.τ).loc Cert.Kernel4Ideal.main_v29_0) = v2 c
          ∧ r.2.mem ((c.tc : Thread Cert.Kernel4Ideal.nD Cert.Kernel4Ideal.τ).loc Cert.Kernel4Ideal.main_v29_1) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_v42) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v24_0)) (v1 : (c : Dev Cert.Kernel12Ideal.nD) → Buf (Elt Ideal) ((c.tc : Thread Cert.Kernel12Ideal.nD Cert.Kernel12Ideal.τ).loc Cert.Kernel12Ideal.main_v24_1)) (v2 : (c : Dev Cert.Kernel12Ideal.nD) → Buf (Elt Ideal) ((c.tc : Thread Cert.Kernel12Ideal.nD Cert.Kernel12Ideal.τ).loc Cert.Kernel12Ideal.main_v24_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24_0) = v0 c
          ∧ r.2.mem ((c.tc : Thread Cert.Kernel12Ideal.nD Cert.Kernel12Ideal.τ).loc Cert.Kernel12Ideal.main_v24_1) = v1 c
          ∧ r.2.mem ((c.tc : Thread Cert.Kernel12Ideal.nD Cert.Kernel12Ideal.τ).loc Cert.Kernel12Ideal.main_v24_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v41) = v0 c
          ∧ r.2.mem ((c.tc : Thread Cert.Reference12Ideal.nD Cert.Reference12Ideal.τ).loc Cert.Reference12Ideal.main_v42) = v1 c
          ∧ r.2.mem ((c.tc : Thread Cert.Reference12Ideal.nD Cert.Reference12Ideal.τ).loc Cert.Reference12Ideal.main_v43) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_v53) = v1 c
          ∧ r.2.mem ((c.tc : Thread Cert.Reference13Ideal.nD Cert.Reference13Ideal.τ).loc Cert.Reference13Ideal.main_v54) = v2 c
          ∧ r.2.mem ((c.tc : Thread Cert.Reference13Ideal.nD Cert.Reference13Ideal.τ).loc Cert.Reference13Ideal.main_v55) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "inv_c1" .f32 0x3FC48605#32 (((5463681 / 8388608)⁻¹ : ℝ) : EReal)
  ∧ IdealRules.named_const.Statement Cert.Kernel14Ideal.κ "inv_c2" .f32 0x42C8E6D3#32 (((2672307 / 268435456)⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  IdealRules.named_const.Statement Cert.Kernel16Ideal.κ "inv_c1" .f32 0x3FC48605#32 (((5463681 / 8388608)⁻¹ : ℝ) : EReal)
  ∧ IdealRules.named_const.Statement Cert.Kernel16Ideal.κ "inv_c2" .f32 0x42C8E6D3#32 (((2672307 / 268435456)⁻¹ : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "inv_c1" .f32 0x3FC48605#32 (((5463681 / 8388608)⁻¹ : ℝ) : EReal)
  ∧ IdealRules.named_const.Statement Cert.Kernel17Ideal.κ "inv_c2" .f32 0x42C8E6D3#32 (((2672307 / 268435456)⁻¹ : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "inv_c1" .f32 0x3FC48605#32 (((5463681 / 8388608)⁻¹ : ℝ) : EReal)
  ∧ IdealRules.named_const.Statement Cert.Kernel18Ideal.κ "inv_c2" .f32 0x42C8E6D3#32 (((2672307 / 268435456)⁻¹ : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "inv_c1" .f32 0x3FC48605#32 (((5463681 / 8388608)⁻¹ : ℝ) : EReal)
  ∧ IdealRules.named_const.Statement Cert.Kernel19Ideal.κ "inv_c2" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)
      ∧ m' ((c.tc : Thread Cert.Reference20Ideal.nD Cert.Reference20Ideal.τ).loc Cert.Reference20Ideal.main_arg9) = m ((c.tc : Thread Cert.Kernel20Ideal.nD Cert.Kernel20Ideal.τ).loc Cert.Kernel20Ideal.main_arg9)
      ∧ m' ((c.tc : Thread Cert.Reference20Ideal.nD Cert.Reference20Ideal.τ).loc Cert.Reference20Ideal.main_arg10) = m ((c.tc : Thread Cert.Kernel20Ideal.nD Cert.Kernel20Ideal.τ).loc Cert.Kernel20Ideal.main_arg10)
      ∧ m' ((c.tc : Thread Cert.Reference20Ideal.nD Cert.Reference20Ideal.τ).loc Cert.Reference20Ideal.main_arg11) = m ((c.tc : Thread Cert.Kernel20Ideal.nD Cert.Kernel20Ideal.τ).loc Cert.Kernel20Ideal.main_arg11)
      ∧ m' ((c.tc : Thread Cert.Reference20Ideal.nD Cert.Reference20Ideal.τ).loc Cert.Reference20Ideal.main_arg12) = m ((c.tc : Thread Cert.Kernel20Ideal.nD Cert.Kernel20Ideal.τ).loc Cert.Kernel20Ideal.main_arg12)
      ∧ m' ((c.tc : Thread Cert.Reference20Ideal.nD Cert.Reference20Ideal.τ).loc Cert.Reference20Ideal.main_arg13) = m ((c.tc : Thread Cert.Kernel20Ideal.nD Cert.Kernel20Ideal.τ).loc Cert.Kernel20Ideal.main_arg13)
      ∧ m' ((c.tc : Thread Cert.Reference20Ideal.nD Cert.Reference20Ideal.τ).loc Cert.Reference20Ideal.main_arg14) = m ((c.tc : Thread Cert.Kernel20Ideal.nD Cert.Kernel20Ideal.τ).loc Cert.Kernel20Ideal.main_arg14)) →
    ∃ (v0 : (c : Dev Cert.Kernel20Ideal.nD) → Buf (Elt Ideal) ((c.tc : Thread Cert.Kernel20Ideal.nD Cert.Kernel20Ideal.τ).loc Cert.Kernel20Ideal.main_v61_10)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v61_10) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8)
          ∧ r.2.mem ((c.tc : Thread Cert.Kernel20Ideal.nD Cert.Kernel20Ideal.τ).loc Cert.Kernel20Ideal.main_arg9) = m ((c.tc : Thread Cert.Kernel20Ideal.nD Cert.Kernel20Ideal.τ).loc Cert.Kernel20Ideal.main_arg9)
          ∧ r.2.mem ((c.tc : Thread Cert.Kernel20Ideal.nD Cert.Kernel20Ideal.τ).loc Cert.Kernel20Ideal.main_arg10) = m ((c.tc : Thread Cert.Kernel20Ideal.nD Cert.Kernel20Ideal.τ).loc Cert.Kernel20Ideal.main_arg10)
          ∧ r.2.mem ((c.tc : Thread Cert.Kernel20Ideal.nD Cert.Kernel20Ideal.τ).loc Cert.Kernel20Ideal.main_arg11) = m ((c.tc : Thread Cert.Kernel20Ideal.nD Cert.Kernel20Ideal.τ).loc Cert.Kernel20Ideal.main_arg11)
          ∧ r.2.mem ((c.tc : Thread Cert.Kernel20Ideal.nD Cert.Kernel20Ideal.τ).loc Cert.Kernel20Ideal.main_arg12) = m ((c.tc : Thread Cert.Kernel20Ideal.nD Cert.Kernel20Ideal.τ).loc Cert.Kernel20Ideal.main_arg12)
          ∧ r.2.mem ((c.tc : Thread Cert.Kernel20Ideal.nD Cert.Kernel20Ideal.τ).loc Cert.Kernel20Ideal.main_arg13) = m ((c.tc : Thread Cert.Kernel20Ideal.nD Cert.Kernel20Ideal.τ).loc Cert.Kernel20Ideal.main_arg13)
          ∧ r.2.mem ((c.tc : Thread Cert.Kernel20Ideal.nD Cert.Kernel20Ideal.τ).loc Cert.Kernel20Ideal.main_arg14) = m ((c.tc : Thread Cert.Kernel20Ideal.nD Cert.Kernel20Ideal.τ).loc Cert.Kernel20Ideal.main_arg14))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v63) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8)
          ∧ r.2.mem ((c.tc : Thread Cert.Reference20Ideal.nD Cert.Reference20Ideal.τ).loc Cert.Reference20Ideal.main_arg9) = m' ((c.tc : Thread Cert.Reference20Ideal.nD Cert.Reference20Ideal.τ).loc Cert.Reference20Ideal.main_arg9)
          ∧ r.2.mem ((c.tc : Thread Cert.Reference20Ideal.nD Cert.Reference20Ideal.τ).loc Cert.Reference20Ideal.main_arg10) = m' ((c.tc : Thread Cert.Reference20Ideal.nD Cert.Reference20Ideal.τ).loc Cert.Reference20Ideal.main_arg10)
          ∧ r.2.mem ((c.tc : Thread Cert.Reference20Ideal.nD Cert.Reference20Ideal.τ).loc Cert.Reference20Ideal.main_arg11) = m' ((c.tc : Thread Cert.Reference20Ideal.nD Cert.Reference20Ideal.τ).loc Cert.Reference20Ideal.main_arg11)
          ∧ r.2.mem ((c.tc : Thread Cert.Reference20Ideal.nD Cert.Reference20Ideal.τ).loc Cert.Reference20Ideal.main_arg12) = m' ((c.tc : Thread Cert.Reference20Ideal.nD Cert.Reference20Ideal.τ).loc Cert.Reference20Ideal.main_arg12)
          ∧ r.2.mem ((c.tc : Thread Cert.Reference20Ideal.nD Cert.Reference20Ideal.τ).loc Cert.Reference20Ideal.main_arg13) = m' ((c.tc : Thread Cert.Reference20Ideal.nD Cert.Reference20Ideal.τ).loc Cert.Reference20Ideal.main_arg13)
          ∧ r.2.mem ((c.tc : Thread Cert.Reference20Ideal.nD Cert.Reference20Ideal.τ).loc Cert.Reference20Ideal.main_arg14) = m' ((c.tc : Thread Cert.Reference20Ideal.nD Cert.Reference20Ideal.τ).loc Cert.Reference20Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4_pre_finite (hKernel4 := hKernel4) (hPre_finite := hPre_finite)
    ∧ quiescent_Kernel4Ideal (hKernel4Ideal := hKernel4Ideal) (hPre_finite := hPre_finite)
    ∧ quiescent_Reference4Ideal (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S8192x1024 : Shape := ⟨2, ![8192, 1024]⟩
abbrev S1024 : Shape := ⟨1, ![1024]⟩
abbrev S1024x5504 : Shape := ⟨2, ![1024, 5504]⟩
abbrev S2752x1024 : Shape := ⟨2, ![2752, 1024]⟩
abbrev S1x1024 : Shape := ⟨2, ![1, 1024]⟩
abbrev S5504x1024 : Shape := ⟨2, ![5504, 1024]⟩
abbrev S16449x1024 : Shape := ⟨2, ![16449, 1024]⟩
abbrev S_ : Shape := ⟨0, ![]⟩

class Facts : Prop where
  bcast_S1024_S1x1024_1 : S1024.BroadcastsInDim S1x1024 (![1] : Fin 1 → Fin S1x1024.rank)
  transposes_S1024x5504_S5504x1024_1_0 : S1024x5504.Transposes [1, 0] S5504x1024
  concatenates_S1x1024_S5504x1024_S2752x1024_S8192x1024_S16449x1024_d0 : Shape.Concatenates [S1x1024, S5504x1024, S2752x1024, S8192x1024] S16449x1024 0
  bcast_S_S16449x1024 : S_.BroadcastsInDim S16449x1024 (![] : Fin 0 → Fin S16449x1024.rank)

variable [Facts]

def fn {F : FTy → Type} [FloatOps F] (main_arg0 : FVec F S8192x1024 .f32) (main_arg1 : FVec F S1024 .f32) (main_arg2 : FVec F S1024x5504 .f32) (main_arg3 : FVec F S2752x1024 .f32) (main_arg4 : FVec F S8192x1024 .f32) : IVec S16449x1024 1 :=
  let main_v0 : FVec F S1x1024 .f32 := broadcastInDim S1x1024 ![1] bcast_S1024_S1x1024_1 main_arg1
  let main_v1 : FVec F S5504x1024 .f32 := (transpose S5504x1024 [1, 0] · transposes_S1024x5504_S5504x1024_1_0) main_arg2
  let main_v2 : FVec F S16449x1024 .f32 := concatenate S16449x1024 0 [⟨S1x1024, main_v0⟩, ⟨S5504x1024, main_v1⟩, ⟨S2752x1024, main_arg3⟩, ⟨S8192x1024, main_arg4⟩] concatenates_S1x1024_S5504x1024_S2752x1024_S8192x1024_S16449x1024_d0
  let main_v3 : FVec F S16449x1024 .f32 := Host.absf main_v2
  let main_cst : FVec F S_ .f32 := constant S_ .f32 0x7F800000#32
  let main_v4 : FVec F S16449x1024 .f32 := broadcastInDim S16449x1024 ![] bcast_S_S16449x1024 main_cst
  let main_v5 : IVec S16449x1024 1 := cmpf .olt main_v3 main_v4
  main_v5
-- ==== Kernel.lean ====
abbrev S8192x1024 : Shape := ⟨2, ![8192, 1024]⟩
abbrev S8192x1792 : Shape := ⟨2, ![8192, 1792]⟩
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x512 : Shape := ⟨2, ![1, 512]⟩
abbrev S1024x512 : Shape := ⟨2, ![1024, 512]⟩
abbrev S1024 : Shape := ⟨1, ![1024]⟩
abbrev S1x1024 : Shape := ⟨2, ![1, 1024]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S256x1024 : Shape := ⟨2, ![256, 1024]⟩
abbrev S256x1792 : Shape := ⟨2, ![256, 1792]⟩
abbrev S16x512 : Shape := ⟨2, ![16, 512]⟩
abbrev S16x256 : Shape := ⟨2, ![16, 256]⟩
abbrev S256x512 : Shape := ⟨2, ![256, 512]⟩
abbrev S8x512 : Shape := ⟨2, ![8, 512]⟩
abbrev S272x512 : Shape := ⟨2, ![272, 512]⟩
abbrev S64x512 : Shape := ⟨2, ![64, 512]⟩
abbrev S272x256 : Shape := ⟨2, ![272, 256]⟩
abbrev S256x1 : Shape := ⟨2, ![256, 1]⟩

abbrev nBuf : Space → Nat
  | .hbm => 103
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S8192x512, .f32⟩
  | .hbm, ⟨3, _⟩ => ⟨S4x512, .f32⟩
  | .hbm, ⟨4, _⟩ => ⟨S512, .f32⟩
  | .hbm, ⟨5, _⟩ => ⟨S8x64x64, .f32⟩
  | .hbm, ⟨6, _⟩ => ⟨S8x64, .f32⟩
  | .hbm, ⟨7, _⟩ => ⟨S8x64x64, .f32⟩
  | .hbm, ⟨8, _⟩ => ⟨S8x64, .f32⟩
  | .hbm, ⟨9, _⟩ => ⟨S512, .f32⟩
  | .hbm, ⟨10, _⟩ => ⟨S4x64x64, .f32⟩
  | .hbm, ⟨11, _⟩ => ⟨S256, .f32⟩
  | .hbm, ⟨12, _⟩ => ⟨S256, .f32⟩
  | .hbm, ⟨13, _⟩ => ⟨S4x128x128, .f32⟩
  | .hbm, ⟨14, _⟩ => ⟨S4x128, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S1x128x128, .i1⟩
  | .hbm, ⟨27, _⟩ => ⟨S_, .f32⟩
  | .hbm, ⟨28, _⟩ => ⟨S_, .f32⟩
  | .hbm, ⟨29, _⟩ => ⟨S4x128x128, .i1⟩
  | .hbm, ⟨30, _⟩ => ⟨S4x128x128, .f32⟩
  | .hbm, ⟨31, _⟩ => ⟨S4x128x128, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x1x8x1, .f32⟩
  | .hbm, ⟨40, _⟩ => ⟨S8x64x1x64, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S512x512, .f32⟩
  | .hbm, ⟨45, _⟩ => ⟨S8x8, .i32⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S8x8, .f32⟩
  | .hbm, ⟨52, _⟩ => ⟨S8x1x8x1, .f32⟩
  | .hbm, ⟨53, _⟩ => ⟨S8x64x1x64, .f32⟩
  | .hbm, ⟨54, _⟩ => ⟨S8x64x8x64, .f32⟩
  | .hbm, ⟨55, _⟩ => ⟨S8x64x8x64, .f32⟩
  | .hbm, ⟨56, _⟩ => ⟨S8x64x8x64, .f32⟩
  | .hbm, ⟨57, _⟩ => ⟨S512x512, .f32⟩
  | .hbm, ⟨58, _⟩ => ⟨S512x1024, .f32⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S4x1x4x1, .f32⟩
  | .hbm, ⟨67, _⟩ => ⟨S4x64x1x64, .f32⟩
  | .hbm, ⟨68, _⟩ => ⟨S4x64x4x64, .f32⟩
  | .hbm, ⟨69, _⟩ => ⟨S4x64x4x64, .f32⟩
  | .hbm, ⟨70, _⟩ => ⟨S4x64x4x64, .f32⟩
  | .hbm, ⟨71, _⟩ => ⟨S256x256, .f32⟩
  | .hbm, ⟨72, _⟩ => ⟨S1x512, .f32⟩
  | .hbm, ⟨73, _⟩ => ⟨S512x1024, .bf16⟩
  | .hbm, ⟨74, _⟩ => ⟨S1024x512, .f32⟩
  | .hbm, ⟨75, _⟩ => ⟨S1024x512, .bf16⟩
  | .hbm, ⟨76, _⟩ => ⟨S512, .f32⟩
  | .hbm, ⟨77, _⟩ => ⟨S512, .f32⟩
  | .hbm, ⟨78, _⟩ => ⟨S1024, .f32⟩
  | .hbm, ⟨79, _⟩ => ⟨S1x1024, .f32⟩
  | .hbm, ⟨80, _⟩ => ⟨S1x512, .f32⟩
  | .hbm, ⟨81, _⟩ => ⟨S256x256, .bf16⟩
  | .hbm, ⟨82, _⟩ => ⟨S256x256, .f32⟩
  | .hbm, ⟨83, _⟩ => ⟨S256x256, .bf16⟩
  | .hbm, ⟨84, _⟩ => ⟨S1x256, .f32⟩
  | .hbm, ⟨85, _⟩ => ⟨S1x256, .f32⟩
  | .hbm, ⟨86, _⟩ => ⟨S4x128x128, .bf16⟩
  | .hbm, ⟨87, _⟩ => ⟨S4x128x128, .f32⟩
  | .hbm, ⟨88, _⟩ => ⟨S4x128x128, .bf16⟩
  | .hbm, ⟨89, _⟩ => ⟨S128x4, .f32⟩
  | .hbm, ⟨90, _⟩ => ⟨S128x4x64, .f32⟩
  | .hbm, ⟨91, _⟩ => ⟨S128x256, .f32⟩
  | .hbm, ⟨92, _⟩ => ⟨S8192x1792, .bf16⟩
  | .hbm, ⟨93, _⟩ => ⟨S4x512, .f32⟩
  | .hbm, ⟨94, _⟩ => ⟨S1x512, .f32⟩
  | .hbm, ⟨95, _⟩ => ⟨S512x1024, .f32⟩
  | .hbm, ⟨96, _⟩ => ⟨S1x1024, .f32⟩
  | .hbm, ⟨97, _⟩ => ⟨S1x512, .f32⟩
  | .hbm, ⟨98, _⟩ => ⟨S256x256, .f32⟩
  | .hbm, ⟨99, _⟩ => ⟨S1x256, .f32⟩
  | .hbm, ⟨100, _⟩ => ⟨S1x256, .f32⟩
  | .hbm, ⟨101, _⟩ => ⟨S4x128x128, .f32⟩
  | .hbm, ⟨102, _⟩ => ⟨S128x256, .f32⟩
  | .local _ .vmem, ⟨0, _⟩ => ⟨S256x1024, .f32⟩
  | .local _ .vmem, ⟨1, _⟩ => ⟨S256x1024, .f32⟩
  | .local _ .vmem, ⟨2, _⟩ => ⟨S256x1792, .f32⟩
  | .local _ .vmem, ⟨3, _⟩ => ⟨S256x1792, .f32⟩
  | .local _ .vmem, ⟨4, _⟩ => ⟨S16x512, .f32⟩
  | .local _ .vmem, ⟨5, _⟩ => ⟨S16x512, .f32⟩
  | .local _ .vmem, ⟨6, _⟩ => ⟨S16x256, .f32⟩
  | .local _ .vmem, ⟨7, _⟩ => ⟨S16x256, .f32⟩
  | .local _ .vmem, ⟨8, _⟩ => ⟨S256x512, .f32⟩
  | .local _ .vmem, ⟨9, _⟩ => ⟨S256x512, .f32⟩
  | .local _ .vmem, ⟨10, _⟩ => ⟨S16x512, .f32⟩
  | .local _ .vmem, ⟨11, _⟩ => ⟨S16x512, .f32⟩
  | .local _ .vmem, ⟨12, _⟩ => ⟨S4x512, .f32⟩
  | .local _ .vmem, ⟨13, _⟩ => ⟨S1x512, .f32⟩
  | .local _ .vmem, ⟨14, _⟩ => ⟨S512x1024, .bf16⟩
  | .local _ .vmem, ⟨15, _⟩ => ⟨S1024x512, .bf16⟩
  | .local _ .vmem, ⟨16, _⟩ => ⟨S1x1024, .f32⟩
  | .local _ .vmem, ⟨17, _⟩ => ⟨S1x512, .f32⟩
  | .local _ .vmem, ⟨18, _⟩ => ⟨S256x256, .bf16⟩
  | .local _ .vmem, ⟨19, _⟩ => ⟨S256x256, .bf16⟩
  | .local _ .vmem, ⟨20, _⟩ => ⟨S1x256, .f32⟩
  | .local _ .vmem, ⟨21, _⟩ => ⟨S1x256, .f32⟩
  | .local _ .vmem, ⟨22, _⟩ => ⟨S4x128x128, .bf16⟩
  | .local _ .vmem, ⟨23, _⟩ => ⟨S4x128x128, .bf16⟩
  | .local _ .vmem, ⟨24, _⟩ => ⟨S128x256, .f32⟩
  | .local _ .vmem, ⟨25, _⟩ => ⟨S256x1792, .bf16⟩
  | .local _ .vmem, ⟨26, _⟩ => ⟨S256x1792, .bf16⟩
  | .local _ .vmem, ⟨27, _⟩ => ⟨S4x512, .f32⟩
  | .local _ .vmem, ⟨28, _⟩ => ⟨S1x512, .f32⟩
  | .local _ .vmem, ⟨29, _⟩ => ⟨S512x1024, .f32⟩
  | .local _ .vmem, ⟨30, _⟩ => ⟨S1x1024, .f32⟩
  | .local _ .vmem, ⟨31, _⟩ => ⟨S1x512, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S4x128x128, .f32⟩
  | .local _ .vmem, ⟨36, _⟩ => ⟨S128x256, .f32⟩
  | .local _ .vmem, ⟨37, _⟩ => ⟨S8x512, .f32⟩
  | .local _ .vmem, ⟨38, _⟩ => ⟨S16x512, .f32⟩
  | .local _ .vmem, ⟨39, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_2 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61_0 : Ref sig .tc := ⟨.hbm, 92, rfl⟩
abbrev main_v61_1 : Ref sig .tc := ⟨.hbm, 93, rfl⟩
abbrev main_v61_2 : Ref sig .tc := ⟨.hbm, 94, rfl⟩
abbrev main_v61_3 : Ref sig .tc := ⟨.hbm, 95, rfl⟩
abbrev main_v61_4 : Ref sig .tc := ⟨.hbm, 96, rfl⟩
abbrev main_v61_5 : Ref sig .tc := ⟨.hbm, 97, rfl⟩
abbrev main_v61_6 : Ref sig .tc := ⟨.hbm, 98, rfl⟩
abbrev main_v61_7 : Ref sig .tc := ⟨.hbm, 99, rfl⟩
abbrev main_v61_8 : Ref sig .tc := ⟨.hbm, 100, rfl⟩
abbrev main_v61_9 : Ref sig .tc := ⟨.hbm, 101, rfl⟩
abbrev main_v61_10 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg24_0 : Ref sig .tc := ⟨.vmem, 31, rfl⟩
abbrev cc0_stg25_0 : Ref sig .tc := ⟨.vmem, 32, rfl⟩
abbrev cc0_stg26_0 : Ref sig .tc := ⟨.vmem, 33, rfl⟩
abbrev cc0_stg27_0 : Ref sig .tc := ⟨.vmem, 34, rfl⟩
abbrev cc0_stg28_0 : Ref sig .tc := ⟨.vmem, 35, rfl⟩
abbrev cc0_stg29_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem24_0 : DmaSem sig := 31
abbrev cc0_sem25_0 : DmaSem sig := 32
abbrev cc0_sem26_0 : DmaSem sig := 33
abbrev cc0_sem27_0 : DmaSem sig := 34
abbrev cc0_sem28_0 : DmaSem sig := 35
abbrev cc0_sem29_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1792 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S4x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== ReferenceIdeal.lean ====
abbrev S8192x1024 : Shape := ⟨2, ![8192, 1024]⟩
abbrev S8192x1792 : Shape := ⟨2, ![8192, 1792]⟩
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x64 : Shape := ⟨3, ![128, 4, 64]⟩
abbrev S8192x256 : Shape := ⟨2, ![8192, 256]⟩
abbrev S8192x64 : Shape := ⟨2, ![8192, 64]⟩
abbrev S_ : Shape := ⟨0, ![]⟩
abbrev S2x64 : Shape := ⟨2, ![2, 64]⟩
abbrev S8190x64 : Shape := ⟨2, ![8190, 64]⟩
abbrev S8192 : Shape := ⟨1, ![8192]⟩
abbrev S8192x1 : Shape := ⟨2, ![8192, 1]⟩
abbrev S1x64x64 : Shape := ⟨3, ![1, 64, 64]⟩
abbrev S64x64 : Shape := ⟨2, ![64, 64]⟩
abbrev S4x64 : Shape := ⟨2, ![4, 64]⟩
abbrev S8188x64 : Shape := ⟨2, ![8188, 64]⟩
abbrev S8184x64 : Shape := ⟨2, ![8184, 64]⟩
abbrev S16x64 : Shape := ⟨2, ![16, 64]⟩
abbrev S8176x64 : Shape := ⟨2, ![8176, 64]⟩
abbrev S1x256 : Shape := ⟨2, ![1, 256]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S1x128x4x64 : Shape := ⟨4, ![1, 128, 4, 64]⟩
abbrev S128x256 : Shape := ⟨2, ![128, 256]⟩

abbrev nBuf : Space → Nat
  | .hbm => 413
  | .vmem => 0
  | .smem => 0
  | _ => 0

abbrev hbmTy0_0 (i : Nat) : BufTy := match i % 128 with
  | 0 => ⟨S8192x1024, .f32⟩
  | 1 => ⟨S8192x1792, .f32⟩
  | 2 => ⟨S8192x512, .f32⟩
  | 3 => ⟨S4x512, .f32⟩
  | 4 => ⟨S512, .f32⟩
  | 5 => ⟨S8x64x64, .f32⟩
  | 6 => ⟨S8x64, .f32⟩
  | 7 => ⟨S8x64x64, .f32⟩
  | 8 => ⟨S8x64, .f32⟩
  | 9 => ⟨S512, .f32⟩
  | 10 => ⟨S4x64x64, .f32⟩
  | 11 => ⟨S256, .f32⟩
  | 12 => ⟨S256, .f32⟩
  | 13 => ⟨S4x128x128, .f32⟩
  | 14 => ⟨S4x128, .f32⟩
  | 15 => ⟨S128x4, .f32⟩
  | 16 => ⟨S128x4x1, .f32⟩
  | 17 => ⟨S128x4x64, .f32⟩
  | 18 => ⟨S8192x256, .f32⟩
  | 19 => ⟨S8192x256, .f32⟩
  | 20 => ⟨S8192x256, .f32⟩
  | 21 => ⟨S8192x64, .f32⟩
  | 22 => ⟨S_, .f32⟩
  | 23 => ⟨S_, .f32⟩
  | 24 => ⟨S8192x64, .f32⟩
  | 25 => ⟨S_, .f32⟩
  | 26 => ⟨S2x64, .f32⟩
  | 27 => ⟨S8190x64, .f32⟩
  | 28 => ⟨S8192x64, .f32⟩
  | 29 => ⟨S_, .f32⟩
  | 30 => ⟨S2x64, .f32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192, .f32⟩
  | 39 => ⟨S8192x64, .f32⟩
  | 40 => ⟨S8192x1, .f32⟩
  | 41 => ⟨S8192x64, .f32⟩
  | 42 => ⟨S8192x64, .f32⟩
  | 43 => ⟨S8192x64, .f32⟩
  | 44 => ⟨S1x64x64, .f32⟩
  | 45 => ⟨S64x64, .f32⟩
  | 46 => ⟨S8192x64, .f32⟩
  | 47 => ⟨S8192x64, .f32⟩
  | 48 => ⟨S_, .f32⟩
  | 49 => ⟨S_, .f32⟩
  | 50 => ⟨S8192x64, .f32⟩
  | 51 => ⟨S_, .f32⟩
  | 52 => ⟨S4x64, .f32⟩
  | 53 => ⟨S8188x64, .f32⟩
  | 54 => ⟨S8192x64, .f32⟩
  | 55 => ⟨S_, .f32⟩
  | 56 => ⟨S4x64, .f32⟩
  | 57 => ⟨S8192, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S8192x64, .f32⟩
  | 66 => ⟨S8192x1, .f32⟩
  | 67 => ⟨S8192x64, .f32⟩
  | 68 => ⟨S8192x64, .f32⟩
  | 69 => ⟨S8192x64, .f32⟩
  | 70 => ⟨S1x64x64, .f32⟩
  | 71 => ⟨S64x64, .f32⟩
  | 72 => ⟨S8192x64, .f32⟩
  | 73 => ⟨S8192x64, .f32⟩
  | 74 => ⟨S_, .f32⟩
  | 75 => ⟨S_, .f32⟩
  | 76 => ⟨S8192x64, .f32⟩
  | 77 => ⟨S_, .f32⟩
  | 78 => ⟨S8x64, .f32⟩
  | 79 => ⟨S8184x64, .f32⟩
  | 80 => ⟨S8192x64, .f32⟩
  | 81 => ⟨S_, .f32⟩
  | 82 => ⟨S8x64, .f32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S8192x64, .f32⟩
  | 92 => ⟨S8192x1, .f32⟩
  | 93 => ⟨S8192x64, .f32⟩
  | 94 => ⟨S8192x64, .f32⟩
  | 95 => ⟨S8192x64, .f32⟩
  | 96 => ⟨S1x64x64, .f32⟩
  | 97 => ⟨S64x64, .f32⟩
  | 98 => ⟨S8192x64, .f32⟩
  | 99 => ⟨S8192x64, .f32⟩
  | 100 => ⟨S_, .f32⟩
  | 101 => ⟨S_, .f32⟩
  | 102 => ⟨S8192x64, .f32⟩
  | 103 => ⟨S_, .f32⟩
  | 104 => ⟨S16x64, .f32⟩
  | 105 => ⟨S8176x64, .f32⟩
  | 106 => ⟨S8192x64, .f32⟩
  | 107 => ⟨S_, .f32⟩
  | 108 => ⟨S16x64, .f32⟩
  | 109 => ⟨S8192, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .f32⟩
  | 117 => ⟨S8192x64, .f32⟩
  | 118 => ⟨S8192x1, .f32⟩
  | 119 => ⟨S8192x64, .f32⟩
  | 120 => ⟨S8192x64, .f32⟩
  | 121 => ⟨S8192x64, .f32⟩
  | 122 => ⟨S1x64x64, .f32⟩
  | 123 => ⟨S64x64, .f32⟩
  | 124 => ⟨S8192x64, .f32⟩
  | 125 => ⟨S8192x256, .f32⟩
  | 126 => ⟨S1x256, .f32⟩
  | 127 => ⟨S8192x256, .f32⟩
  | _ => ⟨S8192x1024, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x256, .f32⟩
  | 4 => ⟨S_, .f32⟩
  | 5 => ⟨S8192x256, .f32⟩
  | 6 => ⟨S8192x256, .f32⟩
  | 7 => ⟨S_, .f32⟩
  | 8 => ⟨S8192x256, .f32⟩
  | 9 => ⟨S8192x256, .f32⟩
  | 10 => ⟨S8192x256, .f32⟩
  | 11 => ⟨S_, .f32⟩
  | 12 => ⟨S8192x256, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S_, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S_, .f32⟩
  | 47 => ⟨S8192x256, .f32⟩
  | 48 => ⟨S8192x256, .f32⟩
  | 49 => ⟨S8192x256, .f32⟩
  | 50 => ⟨S_, .f32⟩
  | 51 => ⟨S8192x256, .f32⟩
  | 52 => ⟨S8192x256, .f32⟩
  | 53 => ⟨S_, .f32⟩
  | 54 => ⟨S8192x256, .f32⟩
  | 55 => ⟨S8192x256, .f32⟩
  | 56 => ⟨S8192x256, .f32⟩
  | 57 => ⟨S8192x256, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x256, .f32⟩
  | 73 => ⟨S8192x256, .f32⟩
  | 74 => ⟨S1x256, .f32⟩
  | 75 => ⟨S8192x256, .f32⟩
  | 76 => ⟨S8192x256, .f32⟩
  | 77 => ⟨S64x128x4x64, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S1x128x128, .i1⟩
  | 90 => ⟨S_, .f32⟩
  | 91 => ⟨S4x128x128, .f32⟩
  | 92 => ⟨S4x128x128, .i1⟩
  | 93 => ⟨S4x128x128, .f32⟩
  | 94 => ⟨S_, .f32⟩
  | 95 => ⟨S4x128x128, .f32⟩
  | 96 => ⟨S4x64x64x128, .f32⟩
  | 97 => ⟨S64x128x4x64, .f32⟩
  | 98 => ⟨S1x128x4x64, .f32⟩
  | 99 => ⟨S64x128x4x64, .f32⟩
  | 100 => ⟨S64x128x4x64, .f32⟩
  | 101 => ⟨S8192x256, .f32⟩
  | 102 => ⟨S8192x256, .f32⟩
  | 103 => ⟨S8192x256, .f32⟩
  | 104 => ⟨S8192x256, .f32⟩
  | 105 => ⟨S8192x256, .f32⟩
  | 106 => ⟨S8192x256, .f32⟩
  | 107 => ⟨S64x128x4x64, .f32⟩
  | 108 => ⟨S_, .f32⟩
  | 109 => ⟨S128x4x64, .f32⟩
  | 110 => ⟨S1x128x4x64, .f32⟩
  | 111 => ⟨S_, .f32⟩
  | 112 => ⟨S128x4x64, .f32⟩
  | 113 => ⟨S4x64x64x128, .f32⟩
  | 114 => ⟨S4x128x128, .f32⟩
  | 115 => ⟨S4x64x64x128, .f32⟩
  | 116 => ⟨S64x128x4x64, .f32⟩
  | 117 => ⟨S_, .f32⟩
  | 118 => ⟨S4x128x128, .f32⟩
  | 119 => ⟨S4x128x128, .f32⟩
  | 120 => ⟨S8192x256, .f32⟩
  | 121 => ⟨S8192x256, .f32⟩
  | 122 => ⟨S_, .f32⟩
  | 123 => ⟨S256, .f32⟩
  | 124 => ⟨S1x256, .f32⟩
  | 125 => ⟨S8192x256, .f32⟩
  | 126 => ⟨S8192x256, .f32⟩
  | 127 => ⟨S_, .f32⟩
  | _ => ⟨S8192x1024, .f32⟩

abbrev hbmTy0_2 (i : Nat) : BufTy := match i % 128 with
  | 0 => ⟨S256, .f32⟩
  | 1 => ⟨S8192x256, .f32⟩
  | 2 => ⟨S_, .f32⟩
  | 3 => ⟨S8192, .f32⟩
  | 4 => ⟨S8192x1, .f32⟩
  | 5 => ⟨S8192x256, .f32⟩
  | 6 => ⟨S8192x256, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S_, .f32⟩
  | 21 => ⟨S8192x256, .f32⟩
  | 22 => ⟨S8192x256, .f32⟩
  | 23 => ⟨S8192x256, .f32⟩
  | 24 => ⟨S_, .f32⟩
  | 25 => ⟨S8192x256, .f32⟩
  | 26 => ⟨S8192x256, .f32⟩
  | 27 => ⟨S8192x256, .f32⟩
  | 28 => ⟨S_, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S8192x256, .f32⟩
  | 47 => ⟨S8192x256, .f32⟩
  | 48 => ⟨S8192x256, .f32⟩
  | 49 => ⟨S_, .f32⟩
  | 50 => ⟨S256, .f32⟩
  | 51 => ⟨S1x256, .f32⟩
  | 52 => ⟨S8192x256, .f32⟩
  | 53 => ⟨S8192x256, .f32⟩
  | 54 => ⟨S_, .f32⟩
  | 55 => ⟨S256, .f32⟩
  | 56 => ⟨S8192x64, .f32⟩
  | 57 => ⟨S8192x64, .f32⟩
  | 58 => ⟨S8192x64, .f32⟩
  | 59 => ⟨S8192x64, .f32⟩
  | 60 => ⟨S64x64, .f32⟩
  | 61 => ⟨S64x64, .f32⟩
  | 62 => ⟨S8192x64, .f32⟩
  | 63 => ⟨S1x64x64, .f32⟩
  | 64 => ⟨S_, .f32⟩
  | 65 => ⟨S4x64x64, .f32⟩
  | 66 => ⟨S8192x64, .f32⟩
  | 67 => ⟨S8192x64, .f32⟩
  | 68 => ⟨S8192x64, .f32⟩
  | 69 => ⟨S8192x64, .f32⟩
  | 70 => ⟨S16x64, .f32⟩
  | 71 => ⟨S8176x64, .f32⟩
  | 72 => ⟨S_, .f32⟩
  | 73 => ⟨S8192x64, .f32⟩
  | 74 => ⟨S8192x64, .f32⟩
  | 75 => ⟨S_, .f32⟩
  | 76 => ⟨S_, .f32⟩
  | 77 => ⟨S8192x64, .f32⟩
  | 78 => ⟨S8192x64, .f32⟩
  | 79 => ⟨S_, .f32⟩
  | 80 => ⟨S8192x256, .f32⟩
  | 81 => ⟨S64x64, .f32⟩
  | 82 => ⟨S64x64, .f32⟩
  | 83 => ⟨S8192x64, .f32⟩
  | 84 => ⟨S1x64x64, .f32⟩
  | 85 => ⟨S_, .f32⟩
  | 86 => ⟨S4x64x64, .f32⟩
  | 87 => ⟨S4x64x64, .f32⟩
  | 88 => ⟨S8192x64, .f32⟩
  | 89 => ⟨S8192x64, .f32⟩
  | 90 => ⟨S8192x64, .f32⟩
  | 91 => ⟨S8192x64, .f32⟩
  | 92 => ⟨S8x64, .f32⟩
  | 93 => ⟨S8184x64, .f32⟩
  | 94 => ⟨S_, .f32⟩
  | 95 => ⟨S8192x64, .f32⟩
  | 96 => ⟨S8192x64, .f32⟩
  | 97 => ⟨S_, .f32⟩
  | 98 => ⟨S_, .f32⟩
  | 99 => ⟨S8192x64, .f32⟩
  | 100 => ⟨S8192x64, .f32⟩
  | 101 => ⟨S_, .f32⟩
  | 102 => ⟨S8192x256, .f32⟩
  | 103 => ⟨S8192x256, .f32⟩
  | 104 => ⟨S64x64, .f32⟩
  | 105 => ⟨S64x64, .f32⟩
  | 106 => ⟨S8192x64, .f32⟩
  | 107 => ⟨S1x64x64, .f32⟩
  | 108 => ⟨S_, .f32⟩
  | 109 => ⟨S4x64x64, .f32⟩
  | 110 => ⟨S4x64x64, .f32⟩
  | 111 => ⟨S8192x64, .f32⟩
  | 112 => ⟨S8192x64, .f32⟩
  | 113 => ⟨S8192x64, .f32⟩
  | 114 => ⟨S8192x64, .f32⟩
  | 115 => ⟨S4x64, .f32⟩
  | 116 => ⟨S8188x64, .f32⟩
  | 117 => ⟨S_, .f32⟩
  | 118 => ⟨S8192x64, .f32⟩
  | 119 => ⟨S8192x64, .f32⟩
  | 120 => ⟨S_, .f32⟩
  | 121 => ⟨S_, .f32⟩
  | 122 => ⟨S8192x64, .f32⟩
  | 123 => ⟨S8192x64, .f32⟩
  | 124 => ⟨S_, .f32⟩
  | 125 => ⟨S8192x256, .f32⟩
  | 126 => ⟨S8192x256, .f32⟩
  | 127 => ⟨S64x64, .f32⟩
  | _ => ⟨S8192x1024, .f32⟩

abbrev hbmTy0_3 (i : Nat) : BufTy := match i % 128 with
  | 0 => ⟨S64x64, .f32⟩
  | 1 => ⟨S8192x64, .f32⟩
  | 2 => ⟨S1x64x64, .f32⟩
  | 3 => ⟨S_, .f32⟩
  | 4 => ⟨S4x64x64, .f32⟩
  | 5 => ⟨S4x64x64, .f32⟩
  | 6 => ⟨S8192x64, .f32⟩
  | 7 => ⟨S8192x64, .f32⟩
  | 8 => ⟨S8192x64, .f32⟩
  | 9 => ⟨S8192x64, .f32⟩
  | 10 => ⟨S2x64, .f32⟩
  | 11 => ⟨S8190x64, .f32⟩
  | 12 => ⟨S_, .f32⟩
  | 13 => ⟨S8192x64, .f32⟩
  | 14 => ⟨S8192x64, .f32⟩
  | 15 => ⟨S_, .f32⟩
  | 16 => ⟨S_, .f32⟩
  | 17 => ⟨S8192x64, .f32⟩
  | 18 => ⟨S8192x64, .f32⟩
  | 19 => ⟨S_, .f32⟩
  | 20 => ⟨S8192x256, .f32⟩
  | 21 => ⟨S8192x256, .f32⟩
  | 22 => ⟨S_, .f32⟩
  | 23 => ⟨S8192x1024, .f32⟩
  | 24 => ⟨S8192x1792, .f32⟩
  | 25 => ⟨S8192x1792, .bf16⟩
  | 26 => ⟨S1x256, .f32⟩
  | 27 => ⟨S1x256, .f32⟩
  | 28 => ⟨S128x256, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_call0_cst : Ref sig .tc := ⟨.hbm, 22, rfl⟩
abbrev main_call0_call0_v0 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_call0_cst : Ref sig .tc := ⟨.hbm, 48, rfl⟩
abbrev main_call1_call0_v0 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_call0_cst : Ref sig .tc := ⟨.hbm, 74, rfl⟩
abbrev main_call2_call0_v0 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_call0_cst : Ref sig .tc := ⟨.hbm, 100, rfl⟩
abbrev main_call3_call0_v0 : Ref sig .tc := ⟨.hbm, 101, rfl⟩
abbrev main_v67 : Ref sig .tc := ⟨.hbm, 102, rfl⟩
abbrev main_cst_10 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_11 : Ref sig .tc := ⟨.hbm, 107, rfl⟩
abbrev main_v71 : Ref sig .tc := ⟨.hbm, 108, rfl⟩
abbrev main_v72 : Ref sig .tc := ⟨.hbm, 109, rfl⟩
abbrev main_c_12 : Ref sig .tc := ⟨.hbm, 110, rfl⟩
abbrev main_v73 : Ref sig .tc := ⟨.hbm, 111, rfl⟩
abbrev main_v74 : Ref sig .tc := ⟨.hbm, 112, rfl⟩
abbrev main_c_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_cst_15 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_16 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_17 : Ref sig .tc := ⟨.hbm, 143, rfl⟩
abbrev main_v101 : Ref sig .tc := ⟨.hbm, 144, rfl⟩
abbrev main_v102 : Ref sig .tc := ⟨.hbm, 145, rfl⟩
abbrev main_cst_18 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_19 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_21 : Ref sig .tc := ⟨.hbm, 160, rfl⟩
abbrev main_v114 : Ref sig .tc := ⟨.hbm, 161, rfl⟩
abbrev main_v115 : Ref sig .tc := ⟨.hbm, 162, rfl⟩
abbrev main_cst_22 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_23 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_24 : Ref sig .tc := ⟨.hbm, 171, rfl⟩
abbrev main_v122 : Ref sig .tc := ⟨.hbm, 172, rfl⟩
abbrev main_v123 : Ref sig .tc := ⟨.hbm, 173, rfl⟩
abbrev main_cst_25 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_26 : Ref sig .tc := ⟨.hbm, 178, rfl⟩
abbrev main_v127 : Ref sig .tc := ⟨.hbm, 179, rfl⟩
abbrev main_v128 : Ref sig .tc := ⟨.hbm, 180, rfl⟩
abbrev main_cst_27 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_cst_28 : Ref sig .tc := ⟨.hbm, 186, rfl⟩
abbrev main_v133 : Ref sig .tc := ⟨.hbm, 187, rfl⟩
abbrev main_v134 : Ref sig .tc := ⟨.hbm, 188, rfl⟩
abbrev main_cst_29 : Ref sig .tc := ⟨.hbm, 189, rfl⟩
abbrev main_v135 : Ref sig .tc := ⟨.hbm, 190, rfl⟩
abbrev main_v136 : Ref sig .tc := ⟨.hbm, 191, rfl⟩
abbrev main_cst_30 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_31 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_c_32 : Ref sig .tc := ⟨.hbm, 206, rfl⟩
abbrev main_v149 : Ref sig .tc := ⟨.hbm, 207, rfl⟩
abbrev main_call4_v0 : Ref sig .tc := ⟨.hbm, 208, rfl⟩
abbrev main_call4_c : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_c_0 : Ref sig .tc := ⟨.hbm, 214, rfl⟩
abbrev main_call4_v5 : Ref sig .tc := ⟨.hbm, 215, rfl⟩
abbrev main_v150 : Ref sig .tc := ⟨.hbm, 216, rfl⟩
abbrev main_v151 : Ref sig .tc := ⟨.hbm, 217, rfl⟩
abbrev main_cst_33 : Ref sig .tc := ⟨.hbm, 218, rfl⟩
abbrev main_v152 : Ref sig .tc := ⟨.hbm, 219, rfl⟩
abbrev main_v153_1 : Ref sig .tc := ⟨.hbm, 220, rfl⟩
abbrev main_v153_0 : Ref sig .tc := ⟨.hbm, 221, rfl⟩
abbrev main_call5_cst : Ref sig .tc := ⟨.hbm, 222, rfl⟩
abbrev main_v153_2 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_cst_34 : Ref sig .tc := ⟨.hbm, 236, rfl⟩
abbrev main_v166 : Ref sig .tc := ⟨.hbm, 237, rfl⟩
abbrev main_v167 : Ref sig .tc := ⟨.hbm, 238, rfl⟩
abbrev main_cst_35 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_call6_cst : Ref sig .tc := ⟨.hbm, 245, rfl⟩
abbrev main_call6_v0 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_36 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_cst_37 : Ref sig .tc := ⟨.hbm, 255, rfl⟩
abbrev main_v180 : Ref sig .tc := ⟨.hbm, 256, rfl⟩
abbrev main_v181 : Ref sig .tc := ⟨.hbm, 257, rfl⟩
abbrev main_cst_38 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_cst_39 : Ref sig .tc := ⟨.hbm, 264, rfl⟩
abbrev main_v187 : Ref sig .tc := ⟨.hbm, 265, rfl⟩
abbrev main_v188 : Ref sig .tc := ⟨.hbm, 266, rfl⟩
abbrev main_cst_40 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_cst_41 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_cst_42 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_cst_43 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_cst_44 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_cst_45 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_cst_46 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_cst_47 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_48 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_cst_49 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_v239 : Ref sig .tc := ⟨.hbm, 327, rfl⟩
abbrev main_cst_50 : Ref sig .tc := ⟨.hbm, 328, rfl⟩
abbrev main_v240 : Ref sig .tc := ⟨.hbm, 329, rfl⟩
abbrev main_v241 : Ref sig .tc := ⟨.hbm, 330, rfl⟩
abbrev main_call7_call0_cst : Ref sig .tc := ⟨.hbm, 331, rfl⟩
abbrev main_call7_call0_v0 : Ref sig .tc := ⟨.hbm, 332, rfl⟩
abbrev main_v242 : Ref sig .tc := ⟨.hbm, 333, rfl⟩
abbrev main_v243 : Ref sig .tc := ⟨.hbm, 334, rfl⟩
abbrev main_cst_51 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_cst_52 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_cst_53 : Ref sig .tc := ⟨.hbm, 350, rfl⟩
abbrev main_v257 : Ref sig .tc := ⟨.hbm, 351, rfl⟩
abbrev main_v258 : Ref sig .tc := ⟨.hbm, 352, rfl⟩
abbrev main_call8_call0_cst : Ref sig .tc := ⟨.hbm, 353, rfl⟩
abbrev main_call8_call0_v0 : Ref sig .tc := ⟨.hbm, 354, rfl⟩
abbrev main_v259 : Ref sig .tc := ⟨.hbm, 355, rfl⟩
abbrev main_v260 : Ref sig .tc := ⟨.hbm, 356, rfl⟩
abbrev main_cst_54 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_cst_55 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_v270 : Ref sig .tc := ⟨.hbm, 368, rfl⟩
abbrev main_v271 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_cst_56 : Ref sig .tc := ⟨.hbm, 373, rfl⟩
abbrev main_v275 : Ref sig .tc := ⟨.hbm, 374, rfl⟩
abbrev main_v276 : Ref sig .tc := ⟨.hbm, 375, rfl⟩
abbrev main_call9_call0_cst : Ref sig .tc := ⟨.hbm, 376, rfl⟩
abbrev main_call9_call0_v0 : Ref sig .tc := ⟨.hbm, 377, rfl⟩
abbrev main_v277 : Ref sig .tc := ⟨.hbm, 378, rfl⟩
abbrev main_v278 : Ref sig .tc := ⟨.hbm, 379, rfl⟩
abbrev main_cst_57 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_cst_58 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_v289 : Ref sig .tc := ⟨.hbm, 392, rfl⟩
abbrev main_v290 : Ref sig .tc := ⟨.hbm, 393, rfl⟩
abbrev main_v291 : Ref sig .tc := ⟨.hbm, 394, rfl⟩
abbrev main_v292 : Ref sig .tc := ⟨.hbm, 395, rfl⟩
abbrev main_cst_59 : Ref sig .tc := ⟨.hbm, 396, rfl⟩
abbrev main_v293 : Ref sig .tc := ⟨.hbm, 397, rfl⟩
abbrev main_v294 : Ref sig .tc := ⟨.hbm, 398, rfl⟩
abbrev main_call10_call0_cst : Ref sig .tc := ⟨.hbm, 399, rfl⟩
abbrev main_call10_call0_v0 : Ref sig .tc := ⟨.hbm, 400, rfl⟩
abbrev main_v295 : Ref sig .tc := ⟨.hbm, 401, rfl⟩
abbrev main_v296 : Ref sig .tc := ⟨.hbm, 402, rfl⟩
abbrev main_cst_60 : Ref sig .tc := ⟨.hbm, 403, rfl⟩
abbrev main_v297 : Ref sig .tc := ⟨.hbm, 404, rfl⟩
abbrev main_v298 : Ref sig .tc := ⟨.hbm, 405, rfl⟩
abbrev main_cst_61 : Ref sig .tc := ⟨.hbm, 406, rfl⟩
abbrev main_v299 : Ref sig .tc := ⟨.hbm, 407, rfl⟩
abbrev main_v300 : Ref sig .tc := ⟨.hbm, 408, rfl⟩
abbrev main_v301 : Ref sig .tc := ⟨.hbm, 409, rfl⟩
abbrev main_v302 : Ref sig .tc := ⟨.hbm, 410, rfl⟩
abbrev main_v303 : Ref sig .tc := ⟨.hbm, 411, rfl⟩
abbrev main_v304 : Ref sig .tc := ⟨.hbm, 412, rfl⟩

abbrev nD : Nat := 1
abbrev τ : Topo := Topo.v7x

variable {F : FTy → Type} [FloatOps F]
-- ==== Kernel2.lean ====
abbrev S8192x2752 : Shape := ⟨2, ![8192, 2752]⟩
abbrev S1024x5504 : Shape := ⟨2, ![1024, 5504]⟩
abbrev S8192x1024 : Shape := ⟨2, ![8192, 1024]⟩
abbrev S1024 : Shape := ⟨1, ![1024]⟩
abbrev S_ : Shape := ⟨0, ![]⟩
abbrev S8192x32 : Shape := ⟨2, ![8192, 32]⟩
abbrev S5504x1024 : Shape := ⟨2, ![5504, 1024]⟩
abbrev S4x1376x1024 : Shape := ⟨3, ![4, 1376, 1024]⟩
abbrev S32x1024 : Shape := ⟨2, ![32, 1024]⟩
abbrev S1x1376x1024 : Shape := ⟨3, ![1, 1376, 1024]⟩
abbrev S1376x1024 : Shape := ⟨2, ![1376, 1024]⟩
abbrev S2816x1024 : Shape := ⟨2, ![2816, 1024]⟩
abbrev S8192x1376 : Shape := ⟨2, ![8192, 1376]⟩
abbrev S8192x2816 : Shape := ⟨2, ![8192, 2816]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 35
  | .vmem => 16
  | .smem => 0
  | _ => 0

abbrev bufTy : (tb : Table) → Fin (tcTables nBuf tb) → BufTy
  | .hbm, ⟨0, _⟩ => ⟨S8192x2752, .f32⟩
  | .hbm, ⟨1, _⟩ => ⟨S8192x2752, .f32⟩
  | .hbm, ⟨2, _⟩ => ⟨S1024x5504, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x32, .f32⟩
  | .hbm, ⟨8, _⟩ => ⟨S5504x1024, .f32⟩
  | .hbm, ⟨9, _⟩ => ⟨S5504x1024, .bf16⟩
  | .hbm, ⟨10, _⟩ => ⟨S4x1376x1024, .bf16⟩
  | .hbm, ⟨11, _⟩ => ⟨S_, .bf16⟩
  | .hbm, ⟨12, _⟩ => ⟨S32x1024, .bf16⟩
  | .hbm, ⟨13, _⟩ => ⟨S1x1376x1024, .bf16⟩
  | .hbm, ⟨14, _⟩ => ⟨S1376x1024, .bf16⟩
  | .hbm, ⟨15, _⟩ => ⟨S1x1376x1024, .bf16⟩
  | .hbm, ⟨16, _⟩ => ⟨S1376x1024, .bf16⟩
  | .hbm, ⟨17, _⟩ => ⟨S2816x1024, .bf16⟩
  | .hbm, ⟨18, _⟩ => ⟨S1x1376x1024, .bf16⟩
  | .hbm, ⟨19, _⟩ => ⟨S1376x1024, .bf16⟩
  | .hbm, ⟨20, _⟩ => ⟨S1x1376x1024, .bf16⟩
  | .hbm, ⟨21, _⟩ => ⟨S1376x1024, .bf16⟩
  | .hbm, ⟨22, _⟩ => ⟨S2816x1024, .bf16⟩
  | .hbm, ⟨23, _⟩ => ⟨S8192x1376, .f32⟩
  | .hbm, ⟨24, _⟩ => ⟨S8192x1376, .f32⟩
  | .hbm, ⟨25, _⟩ => ⟨S8192x2816, .f32⟩
  | .hbm, ⟨26, _⟩ => ⟨S8192x2816, .bf16⟩
  | .hbm, ⟨27, _⟩ => ⟨S8192x1376, .f32⟩
  | .hbm, ⟨28, _⟩ => ⟨S8192x1376, .f32⟩
  | .hbm, ⟨29, _⟩ => ⟨S8192x2816, .f32⟩
  | .hbm, ⟨30, _⟩ => ⟨S8192x2816, .bf16⟩
  | .hbm, ⟨31, _⟩ => ⟨S1x1024, .f32⟩
  | .hbm, ⟨32, _⟩ => ⟨S8192x1024, .f32⟩
  | .hbm, ⟨33, _⟩ => ⟨S8192x1024, .bf16⟩
  | .hbm, ⟨34, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x2752 : Shape := ⟨2, ![8192, 2752]⟩
abbrev S1024x5504 : Shape := ⟨2, ![1024, 5504]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5504 : Shape := ⟨2, ![8192, 5504]⟩

abbrev nBuf : Space → Nat
  | .hbm => 62
  | .vmem => 0
  | .smem => 0
  | _ => 0

abbrev bufTy : (tb : Table) → Fin (tcTables nBuf tb) → BufTy
  | .hbm, ⟨0, _⟩ => ⟨S8192x2752, .f32⟩
  | .hbm, ⟨1, _⟩ => ⟨S8192x2752, .f32⟩
  | .hbm, ⟨2, _⟩ => ⟨S1024x5504, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5504, .f32⟩
  | .hbm, ⟨27, _⟩ => ⟨S8192x2752, .f32⟩
  | .hbm, ⟨28, _⟩ => ⟨S8192x2752, .f32⟩
  | .hbm, ⟨29, _⟩ => ⟨S8192x5504, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S1x1024, .f32⟩
  | _, _ => ⟨S8192x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x5504 : Shape := ⟨2, ![1024, 5504]⟩
abbrev S2752x1024 : Shape := ⟨2, ![2752, 1024]⟩
abbrev S5504x1024 : Shape := ⟨2, ![5504, 1024]⟩
abbrev S4x1376x1024 : Shape := ⟨3, ![4, 1376, 1024]⟩
abbrev S_ : Shape := ⟨0, ![]⟩
abbrev S32x1024 : Shape := ⟨2, ![32, 1024]⟩
abbrev S1x1376x1024 : Shape := ⟨3, ![1, 1376, 1024]⟩
abbrev S1376x1024 : Shape := ⟨2, ![1376, 1024]⟩
abbrev S2816x1024 : Shape := ⟨2, ![2816, 1024]⟩
abbrev S4x688x1024 : Shape := ⟨3, ![4, 688, 1024]⟩
abbrev S1x688x1024 : Shape := ⟨3, ![1, 688, 1024]⟩
abbrev S688x1024 : Shape := ⟨2, ![688, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 41
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5504, .f32⟩
  | .hbm, ⟨3, _⟩ => ⟨S2752x1024, .f32⟩
  | .hbm, ⟨4, _⟩ => ⟨S8192x1024, .f32⟩
  | .hbm, ⟨5, _⟩ => ⟨S5504x1024, .f32⟩
  | .hbm, ⟨6, _⟩ => ⟨S5504x1024, .bf16⟩
  | .hbm, ⟨7, _⟩ => ⟨S4x1376x1024, .bf16⟩
  | .hbm, ⟨8, _⟩ => ⟨S_, .bf16⟩
  | .hbm, ⟨9, _⟩ => ⟨S32x1024, .bf16⟩
  | .hbm, ⟨10, _⟩ => ⟨S1x1376x1024, .bf16⟩
  | .hbm, ⟨11, _⟩ => ⟨S1376x1024, .bf16⟩
  | .hbm, ⟨12, _⟩ => ⟨S1x1376x1024, .bf16⟩
  | .hbm, ⟨13, _⟩ => ⟨S1376x1024, .bf16⟩
  | .hbm, ⟨14, _⟩ => ⟨S2816x1024, .bf16⟩
  | .hbm, ⟨15, _⟩ => ⟨S1x1376x1024, .bf16⟩
  | .hbm, ⟨16, _⟩ => ⟨S1376x1024, .bf16⟩
  | .hbm, ⟨17, _⟩ => ⟨S1x1376x1024, .bf16⟩
  | .hbm, ⟨18, _⟩ => ⟨S1376x1024, .bf16⟩
  | .hbm, ⟨19, _⟩ => ⟨S2816x1024, .bf16⟩
  | .hbm, ⟨20, _⟩ => ⟨S2752x1024, .bf16⟩
  | .hbm, ⟨21, _⟩ => ⟨S4x688x1024, .bf16⟩
  | .hbm, ⟨22, _⟩ => ⟨S_, .bf16⟩
  | .hbm, ⟨23, _⟩ => ⟨S32x1024, .bf16⟩
  | .hbm, ⟨24, _⟩ => ⟨S1x688x1024, .bf16⟩
  | .hbm, ⟨25, _⟩ => ⟨S688x1024, .bf16⟩
  | .hbm, ⟨26, _⟩ => ⟨S1x688x1024, .bf16⟩
  | .hbm, ⟨27, _⟩ => ⟨S688x1024, .bf16⟩
  | .hbm, ⟨28, _⟩ => ⟨S1x688x1024, .bf16⟩
  | .hbm, ⟨29, _⟩ => ⟨S688x1024, .bf16⟩
  | .hbm, ⟨30, _⟩ => ⟨S1x688x1024, .bf16⟩
  | .hbm, ⟨31, _⟩ => ⟨S688x1024, .bf16⟩
  | .hbm, ⟨32, _⟩ => ⟨S2816x1024, .bf16⟩
  | .hbm, ⟨33, _⟩ => ⟨S1x1024, .f32⟩
  | .hbm, ⟨34, _⟩ => ⟨S8192x1024, .bf16⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .bf16⟩
  | .hbm, ⟨39, _⟩ => ⟨S8192x2816, .bf16⟩
  | .hbm, ⟨40, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S2816x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c31_i32 : BitVec 32 := 31#32
  let v1 : BitVec 32 := Scalar.select v0 arg1 c31_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference4Ideal.lean ====
abbrev S8192x1024 : Shape := ⟨2, ![8192, 1024]⟩
abbrev S1024 : Shape := ⟨1, ![1024]⟩
abbrev S1024x5504 : Shape := ⟨2, ![1024, 5504]⟩
abbrev S2752x1024 : Shape := ⟨2, ![2752, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5504 : Shape := ⟨2, ![8192, 5504]⟩
abbrev S8192x2752 : Shape := ⟨2, ![8192, 2752]⟩
abbrev S8192x32 : Shape := ⟨2, ![8192, 32]⟩
abbrev S8192x1376 : Shape := ⟨2, ![8192, 1376]⟩
abbrev S8192x2816 : Shape := ⟨2, ![8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5504, .f32⟩
  | .hbm, ⟨3, _⟩ => ⟨S2752x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5504, .f32⟩
  | .hbm, ⟨22, _⟩ => ⟨S8192x2752, .f32⟩
  | .hbm, ⟨23, _⟩ => ⟨S8192x2752, .f32⟩
  | .hbm, ⟨24, _⟩ => ⟨S8192x2752, .f32⟩
  | .hbm, ⟨25, _⟩ => ⟨S8192x2752, .f32⟩
  | .hbm, ⟨26, _⟩ => ⟨S_, .f32⟩
  | .hbm, ⟨27, _⟩ => ⟨S8192x2752, .f32⟩
  | .hbm, ⟨28, _⟩ => ⟨S8192x2752, .f32⟩
  | .hbm, ⟨29, _⟩ => ⟨S_, .f32⟩
  | .hbm, ⟨30, _⟩ => ⟨S8192x2752, .f32⟩
  | .hbm, ⟨31, _⟩ => ⟨S8192x2752, .f32⟩
  | .hbm, ⟨32, _⟩ => ⟨S_, .f32⟩
  | .hbm, ⟨33, _⟩ => ⟨S8192x2752, .f32⟩
  | .hbm, ⟨34, _⟩ => ⟨S8192x2752, .f32⟩
  | .hbm, ⟨35, _⟩ => ⟨S8192x2752, .f32⟩
  | .hbm, ⟨36, _⟩ => ⟨S8192x2752, .f32⟩
  | .hbm, ⟨37, _⟩ => ⟨S8192x2752, .f32⟩
  | .hbm, ⟨38, _⟩ => ⟨S8192x1024, .f32⟩
  | .hbm, ⟨39, _⟩ => ⟨S8192x2752, .f32⟩
  | .hbm, ⟨40, _⟩ => ⟨S8192x2752, .f32⟩
  | .hbm, ⟨41, _⟩ => ⟨S8192x2752, .f32⟩
  | .hbm, ⟨42, _⟩ => ⟨S8192x2752, .f32⟩
  | .hbm, ⟨43, _⟩ => ⟨S8192x2752, .f32⟩
  | .hbm, ⟨44, _⟩ => ⟨S8192x2752, .f32⟩
  | .hbm, ⟨45, _⟩ => ⟨S8192x2752, .f32⟩
  | .hbm, ⟨46, _⟩ => ⟨S8192x1024, .bf16⟩
  | .hbm, ⟨47, _⟩ => ⟨S8192x2752, .f32⟩
  | .hbm, ⟨48, _⟩ => ⟨S8192x2752, .f32⟩
  | .hbm, ⟨49, _⟩ => ⟨S_, .f32⟩
  | .hbm, ⟨50, _⟩ => ⟨S8192x2752, .f32⟩
  | .hbm, ⟨51, _⟩ => ⟨S8192x2752, .f32⟩
  | .hbm, ⟨52, _⟩ => ⟨S_, .f32⟩
  | .hbm, ⟨53, _⟩ => ⟨S8192x2752, .f32⟩
  | .hbm, ⟨54, _⟩ => ⟨S8192x2752, .f32⟩
  | .hbm, ⟨55, _⟩ => ⟨S8192x2752, .f32⟩
  | .hbm, ⟨56, _⟩ => ⟨S8192x2752, .f32⟩
  | .hbm, ⟨57, _⟩ => ⟨S_, .f32⟩
  | .hbm, ⟨58, _⟩ => ⟨S8192x32, .f32⟩
  | .hbm, ⟨59, _⟩ => ⟨S8192x1376, .f32⟩
  | .hbm, ⟨60, _⟩ => ⟨S8192x1376, .f32⟩
  | .hbm, ⟨61, _⟩ => ⟨S8192x2816, .f32⟩
  | .hbm, ⟨62, _⟩ => ⟨S8192x2816, .bf16⟩
  | .hbm, ⟨63, _⟩ => ⟨S_, .f32⟩
  | .hbm, ⟨64, _⟩ => ⟨S8192x32, .f32⟩
  | .hbm, ⟨65, _⟩ => ⟨S8192x1376, .f32⟩
  | .hbm, ⟨66, _⟩ => ⟨S8192x1376, .f32⟩
  | .hbm, ⟨67, _⟩ => ⟨S8192x2816, .f32⟩
  | .hbm, ⟨68, _⟩ => ⟨S8192x2816, .bf16⟩
  | .hbm, ⟨69, _⟩ => ⟨S_, .f32⟩
  | .hbm, ⟨70, _⟩ => ⟨S8192x32, .f32⟩
  | .hbm, ⟨71, _⟩ => ⟨S8192x1376, .f32⟩
  | .hbm, ⟨72, _⟩ => ⟨S8192x1376, .f32⟩
  | .hbm, ⟨73, _⟩ => ⟨S8192x2816, .f32⟩
  | .hbm, ⟨74, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v24 : Ref sig .tc := ⟨.hbm, 55, rfl⟩
abbrev main_v25 : Ref sig .tc := ⟨.hbm, 56, rfl⟩
abbrev main_cst_2 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩

abbrev nD : Nat := 1
abbrev τ : Topo := Topo.v7x

variable {F : FTy → Type} [FloatOps F]
-- ==== Kernel5.lean ====
abbrev S8192x2752 : Shape := ⟨2, ![8192, 2752]⟩
abbrev S2752x1024 : Shape := ⟨2, ![2752, 1024]⟩
abbrev S8192x1024 : Shape := ⟨2, ![8192, 1024]⟩
abbrev S_ : Shape := ⟨0, ![]⟩
abbrev S8192x32 : Shape := ⟨2, ![8192, 32]⟩
abbrev S8192x1376 : Shape := ⟨2, ![8192, 1376]⟩
abbrev S8192x2816 : Shape := ⟨2, ![8192, 2816]⟩
abbrev S4x688x1024 : Shape := ⟨3, ![4, 688, 1024]⟩
abbrev S32x1024 : Shape := ⟨2, ![32, 1024]⟩
abbrev S1x688x1024 : Shape := ⟨3, ![1, 688, 1024]⟩
abbrev S688x1024 : Shape := ⟨2, ![688, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 23
  | .vmem => 7
  | .smem => 0
  | _ => 0

abbrev bufTy : (tb : Table) → Fin (tcTables nBuf tb) → BufTy
  | .hbm, ⟨0, _⟩ => ⟨S8192x2752, .f32⟩
  | .hbm, ⟨1, _⟩ => ⟨S2752x1024, .f32⟩
  | .hbm, ⟨2, _⟩ => ⟨S8192x1024, .f32⟩
  | .hbm, ⟨3, _⟩ => ⟨S_, .f32⟩
  | .hbm, ⟨4, _⟩ => ⟨S8192x32, .f32⟩
  | .hbm, ⟨5, _⟩ => ⟨S8192x1376, .f32⟩
  | .hbm, ⟨6, _⟩ => ⟨S8192x1376, .f32⟩
  | .hbm, ⟨7, _⟩ => ⟨S8192x2816, .f32⟩
  | .hbm, ⟨8, _⟩ => ⟨S8192x2816, .bf16⟩
  | .hbm, ⟨9, _⟩ => ⟨S2752x1024, .bf16⟩
  | .hbm, ⟨10, _⟩ => ⟨S4x688x1024, .bf16⟩
  | .hbm, ⟨11, _⟩ => ⟨S_, .bf16⟩
  | .hbm, ⟨12, _⟩ => ⟨S32x1024, .bf16⟩
  | .hbm, ⟨13, _⟩ => ⟨S1x688x1024, .bf16⟩
  | .hbm, ⟨14, _⟩ => ⟨S688x1024, .bf16⟩
  | .hbm, ⟨15, _⟩ => ⟨S1x688x1024, .bf16⟩
  | .hbm, ⟨16, _⟩ => ⟨S688x1024, .bf16⟩
  | .hbm, ⟨17, _⟩ => ⟨S1x688x1024, .bf16⟩
  | .hbm, ⟨18, _⟩ => ⟨S688x1024, .bf16⟩
  | .hbm, ⟨19, _⟩ => ⟨S1x688x1024, .bf16⟩
  | .hbm, ⟨20, _⟩ => ⟨S688x1024, .bf16⟩
  | .hbm, ⟨21, _⟩ => ⟨S2816x1024, .bf16⟩
  | .hbm, ⟨22, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2752 : Shape := ⟨2, ![8192, 2752]⟩
abbrev S2752x1024 : Shape := ⟨2, ![2752, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2752, .f32⟩
  | .hbm, ⟨1, _⟩ => ⟨S2752x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1792 : Shape := ⟨2, ![8192, 1792]⟩
abbrev S8192x1024 : Shape := ⟨2, ![8192, 1024]⟩
abbrev S1792x1024 : Shape := ⟨2, ![1792, 1024]⟩
abbrev S2048x1792 : Shape := ⟨2, ![2048, 1792]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S8192x1792, .bf16⟩
  | .hbm, ⟨3, _⟩ => ⟨S8192x1024, .bf16⟩
  | .hbm, ⟨4, _⟩ => ⟨S1792x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1792x1024, .bf16⟩
  | .local _ .vmem, ⟨5, _⟩ => ⟨S1792x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1792 : Shape := ⟨2, ![8192, 1792]⟩
abbrev S8192x1024 : Shape := ⟨2, ![8192, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x1024, .f32⟩
  | .hbm, ⟨2, _⟩ => ⟨S_, .f32⟩
  | .hbm, ⟨3, _⟩ => ⟨S1024x1792, .f32⟩
  | .hbm, ⟨4, _⟩ => ⟨S8192x1792, .f32⟩
  | .hbm, ⟨5, _⟩ => ⟨S1792x1024, .f32⟩
  | .hbm, ⟨6, _⟩ => ⟨S1024x1792, .f32⟩
  | .hbm, ⟨7, _⟩ => ⟨S1792x1024, .f32⟩
  | .hbm, ⟨8, _⟩ => ⟨S1792x1024, .bf16⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S1792x1024 : Shape := ⟨2, ![1792, 1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1792, .f32⟩
  | .hbm, ⟨1, _⟩ => ⟨S1024x1792, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1792x1024, .f32⟩
  | .hbm, ⟨6, _⟩ => ⟨S1792x1024, .bf16⟩
  | .hbm, ⟨7, _⟩ => ⟨S8192x1792, .bf16⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S8192x1792 : Shape := ⟨2, ![8192, 1792]⟩
abbrev S1024x1792 : Shape := ⟨2, ![1024, 1792]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S1024x1792, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1792, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x1792 : Shape := ⟨2, ![512, 1792]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x1024, .bf16⟩
  | .hbm, ⟨7, _⟩ => ⟨S8192x1792, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .f32⟩
  | .local _ .vmem, ⟨7, _⟩ => ⟨S512x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1792, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S8192x2752 : Shape := ⟨2, ![8192, 2752]⟩
abbrev S1024x5504 : Shape := ⟨2, ![1024, 5504]⟩
abbrev S8192x1024 : Shape := ⟨2, ![8192, 1024]⟩
abbrev S1024 : Shape := ⟨1, ![1024]⟩
abbrev S_ : Shape := ⟨0, ![]⟩
abbrev S8192x32 : Shape := ⟨2, ![8192, 32]⟩
abbrev S5504x1024 : Shape := ⟨2, ![5504, 1024]⟩
abbrev S4x1376x1024 : Shape := ⟨3, ![4, 1376, 1024]⟩
abbrev S32x1024 : Shape := ⟨2, ![32, 1024]⟩
abbrev S1x1376x1024 : Shape := ⟨3, ![1, 1376, 1024]⟩
abbrev S1376x1024 : Shape := ⟨2, ![1376, 1024]⟩
abbrev S2816x1024 : Shape := ⟨2, ![2816, 1024]⟩
abbrev S8192x1376 : Shape := ⟨2, ![8192, 1376]⟩
abbrev S8192x2816 : Shape := ⟨2, ![8192, 2816]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 35
  | .vmem => 16
  | .smem => 0
  | _ => 0

abbrev bufTy : (tb : Table) → Fin (tcTables nBuf tb) → BufTy
  | .hbm, ⟨0, _⟩ => ⟨S8192x2752, .f32⟩
  | .hbm, ⟨1, _⟩ => ⟨S8192x2752, .f32⟩
  | .hbm, ⟨2, _⟩ => ⟨S1024x5504, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x32, .f32⟩
  | .hbm, ⟨8, _⟩ => ⟨S5504x1024, .f32⟩
  | .hbm, ⟨9, _⟩ => ⟨S5504x1024, .bf16⟩
  | .hbm, ⟨10, _⟩ => ⟨S4x1376x1024, .bf16⟩
  | .hbm, ⟨11, _⟩ => ⟨S_, .bf16⟩
  | .hbm, ⟨12, _⟩ => ⟨S32x1024, .bf16⟩
  | .hbm, ⟨13, _⟩ => ⟨S1x1376x1024, .bf16⟩
  | .hbm, ⟨14, _⟩ => ⟨S1376x1024, .bf16⟩
  | .hbm, ⟨15, _⟩ => ⟨S1x1376x1024, .bf16⟩
  | .hbm, ⟨16, _⟩ => ⟨S1376x1024, .bf16⟩
  | .hbm, ⟨17, _⟩ => ⟨S2816x1024, .bf16⟩
  | .hbm, ⟨18, _⟩ => ⟨S1x1376x1024, .bf16⟩
  | .hbm, ⟨19, _⟩ => ⟨S1376x1024, .bf16⟩
  | .hbm, ⟨20, _⟩ => ⟨S1x1376x1024, .bf16⟩
  | .hbm, ⟨21, _⟩ => ⟨S1376x1024, .bf16⟩
  | .hbm, ⟨22, _⟩ => ⟨S2816x1024, .bf16⟩
  | .hbm, ⟨23, _⟩ => ⟨S8192x1376, .f32⟩
  | .hbm, ⟨24, _⟩ => ⟨S8192x1376, .f32⟩
  | .hbm, ⟨25, _⟩ => ⟨S8192x2816, .f32⟩
  | .hbm, ⟨26, _⟩ => ⟨S8192x2816, .bf16⟩
  | .hbm, ⟨27, _⟩ => ⟨S8192x1376, .f32⟩
  | .hbm, ⟨28, _⟩ => ⟨S8192x1376, .f32⟩
  | .hbm, ⟨29, _⟩ => ⟨S8192x2816, .f32⟩
  | .hbm, ⟨30, _⟩ => ⟨S8192x2816, .bf16⟩
  | .hbm, ⟨31, _⟩ => ⟨S1x1024, .f32⟩
  | .hbm, ⟨32, _⟩ => ⟨S8192x1024, .f32⟩
  | .hbm, ⟨33, _⟩ => ⟨S8192x1024, .bf16⟩
  | .hbm, ⟨34, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S8192x2752 : Shape := ⟨2, ![8192, 2752]⟩
abbrev S1024x5504 : Shape := ⟨2, ![1024, 5504]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5504 : Shape := ⟨2, ![8192, 5504]⟩

abbrev nBuf : Space → Nat
  | .hbm => 59
  | .vmem => 0
  | .smem => 0
  | _ => 0

abbrev bufTy : (tb : Table) → Fin (tcTables nBuf tb) → BufTy
  | .hbm, ⟨0, _⟩ => ⟨S8192x2752, .f32⟩
  | .hbm, ⟨1, _⟩ => ⟨S8192x2752, .f32⟩
  | .hbm, ⟨2, _⟩ => ⟨S1024x5504, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5504, .f32⟩
  | .hbm, ⟨27, _⟩ => ⟨S8192x2752, .f32⟩
  | .hbm, ⟨28, _⟩ => ⟨S8192x2752, .f32⟩
  | .hbm, ⟨29, _⟩ => ⟨S8192x5504, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S1x1024, .f32⟩
  | .hbm, ⟨76, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel14.lean ====
abbrev S2752x1024 : Shape := ⟨2, ![2752, 1024]⟩
abbrev S344x1024 : Shape := ⟨2, ![344, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2752x1024, .f32⟩
  | .hbm, ⟨1, _⟩ => ⟨S2752x1024, .f32⟩
  | .hbm, ⟨2, _⟩ => ⟨S2752x1024, .f32⟩
  | .hbm, ⟨3, _⟩ => ⟨S2752x1024, .f32⟩
  | .hbm, ⟨4, _⟩ => ⟨S2752x1024, .f32⟩
  | .hbm, ⟨5, _⟩ => ⟨S2752x1024, .f32⟩
  | .hbm, ⟨6, _⟩ => ⟨S2752x1024, .f32⟩
  | .local _ .vmem, ⟨0, _⟩ => ⟨S344x1024, .f32⟩
  | .local _ .vmem, ⟨1, _⟩ => ⟨S344x1024, .f32⟩
  | .local _ .vmem, ⟨2, _⟩ => ⟨S344x1024, .f32⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | _, _ => ⟨S2752x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
variable {F : FTy → Type} [FloatOps F] [Named F]
def κ : String → Option EReal := fun
  | "inv_c1" => some (((5463681 / 8388608)⁻¹ : ℝ) : EReal)
  | "inv_c2" => some (((2672307 / 268435456)⁻¹ : ℝ) : EReal)
  | _ => none
-- ==== Reference14Ideal.lean ====
abbrev S2752x1024 : Shape := ⟨2, ![2752, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2752x1024, .f32⟩
  | .hbm, ⟨1, _⟩ => ⟨S2752x1024, .f32⟩
  | .hbm, ⟨2, _⟩ => ⟨S2752x1024, .f32⟩
  | .hbm, ⟨3, _⟩ => ⟨S2752x1024, .f32⟩
  | .hbm, ⟨4, _⟩ => ⟨S_, .f32⟩
  | .hbm, ⟨5, _⟩ => ⟨S2752x1024, .f32⟩
  | .hbm, ⟨6, _⟩ => ⟨S2752x1024, .f32⟩
  | .hbm, ⟨7, _⟩ => ⟨S_, .f32⟩
  | .hbm, ⟨8, _⟩ => ⟨S2752x1024, .f32⟩
  | .hbm, ⟨9, _⟩ => ⟨S2752x1024, .f32⟩
  | .hbm, ⟨10, _⟩ => ⟨S2752x1024, .f32⟩
  | .hbm, ⟨11, _⟩ => ⟨S_, .f32⟩
  | .hbm, ⟨12, _⟩ => ⟨S2752x1024, .f32⟩
  | .hbm, ⟨13, _⟩ => ⟨S2752x1024, .f32⟩
  | .hbm, ⟨14, _⟩ => ⟨S2752x1024, .f32⟩
  | .hbm, ⟨15, _⟩ => ⟨S_, .f32⟩
  | .hbm, ⟨16, _⟩ => ⟨S2752x1024, .f32⟩
  | .hbm, ⟨17, _⟩ => ⟨S2752x1024, .f32⟩
  | .hbm, ⟨18, _⟩ => ⟨S2752x1024, .f32⟩
  | .hbm, ⟨19, _⟩ => ⟨S_, .f32⟩
  | .hbm, ⟨20, _⟩ => ⟨S2752x1024, .f32⟩
  | .hbm, ⟨21, _⟩ => ⟨S2752x1024, .f32⟩
  | .hbm, ⟨22, _⟩ => ⟨S_, .f32⟩
  | .hbm, ⟨23, _⟩ => ⟨S2752x1024, .f32⟩
  | .hbm, ⟨24, _⟩ => ⟨S2752x1024, .f32⟩
  | .hbm, ⟨25, _⟩ => ⟨S2752x1024, .f32⟩
  | .hbm, ⟨26, _⟩ => ⟨S_, .f32⟩
  | .hbm, ⟨27, _⟩ => ⟨S2752x1024, .f32⟩
  | .hbm, ⟨28, _⟩ => ⟨S2752x1024, .f32⟩
  | .hbm, ⟨29, _⟩ => ⟨S2752x1024, .f32⟩
  | .hbm, ⟨30, _⟩ => ⟨S_, .f32⟩
  | .hbm, ⟨31, _⟩ => ⟨S2752x1024, .f32⟩
  | .hbm, ⟨32, _⟩ => ⟨S2752x1024, .f32⟩
  | .hbm, ⟨33, _⟩ => ⟨S2752x1024, .f32⟩
  | .hbm, ⟨34, _⟩ => ⟨S_, .f32⟩
  | .hbm, ⟨35, _⟩ => ⟨S2752x1024, .f32⟩
  | .hbm, ⟨36, _⟩ => ⟨S2752x1024, .f32⟩
  | _, _ => ⟨S2752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8x40x1024 : Shape := ⟨3, ![8, 40, 1024]⟩
abbrev S40x1024 : Shape := ⟨2, ![40, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x40x1024, .f32⟩
  | .hbm, ⟨1, _⟩ => ⟨S40x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S8x40x1024 : Shape := ⟨3, ![8, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x40x1024, .f32⟩
  | .hbm, ⟨1, _⟩ => ⟨S_, .f32⟩
  | .hbm, ⟨2, _⟩ => ⟨S40x1024, .f32⟩
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S1376x1024 : Shape := ⟨2, ![1376, 1024]⟩
abbrev S344x1024 : Shape := ⟨2, ![344, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1376x1024, .f32⟩
  | .hbm, ⟨1, _⟩ => ⟨S1376x1024, .f32⟩
  | .hbm, ⟨2, _⟩ => ⟨S1376x1024, .f32⟩
  | .hbm, ⟨3, _⟩ => ⟨S1376x1024, .f32⟩
  | .hbm, ⟨4, _⟩ => ⟨S1376x1024, .f32⟩
  | .hbm, ⟨5, _⟩ => ⟨S1376x1024, .f32⟩
  | .hbm, ⟨6, _⟩ => ⟨S1376x1024, .f32⟩
  | .local _ .vmem, ⟨0, _⟩ => ⟨S344x1024, .f32⟩
  | .local _ .vmem, ⟨1, _⟩ => ⟨S344x1024, .f32⟩
  | .local _ .vmem, ⟨2, _⟩ => ⟨S344x1024, .f32⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | _, _ => ⟨S1376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
variable {F : FTy → Type} [FloatOps F] [Named F]
def κ : String → Option EReal := fun
  | "inv_c1" => some (((5463681 / 8388608)⁻¹ : ℝ) : EReal)
  | "inv_c2" => some (((2672307 / 268435456)⁻¹ : ℝ) : EReal)
  | _ => none
-- ==== Reference16Ideal.lean ====
abbrev S1376x1024 : Shape := ⟨2, ![1376, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1376x1024, .f32⟩
  | .hbm, ⟨1, _⟩ => ⟨S1376x1024, .f32⟩
  | .hbm, ⟨2, _⟩ => ⟨S1376x1024, .f32⟩
  | .hbm, ⟨3, _⟩ => ⟨S1376x1024, .f32⟩
  | .hbm, ⟨4, _⟩ => ⟨S_, .f32⟩
  | .hbm, ⟨5, _⟩ => ⟨S1376x1024, .f32⟩
  | .hbm, ⟨6, _⟩ => ⟨S1376x1024, .f32⟩
  | .hbm, ⟨7, _⟩ => ⟨S_, .f32⟩
  | .hbm, ⟨8, _⟩ => ⟨S1376x1024, .f32⟩
  | .hbm, ⟨9, _⟩ => ⟨S1376x1024, .f32⟩
  | .hbm, ⟨10, _⟩ => ⟨S1376x1024, .f32⟩
  | .hbm, ⟨11, _⟩ => ⟨S_, .f32⟩
  | .hbm, ⟨12, _⟩ => ⟨S1376x1024, .f32⟩
  | .hbm, ⟨13, _⟩ => ⟨S1376x1024, .f32⟩
  | .hbm, ⟨14, _⟩ => ⟨S1376x1024, .f32⟩
  | .hbm, ⟨15, _⟩ => ⟨S_, .f32⟩
  | .hbm, ⟨16, _⟩ => ⟨S1376x1024, .f32⟩
  | .hbm, ⟨17, _⟩ => ⟨S1376x1024, .f32⟩
  | .hbm, ⟨18, _⟩ => ⟨S1376x1024, .f32⟩
  | .hbm, ⟨19, _⟩ => ⟨S_, .f32⟩
  | .hbm, ⟨20, _⟩ => ⟨S1376x1024, .f32⟩
  | .hbm, ⟨21, _⟩ => ⟨S1376x1024, .f32⟩
  | .hbm, ⟨22, _⟩ => ⟨S_, .f32⟩
  | .hbm, ⟨23, _⟩ => ⟨S1376x1024, .f32⟩
  | .hbm, ⟨24, _⟩ => ⟨S1376x1024, .f32⟩
  | .hbm, ⟨25, _⟩ => ⟨S1376x1024, .f32⟩
  | .hbm, ⟨26, _⟩ => ⟨S_, .f32⟩
  | .hbm, ⟨27, _⟩ => ⟨S1376x1024, .f32⟩
  | .hbm, ⟨28, _⟩ => ⟨S1376x1024, .f32⟩
  | .hbm, ⟨29, _⟩ => ⟨S1376x1024, .f32⟩
  | .hbm, ⟨30, _⟩ => ⟨S_, .f32⟩
  | .hbm, ⟨31, _⟩ => ⟨S1376x1024, .f32⟩
  | .hbm, ⟨32, _⟩ => ⟨S1376x1024, .f32⟩
  | .hbm, ⟨33, _⟩ => ⟨S1376x1024, .f32⟩
  | .hbm, ⟨34, _⟩ => ⟨S_, .f32⟩
  | .hbm, ⟨35, _⟩ => ⟨S1376x1024, .f32⟩
  | .hbm, ⟨36, _⟩ => ⟨S1376x1024, .f32⟩
  | _, _ => ⟨S1376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S896x1024 : Shape := ⟨2, ![896, 1024]⟩
abbrev S448x1024 : Shape := ⟨2, ![448, 1024]⟩

abbrev nBuf : Space → Nat
  | .hbm => 7
  | .vmem => 14
  | .smem => 0
  | _ => 0

abbrev bufTy : (tb : Table) → Fin (tcTables nBuf tb) → BufTy
  | .hbm, ⟨0, _⟩ => ⟨S896x1024, .f32⟩
  | .hbm, ⟨1, _⟩ => ⟨S896x1024, .f32⟩
  | .hbm, ⟨2, _⟩ => ⟨S896x1024, .f32⟩
  | .hbm, ⟨3, _⟩ => ⟨S896x1024, .f32⟩
  | .hbm, ⟨4, _⟩ => ⟨S896x1024, .f32⟩
  | .hbm, ⟨5, _⟩ => ⟨S896x1024, .f32⟩
  | .hbm, ⟨6, _⟩ => ⟨S896x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | .local _ .vmem, ⟨7, _⟩ => ⟨S448x1024, .f32⟩
  | .local _ .vmem, ⟨8, _⟩ => ⟨S448x1024, .f32⟩
  | .local _ .vmem, ⟨9, _⟩ => ⟨S448x1024, .f32⟩
  | .local _ .vmem, ⟨10, _⟩ => ⟨S448x1024, .f32⟩
  | .local _ .vmem, ⟨11, _⟩ => ⟨S448x1024, .f32⟩
  | .local _ .vmem, ⟨12, _⟩ => ⟨S448x1024, .f32⟩
  | .local _ .vmem, ⟨13, _⟩ => ⟨S448x1024, .f32⟩
  | _, _ => ⟨S896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S448x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S448x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S448x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S448x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S448x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S448x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "inv_c1" => some (((5463681 / 8388608)⁻¹ : ℝ) : EReal)
  | "inv_c2" => some (((2672307 / 268435456)⁻¹ : ℝ) : EReal)
  | _ => none
-- ==== Reference17Ideal.lean ====
abbrev S896x1024 : Shape := ⟨2, ![896, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S896x1024, .f32⟩
  | .hbm, ⟨1, _⟩ => ⟨S896x1024, .f32⟩
  | .hbm, ⟨2, _⟩ => ⟨S896x1024, .f32⟩
  | .hbm, ⟨3, _⟩ => ⟨S896x1024, .f32⟩
  | .hbm, ⟨4, _⟩ => ⟨S_, .f32⟩
  | .hbm, ⟨5, _⟩ => ⟨S896x1024, .f32⟩
  | .hbm, ⟨6, _⟩ => ⟨S896x1024, .f32⟩
  | .hbm, ⟨7, _⟩ => ⟨S_, .f32⟩
  | .hbm, ⟨8, _⟩ => ⟨S896x1024, .f32⟩
  | .hbm, ⟨9, _⟩ => ⟨S896x1024, .f32⟩
  | .hbm, ⟨10, _⟩ => ⟨S896x1024, .f32⟩
  | .hbm, ⟨11, _⟩ => ⟨S_, .f32⟩
  | .hbm, ⟨12, _⟩ => ⟨S896x1024, .f32⟩
  | .hbm, ⟨13, _⟩ => ⟨S896x1024, .f32⟩
  | .hbm, ⟨14, _⟩ => ⟨S896x1024, .f32⟩
  | .hbm, ⟨15, _⟩ => ⟨S_, .f32⟩
  | .hbm, ⟨16, _⟩ => ⟨S896x1024, .f32⟩
  | .hbm, ⟨17, _⟩ => ⟨S896x1024, .f32⟩
  | .hbm, ⟨18, _⟩ => ⟨S896x1024, .f32⟩
  | .hbm, ⟨19, _⟩ => ⟨S_, .f32⟩
  | .hbm, ⟨20, _⟩ => ⟨S896x1024, .f32⟩
  | .hbm, ⟨21, _⟩ => ⟨S896x1024, .f32⟩
  | .hbm, ⟨22, _⟩ => ⟨S_, .f32⟩
  | .hbm, ⟨23, _⟩ => ⟨S896x1024, .f32⟩
  | .hbm, ⟨24, _⟩ => ⟨S896x1024, .f32⟩
  | .hbm, ⟨25, _⟩ => ⟨S896x1024, .f32⟩
  | .hbm, ⟨26, _⟩ => ⟨S_, .f32⟩
  | .hbm, ⟨27, _⟩ => ⟨S896x1024, .f32⟩
  | .hbm, ⟨28, _⟩ => ⟨S896x1024, .f32⟩
  | .hbm, ⟨29, _⟩ => ⟨S896x1024, .f32⟩
  | .hbm, ⟨30, _⟩ => ⟨S_, .f32⟩
  | .hbm, ⟨31, _⟩ => ⟨S896x1024, .f32⟩
  | .hbm, ⟨32, _⟩ => ⟨S896x1024, .f32⟩
  | .hbm, ⟨33, _⟩ => ⟨S896x1024, .f32⟩
  | .hbm, ⟨34, _⟩ => ⟨S_, .f32⟩
  | .hbm, ⟨35, _⟩ => ⟨S896x1024, .f32⟩
  | .hbm, ⟨36, _⟩ => ⟨S896x1024, .f32⟩
  | _, _ => ⟨S896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
variable {F : FTy → Type} [FloatOps F] [Named F]
def κ : String → Option EReal := fun
  | "inv_c1" => some (((5463681 / 8388608)⁻¹ : ℝ) : EReal)
  | "inv_c2" => some (((2672307 / 268435456)⁻¹ : ℝ) : EReal)
  | _ => none
-- ==== Reference18Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S304x1024 : Shape := ⟨2, ![304, 1024]⟩

abbrev nBuf : Space → Nat
  | .hbm => 7
  | .vmem => 7
  | .smem => 0
  | _ => 0

abbrev bufTy : (tb : Table) → Fin (tcTables nBuf tb) → BufTy
  | .hbm, ⟨0, _⟩ => ⟨S304x1024, .f32⟩
  | .hbm, ⟨1, _⟩ => ⟨S304x1024, .f32⟩
  | .hbm, ⟨2, _⟩ => ⟨S304x1024, .f32⟩
  | .hbm, ⟨3, _⟩ => ⟨S304x1024, .f32⟩
  | .hbm, ⟨4, _⟩ => ⟨S304x1024, .f32⟩
  | .hbm, ⟨5, _⟩ => ⟨S304x1024, .f32⟩
  | .hbm, ⟨6, _⟩ => ⟨S304x1024, .f32⟩
  | .local _ .vmem, ⟨0, _⟩ => ⟨S304x1024, .f32⟩
  | .local _ .vmem, ⟨1, _⟩ => ⟨S304x1024, .f32⟩
  | .local _ .vmem, ⟨2, _⟩ => ⟨S304x1024, .f32⟩
  | .local _ .vmem, ⟨3, _⟩ => ⟨S304x1024, .f32⟩
  | .local _ .vmem, ⟨4, _⟩ => ⟨S304x1024, .f32⟩
  | .local _ .vmem, ⟨5, _⟩ => ⟨S304x1024, .f32⟩
  | .local _ .vmem, ⟨6, _⟩ => ⟨S304x1024, .f32⟩
  | _, _ => ⟨S304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S304x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S304x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S304x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S304x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel19Ideal.lean ====
variable {F : FTy → Type} [FloatOps F] [Named F]
def κ : String → Option EReal := fun
  | "inv_c1" => some (((5463681 / 8388608)⁻¹ : ℝ) : EReal)
  | "inv_c2" => some (((2672307 / 268435456)⁻¹ : ℝ) : EReal)
  | _ => none
-- ==== Reference19Ideal.lean ====
abbrev S304x1024 : Shape := ⟨2, ![304, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S304x1024, .f32⟩
  | .hbm, ⟨1, _⟩ => ⟨S304x1024, .f32⟩
  | .hbm, ⟨2, _⟩ => ⟨S304x1024, .f32⟩
  | .hbm, ⟨3, _⟩ => ⟨S304x1024, .f32⟩
  | .hbm, ⟨4, _⟩ => ⟨S_, .f32⟩
  | .hbm, ⟨5, _⟩ => ⟨S304x1024, .f32⟩
  | .hbm, ⟨6, _⟩ => ⟨S304x1024, .f32⟩
  | .hbm, ⟨7, _⟩ => ⟨S_, .f32⟩
  | .hbm, ⟨8, _⟩ => ⟨S304x1024, .f32⟩
  | .hbm, ⟨9, _⟩ => ⟨S304x1024, .f32⟩
  | .hbm, ⟨10, _⟩ => ⟨S304x1024, .f32⟩
  | .hbm, ⟨11, _⟩ => ⟨S_, .f32⟩
  | .hbm, ⟨12, _⟩ => ⟨S304x1024, .f32⟩
  | .hbm, ⟨13, _⟩ => ⟨S304x1024, .f32⟩
  | .hbm, ⟨14, _⟩ => ⟨S304x1024, .f32⟩
  | .hbm, ⟨15, _⟩ => ⟨S_, .f32⟩
  | .hbm, ⟨16, _⟩ => ⟨S304x1024, .f32⟩
  | .hbm, ⟨17, _⟩ => ⟨S304x1024, .f32⟩
  | .hbm, ⟨18, _⟩ => ⟨S304x1024, .f32⟩
  | .hbm, ⟨19, _⟩ => ⟨S_, .f32⟩
  | .hbm, ⟨20, _⟩ => ⟨S304x1024, .f32⟩
  | .hbm, ⟨21, _⟩ => ⟨S304x1024, .f32⟩
  | .hbm, ⟨22, _⟩ => ⟨S_, .f32⟩
  | .hbm, ⟨23, _⟩ => ⟨S304x1024, .f32⟩
  | .hbm, ⟨24, _⟩ => ⟨S304x1024, .f32⟩
  | .hbm, ⟨25, _⟩ => ⟨S304x1024, .f32⟩
  | .hbm, ⟨26, _⟩ => ⟨S_, .f32⟩
  | .hbm, ⟨27, _⟩ => ⟨S304x1024, .f32⟩
  | .hbm, ⟨28, _⟩ => ⟨S304x1024, .f32⟩
  | .hbm, ⟨29, _⟩ => ⟨S304x1024, .f32⟩
  | .hbm, ⟨30, _⟩ => ⟨S_, .f32⟩
  | .hbm, ⟨31, _⟩ => ⟨S304x1024, .f32⟩
  | .hbm, ⟨32, _⟩ => ⟨S304x1024, .f32⟩
  | .hbm, ⟨33, _⟩ => ⟨S304x1024, .f32⟩
  | .hbm, ⟨34, _⟩ => ⟨S_, .f32⟩
  | .hbm, ⟨35, _⟩ => ⟨S304x1024, .f32⟩
  | .hbm, ⟨36, _⟩ => ⟨S304x1024, .f32⟩
  | _, _ => ⟨S304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8192x1024 : Shape := ⟨2, ![8192, 1024]⟩
abbrev S8192x1792 : Shape := ⟨2, ![8192, 1792]⟩
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S8x8 : Shape := ⟨2, ![8, 8]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x512 : Shape := ⟨2, ![1, 512]⟩
abbrev S1024x512 : Shape := ⟨2, ![1024, 512]⟩
abbrev S1024 : Shape := ⟨1, ![1024]⟩
abbrev S1x1024 : Shape := ⟨2, ![1, 1024]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S256x1024 : Shape := ⟨2, ![256, 1024]⟩
abbrev S256x1792 : Shape := ⟨2, ![256, 1792]⟩
abbrev S16x512 : Shape := ⟨2, ![16, 512]⟩
abbrev S16x256 : Shape := ⟨2, ![16, 256]⟩
abbrev S256x512 : Shape := ⟨2, ![256, 512]⟩
abbrev S8x512 : Shape := ⟨2, ![8, 512]⟩
abbrev S272x512 : Shape := ⟨2, ![272, 512]⟩
abbrev S64x512 : Shape := ⟨2, ![64, 512]⟩
abbrev S272x256 : Shape := ⟨2, ![272, 256]⟩
abbrev S256x1 : Shape := ⟨2, ![256, 1]⟩

abbrev nBuf : Space → Nat
  | .hbm => 103
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S8192x512, .f32⟩
  | .hbm, ⟨3, _⟩ => ⟨S4x512, .f32⟩
  | .hbm, ⟨4, _⟩ => ⟨S512, .f32⟩
  | .hbm, ⟨5, _⟩ => ⟨S8x64x64, .f32⟩
  | .hbm, ⟨6, _⟩ => ⟨S8x64, .f32⟩
  | .hbm, ⟨7, _⟩ => ⟨S8x64x64, .f32⟩
  | .hbm, ⟨8, _⟩ => ⟨S8x64, .f32⟩
  | .hbm, ⟨9, _⟩ => ⟨S512, .f32⟩
  | .hbm, ⟨10, _⟩ => ⟨S4x64x64, .f32⟩
  | .hbm, ⟨11, _⟩ => ⟨S256, .f32⟩
  | .hbm, ⟨12, _⟩ => ⟨S256, .f32⟩
  | .hbm, ⟨13, _⟩ => ⟨S4x128x128, .f32⟩
  | .hbm, ⟨14, _⟩ => ⟨S4x128, .f32⟩
  | .hbm, ⟨15, _⟩ => ⟨S_, .i1⟩
  | .hbm, ⟨16, _⟩ => ⟨S128x128, .i1⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S1x128x128, .i1⟩
  | .hbm, ⟨27, _⟩ => ⟨S_, .f32⟩
  | .hbm, ⟨28, _⟩ => ⟨S_, .f32⟩
  | .hbm, ⟨29, _⟩ => ⟨S4x128x128, .i1⟩
  | .hbm, ⟨30, _⟩ => ⟨S4x128x128, .f32⟩
  | .hbm, ⟨31, _⟩ => ⟨S4x128x128, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x1x8x1, .f32⟩
  | .hbm, ⟨40, _⟩ => ⟨S8x64x1x64, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S512x512, .f32⟩
  | .hbm, ⟨45, _⟩ => ⟨S8x8, .i32⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S8x8, .f32⟩
  | .hbm, ⟨52, _⟩ => ⟨S8x1x8x1, .f32⟩
  | .hbm, ⟨53, _⟩ => ⟨S8x64x1x64, .f32⟩
  | .hbm, ⟨54, _⟩ => ⟨S8x64x8x64, .f32⟩
  | .hbm, ⟨55, _⟩ => ⟨S8x64x8x64, .f32⟩
  | .hbm, ⟨56, _⟩ => ⟨S8x64x8x64, .f32⟩
  | .hbm, ⟨57, _⟩ => ⟨S512x512, .f32⟩
  | .hbm, ⟨58, _⟩ => ⟨S512x1024, .f32⟩
  | .hbm, ⟨59, _⟩ => ⟨S4x4, .i32⟩
  | .hbm, ⟨60, _⟩ => ⟨S4x4, .i32⟩
  | .hbm, ⟨61, _⟩ => ⟨S_, .i32⟩
  | .hbm, ⟨62, _⟩ => ⟨S4x4, .i32⟩
  | .hbm, ⟨63, _⟩ => ⟨S4x4, .i32⟩
  | .hbm, ⟨64, _⟩ => ⟨S4x4, .i1⟩
  | .hbm, ⟨65, _⟩ => ⟨S4x4, .f32⟩
  | .hbm, ⟨66, _⟩ => ⟨S4x1x4x1, .f32⟩
  | .hbm, ⟨67, _⟩ => ⟨S4x64x1x64, .f32⟩
  | .hbm, ⟨68, _⟩ => ⟨S4x64x4x64, .f32⟩
  | .hbm, ⟨69, _⟩ => ⟨S4x64x4x64, .f32⟩
  | .hbm, ⟨70, _⟩ => ⟨S4x64x4x64, .f32⟩
  | .hbm, ⟨71, _⟩ => ⟨S256x256, .f32⟩
  | .hbm, ⟨72, _⟩ => ⟨S1x512, .f32⟩
  | .hbm, ⟨73, _⟩ => ⟨S512x1024, .bf16⟩
  | .hbm, ⟨74, _⟩ => ⟨S1024x512, .f32⟩
  | .hbm, ⟨75, _⟩ => ⟨S1024x512, .bf16⟩
  | .hbm, ⟨76, _⟩ => ⟨S512, .f32⟩
  | .hbm, ⟨77, _⟩ => ⟨S512, .f32⟩
  | .hbm, ⟨78, _⟩ => ⟨S1024, .f32⟩
  | .hbm, ⟨79, _⟩ => ⟨S1x1024, .f32⟩
  | .hbm, ⟨80, _⟩ => ⟨S1x512, .f32⟩
  | .hbm, ⟨81, _⟩ => ⟨S256x256, .bf16⟩
  | .hbm, ⟨82, _⟩ => ⟨S256x256, .f32⟩
  | .hbm, ⟨83, _⟩ => ⟨S256x256, .bf16⟩
  | .hbm, ⟨84, _⟩ => ⟨S1x256, .f32⟩
  | .hbm, ⟨85, _⟩ => ⟨S1x256, .f32⟩
  | .hbm, ⟨86, _⟩ => ⟨S4x128x128, .bf16⟩
  | .hbm, ⟨87, _⟩ => ⟨S4x128x128, .f32⟩
  | .hbm, ⟨88, _⟩ => ⟨S4x128x128, .bf16⟩
  | .hbm, ⟨89, _⟩ => ⟨S128x4, .f32⟩
  | .hbm, ⟨90, _⟩ => ⟨S128x4x64, .f32⟩
  | .hbm, ⟨91, _⟩ => ⟨S128x256, .f32⟩
  | .hbm, ⟨92, _⟩ => ⟨S8192x1792, .bf16⟩
  | .hbm, ⟨93, _⟩ => ⟨S4x512, .f32⟩
  | .hbm, ⟨94, _⟩ => ⟨S1x512, .f32⟩
  | .hbm, ⟨95, _⟩ => ⟨S512x1024, .f32⟩
  | .hbm, ⟨96, _⟩ => ⟨S1x1024, .f32⟩
  | .hbm, ⟨97, _⟩ => ⟨S1x512, .f32⟩
  | .hbm, ⟨98, _⟩ => ⟨S256x256, .f32⟩
  | .hbm, ⟨99, _⟩ => ⟨S1x256, .f32⟩
  | .hbm, ⟨100, _⟩ => ⟨S1x256, .f32⟩
  | .hbm, ⟨101, _⟩ => ⟨S4x128x128, .f32⟩
  | .hbm, ⟨102, _⟩ => ⟨S128x256, .f32⟩
  | .local _ .vmem, ⟨0, _⟩ => ⟨S256x1024, .f32⟩
  | .local _ .vmem, ⟨1, _⟩ => ⟨S256x1024, .f32⟩
  | .local _ .vmem, ⟨2, _⟩ => ⟨S256x1792, .f32⟩
  | .local _ .vmem, ⟨3, _⟩ => ⟨S256x1792, .f32⟩
  | .local _ .vmem, ⟨4, _⟩ => ⟨S16x512, .f32⟩
  | .local _ .vmem, ⟨5, _⟩ => ⟨S16x512, .f32⟩
  | .local _ .vmem, ⟨6, _⟩ => ⟨S16x256, .f32⟩
  | .local _ .vmem, ⟨7, _⟩ => ⟨S16x256, .f32⟩
  | .local _ .vmem, ⟨8, _⟩ => ⟨S256x512, .f32⟩
  | .local _ .vmem, ⟨9, _⟩ => ⟨S256x512, .f32⟩
  | .local _ .vmem, ⟨10, _⟩ => ⟨S16x512, .f32⟩
  | .local _ .vmem, ⟨11, _⟩ => ⟨S16x512, .f32⟩
  | .local _ .vmem, ⟨12, _⟩ => ⟨S4x512, .f32⟩
  | .local _ .vmem, ⟨13, _⟩ => ⟨S1x512, .f32⟩
  | .local _ .vmem, ⟨14, _⟩ => ⟨S512x1024, .bf16⟩
  | .local _ .vmem, ⟨15, _⟩ => ⟨S1024x512, .bf16⟩
  | .local _ .vmem, ⟨16, _⟩ => ⟨S1x1024, .f32⟩
  | .local _ .vmem, ⟨17, _⟩ => ⟨S1x512, .f32⟩
  | .local _ .vmem, ⟨18, _⟩ => ⟨S256x256, .bf16⟩
  | .local _ .vmem, ⟨19, _⟩ => ⟨S256x256, .bf16⟩
  | .local _ .vmem, ⟨20, _⟩ => ⟨S1x256, .f32⟩
  | .local _ .vmem, ⟨21, _⟩ => ⟨S1x256, .f32⟩
  | .local _ .vmem, ⟨22, _⟩ => ⟨S4x128x128, .bf16⟩
  | .local _ .vmem, ⟨23, _⟩ => ⟨S4x128x128, .bf16⟩
  | .local _ .vmem, ⟨24, _⟩ => ⟨S128x256, .f32⟩
  | .local _ .vmem, ⟨25, _⟩ => ⟨S256x1792, .bf16⟩
  | .local _ .vmem, ⟨26, _⟩ => ⟨S256x1792, .bf16⟩
  | .local _ .vmem, ⟨27, _⟩ => ⟨S4x512, .f32⟩
  | .local _ .vmem, ⟨28, _⟩ => ⟨S1x512, .f32⟩
  | .local _ .vmem, ⟨29, _⟩ => ⟨S512x1024, .f32⟩
  | .local _ .vmem, ⟨30, _⟩ => ⟨S1x1024, .f32⟩
  | .local _ .vmem, ⟨31, _⟩ => ⟨S1x512, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S4x128x128, .f32⟩
  | .local _ .vmem, ⟨36, _⟩ => ⟨S128x256, .f32⟩
  | .local _ .vmem, ⟨37, _⟩ => ⟨S8x512, .f32⟩
  | .local _ .vmem, ⟨38, _⟩ => ⟨S16x512, .f32⟩
  | .local _ .vmem, ⟨39, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_2 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61_0 : Ref sig .tc := ⟨.hbm, 92, rfl⟩
abbrev main_v61_1 : Ref sig .tc := ⟨.hbm, 93, rfl⟩
abbrev main_v61_2 : Ref sig .tc := ⟨.hbm, 94, rfl⟩
abbrev main_v61_3 : Ref sig .tc := ⟨.hbm, 95, rfl⟩
abbrev main_v61_4 : Ref sig .tc := ⟨.hbm, 96, rfl⟩
abbrev main_v61_5 : Ref sig .tc := ⟨.hbm, 97, rfl⟩
abbrev main_v61_6 : Ref sig .tc := ⟨.hbm, 98, rfl⟩
abbrev main_v61_7 : Ref sig .tc := ⟨.hbm, 99, rfl⟩
abbrev main_v61_8 : Ref sig .tc := ⟨.hbm, 100, rfl⟩
abbrev main_v61_9 : Ref sig .tc := ⟨.hbm, 101, rfl⟩
abbrev main_v61_10 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg21_0 : Ref sig .tc := ⟨.vmem, 28, rfl⟩
abbrev cc0_stg22_0 : Ref sig .tc := ⟨.vmem, 29, rfl⟩
abbrev cc0_stg23_0 : Ref sig .tc := ⟨.vmem, 30, rfl⟩
abbrev cc0_stg24_0 : Ref sig .tc := ⟨.vmem, 31, rfl⟩
abbrev cc0_stg25_0 : Ref sig .tc := ⟨.vmem, 32, rfl⟩
abbrev cc0_stg26_0 : Ref sig .tc := ⟨.vmem, 33, rfl⟩
abbrev cc0_stg27_0 : Ref sig .tc := ⟨.vmem, 34, rfl⟩
abbrev cc0_stg28_0 : Ref sig .tc := ⟨.vmem, 35, rfl⟩
abbrev cc0_stg29_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem21_0 : DmaSem sig := 28
abbrev cc0_sem22_0 : DmaSem sig := 29
abbrev cc0_sem23_0 : DmaSem sig := 30
abbrev cc0_sem24_0 : DmaSem sig := 31
abbrev cc0_sem25_0 : DmaSem sig := 32
abbrev cc0_sem26_0 : DmaSem sig := 33
abbrev cc0_sem27_0 : DmaSem sig := 34
abbrev cc0_sem28_0 : DmaSem sig := 35
abbrev cc0_sem29_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1792 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S4x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Reference20Ideal.lean ====
abbrev S8192x1024 : Shape := ⟨2, ![8192, 1024]⟩
abbrev S8192x1792 : Shape := ⟨2, ![8192, 1792]⟩
abbrev S8192x512 : Shape := ⟨2, ![8192, 512]⟩
abbrev S4x512 : Shape := ⟨2, ![4, 512]⟩
abbrev S512 : Shape := ⟨1, ![512]⟩
abbrev S8x64x64 : Shape := ⟨3, ![8, 64, 64]⟩
abbrev S8x64 : Shape := ⟨2, ![8, 64]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x64 : Shape := ⟨3, ![128, 4, 64]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S1x128x4x64 : Shape := ⟨4, ![1, 128, 4, 64]⟩
abbrev S128x256 : Shape := ⟨2, ![128, 256]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1792, .f32⟩
  | .hbm, ⟨2, _⟩ => ⟨S8192x512, .f32⟩
  | .hbm, ⟨3, _⟩ => ⟨S4x512, .f32⟩
  | .hbm, ⟨4, _⟩ => ⟨S512, .f32⟩
  | .hbm, ⟨5, _⟩ => ⟨S8x64x64, .f32⟩
  | .hbm, ⟨6, _⟩ => ⟨S8x64, .f32⟩
  | .hbm, ⟨7, _⟩ => ⟨S8x64x64, .f32⟩
  | .hbm, ⟨8, _⟩ => ⟨S8x64, .f32⟩
  | .hbm, ⟨9, _⟩ => ⟨S512, .f32⟩
  | .hbm, ⟨10, _⟩ => ⟨S4x64x64, .f32⟩
  | .hbm, ⟨11, _⟩ => ⟨S256, .f32⟩
  | .hbm, ⟨12, _⟩ => ⟨S256, .f32⟩
  | .hbm, ⟨13, _⟩ => ⟨S4x128x128, .f32⟩
  | .hbm, ⟨14, _⟩ => ⟨S4x128, .f32⟩
  | .hbm, ⟨15, _⟩ => ⟨S128x4, .f32⟩
  | .hbm, ⟨16, _⟩ => ⟨S128x4x1, .f32⟩
  | .hbm, ⟨17, _⟩ => ⟨S128x4x64, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x256, .f32⟩
  | .hbm, ⟨66, _⟩ => ⟨S8192x256, .f32⟩
  | .hbm, ⟨67, _⟩ => ⟨S1x256, .f32⟩
  | .hbm, ⟨68, _⟩ => ⟨S8192x256, .f32⟩
  | .hbm, ⟨69, _⟩ => ⟨S8192x256, .f32⟩
  | .hbm, ⟨70, _⟩ => ⟨S64x128x4x64, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S1x128x128, .i1⟩
  | .hbm, ⟨83, _⟩ => ⟨S_, .f32⟩
  | .hbm, ⟨84, _⟩ => ⟨S4x128x128, .f32⟩
  | .hbm, ⟨85, _⟩ => ⟨S4x128x128, .i1⟩
  | .hbm, ⟨86, _⟩ => ⟨S4x128x128, .f32⟩
  | .hbm, ⟨87, _⟩ => ⟨S4x64x64x128, .f32⟩
  | .hbm, ⟨88, _⟩ => ⟨S64x128x4x64, .f32⟩
  | .hbm, ⟨89, _⟩ => ⟨S1x128x4x64, .f32⟩
  | .hbm, ⟨90, _⟩ => ⟨S64x128x4x64, .f32⟩
  | .hbm, ⟨91, _⟩ => ⟨S64x128x4x64, .f32⟩
  | .hbm, ⟨92, _⟩ => ⟨S8192x256, .f32⟩
  | .hbm, ⟨93, _⟩ => ⟨S8192x256, .f32⟩
  | .hbm, ⟨94, _⟩ => ⟨S8192x256, .f32⟩
  | .hbm, ⟨95, _⟩ => ⟨S8192x256, .f32⟩
  | .hbm, ⟨96, _⟩ => ⟨S64x128x4x64, .f32⟩
  | .hbm, ⟨97, _⟩ => ⟨S_, .f32⟩
  | .hbm, ⟨98, _⟩ => ⟨S128x4x64, .f32⟩
  | .hbm, ⟨99, _⟩ => ⟨S1x128x4x64, .f32⟩
  | .hbm, ⟨100, _⟩ => ⟨S_, .f32⟩
  | .hbm, ⟨101, _⟩ => ⟨S128x4x64, .f32⟩
  | .hbm, ⟨102, _⟩ => ⟨S128x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c : Ref sig .tc := ⟨.hbm, 71, rfl⟩
abbrev main_v45 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v46 : Ref sig .tc := ⟨.hbm, 81, rfl⟩
abbrev main_v47 : Ref sig .tc := ⟨.hbm, 82, rfl⟩
abbrev main_cst_10 : Ref sig .tc := ⟨.hbm, 83, rfl⟩
abbrev main_v48 : Ref sig .tc := ⟨.hbm, 84, rfl⟩
abbrev main_call1_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_cst_12 : Ref sig .tc := ⟨.hbm, 100, rfl⟩
abbrev main_v62 : Ref sig .tc := ⟨.hbm, 101, rfl⟩
abbrev main_v63 : Ref sig .tc := ⟨.hbm, 102, rfl⟩

abbrev nD : Nat := 1
abbrev τ : Topo := Topo.v7x

variable {F : FTy → Type} [FloatOps F]
-- ==== Proof.RunA.lean ====
module

public import proofs.«01_k».proof.Proof.Gen.KernelIdeal.Frame.Runs
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the first point, which clears the sums and the carried buffers: it ends, keeps what its nineteen inputs hold, and leaves something in each output and scratch buffer. -/
theorem runA (c : Dev nD) (i : grid0.Coords) (arg1 : Memref sig .tc .vmem S256x1024 .f32) (harg1 : arg1.IsWhole) (arg2 : Memref sig .tc .vmem S256x1792 .f32) (harg2 : arg2.IsWhole) (arg3 : Memref sig .tc .vmem S16x512 .f32) (harg3 : arg3.IsWhole) (arg4 : Memref sig .tc .vmem S16x256 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S4x128x128 .bf16) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x1792 .bf16) (harg20 : arg20.IsWhole) (arg21 : Memref sig .tc .vmem S4x512 .f32) (harg21 : arg21.IsWhole) (arg22 : Memref sig .tc .vmem S1x512 .f32) (harg22 : arg22.IsWhole) (arg23 : Memref sig .tc .vmem S512x1024 .f32) (harg23 : arg23.IsWhole) (arg24 : Memref sig .tc .vmem S1x1024 .f32) (harg24 : arg24.IsWhole) (arg25 : Memref sig .tc .vmem S1x512 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S4x128x128 .f32) (harg29 : arg29.IsWhole) (arg30 : Memref sig .tc .vmem S128x256 .f32) (harg30 : arg30.IsWhole) (arg31 : Memref sig .tc .vmem S8x512 .f32) (harg31 : arg31.IsWhole) (arg32 : Memref sig .tc .vmem S16x512 .f32) (harg32 : arg32.IsWhole) (arg33 : Memref sig .tc .vmem S16x256 .f32) (harg33 : arg33.IsWhole) (hc0 : cond0_0 i) (hc1 : ¬cond0_1 i) (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (E : Set ℕ) (K : PUnit → sProp 𝕄) :
    iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_bwd_eq_skeleton]; unfold cc0_mix_bwd_skel
  iintro ⟨H0, H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, Hk⟩
  sl_exec_parts (disch := first | sl_exact hc0 | sl_exact hc1)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; iexact H29
  isplitl [H30]
  · iexists _; iexact H30
  isplitl [H31]
  · iexists _; iexact H31
  iexists _; iexact H32

end Cert.KernelIdeal.Own

end
-- ==== Proof.RunB.lean ====
module

public import proofs.«01_k».proof.Proof.Gen.KernelIdeal.Frame.Runs
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a point between, which adds to what the points before left: it ends, keeps what its nineteen inputs hold, and leaves something in each output and scratch buffer. -/
theorem runB (c : Dev nD) (i : grid0.Coords) (arg1 : Memref sig .tc .vmem S256x1024 .f32) (harg1 : arg1.IsWhole) (arg2 : Memref sig .tc .vmem S256x1792 .f32) (harg2 : arg2.IsWhole) (arg3 : Memref sig .tc .vmem S16x512 .f32) (harg3 : arg3.IsWhole) (arg4 : Memref sig .tc .vmem S16x256 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S4x128x128 .bf16) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x1792 .bf16) (harg20 : arg20.IsWhole) (arg21 : Memref sig .tc .vmem S4x512 .f32) (harg21 : arg21.IsWhole) (arg22 : Memref sig .tc .vmem S1x512 .f32) (harg22 : arg22.IsWhole) (arg23 : Memref sig .tc .vmem S512x1024 .f32) (harg23 : arg23.IsWhole) (arg24 : Memref sig .tc .vmem S1x1024 .f32) (harg24 : arg24.IsWhole) (arg25 : Memref sig .tc .vmem S1x512 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S4x128x128 .f32) (harg29 : arg29.IsWhole) (arg30 : Memref sig .tc .vmem S128x256 .f32) (harg30 : arg30.IsWhole) (arg31 : Memref sig .tc .vmem S8x512 .f32) (harg31 : arg31.IsWhole) (arg32 : Memref sig .tc .vmem S16x512 .f32) (harg32 : arg32.IsWhole) (arg33 : Memref sig .tc .vmem S16x256 .f32) (harg33 : arg33.IsWhole) (hc0 : ¬cond0_0 i) (hc1 : ¬cond0_1 i) (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (E : Set ℕ) (K : PUnit → sProp 𝕄) :
    iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_bwd_eq_skeleton]; unfold cc0_mix_bwd_skel
  iintro ⟨H0, H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, Hk⟩
  sl_exec_parts (disch := first | sl_exact hc0 | sl_exact hc1)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; iexact H29
  isplitl [H30]
  · iexists _; iexact H30
  isplitl [H31]
  · iexists _; iexact H31
  iexists _; iexact H32

end Cert.KernelIdeal.Own

end
-- ==== Proof.RunC.lean ====
module

public import proofs.«01_k».proof.Proof.Gen.KernelIdeal.Frame.Runs
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the last point: it ends, keeps what its nineteen inputs hold, and leaves something in each output and scratch buffer. -/
theorem runC (c : Dev nD) (i : grid0.Coords) (arg1 : Memref sig .tc .vmem S256x1024 .f32) (harg1 : arg1.IsWhole) (arg2 : Memref sig .tc .vmem S256x1792 .f32) (harg2 : arg2.IsWhole) (arg3 : Memref sig .tc .vmem S16x512 .f32) (harg3 : arg3.IsWhole) (arg4 : Memref sig .tc .vmem S16x256 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S4x128x128 .bf16) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x1792 .bf16) (harg20 : arg20.IsWhole) (arg21 : Memref sig .tc .vmem S4x512 .f32) (harg21 : arg21.IsWhole) (arg22 : Memref sig .tc .vmem S1x512 .f32) (harg22 : arg22.IsWhole) (arg23 : Memref sig .tc .vmem S512x1024 .f32) (harg23 : arg23.IsWhole) (arg24 : Memref sig .tc .vmem S1x1024 .f32) (harg24 : arg24.IsWhole) (arg25 : Memref sig .tc .vmem S1x512 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S4x128x128 .f32) (harg29 : arg29.IsWhole) (arg30 : Memref sig .tc .vmem S128x256 .f32) (harg30 : arg30.IsWhole) (arg31 : Memref sig .tc .vmem S8x512 .f32) (harg31 : arg31.IsWhole) (arg32 : Memref sig .tc .vmem S16x512 .f32) (harg32 : arg32.IsWhole) (arg33 : Memref sig .tc .vmem S16x256 .f32) (harg33 : arg33.IsWhole) (hc0 : ¬cond0_0 i) (hc1 : cond0_1 i) (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (E : Set ℕ) (K : PUnit → sProp 𝕄) :
    iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_bwd_eq_skeleton]; unfold cc0_mix_bwd_skel
  iintro ⟨H0, H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, Hk⟩
  sl_exec_parts (disch := first | sl_exact hc0 | sl_exact hc1)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; iexact H29
  isplitl [H30]
  · iexists _; iexact H30
  isplitl [H31]
  · iexists _; iexact H31
  iexists _; iexact H32

end Cert.KernelIdeal.Own

end
-- ==== Proof.MixFrame.lean ====
module

public import proofs.«01_k».proof.Proof.RunA
public import proofs.«01_k».proof.Proof.RunB
public import proofs.«01_k».proof.Proof.RunC
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results: the windows nothing is said of here. -/
def free : Fin 30 → Bool := fun w => decide (19 ≤ w.val)

/-- The proof data: every input's buffer holds its block throughout, the results' contents stay unnamed, and the scratch
    buffers are at anything before every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Dat.unnamed (cfg := cfg0) ⟨19, h⟩ t
    | ⟨20, h⟩ => Dat.unnamed (cfg := cfg0) ⟨20, h⟩ t
    | ⟨21, h⟩ => Dat.unnamed (cfg := cfg0) ⟨21, h⟩ t
    | ⟨22, h⟩ => Dat.unnamed (cfg := cfg0) ⟨22, h⟩ t
    | ⟨23, h⟩ => Dat.unnamed (cfg := cfg0) ⟨23, h⟩ t
    | ⟨24, h⟩ => Dat.unnamed (cfg := cfg0) ⟨24, h⟩ t
    | ⟨25, h⟩ => Dat.unnamed (cfg := cfg0) ⟨25, h⟩ t
    | ⟨26, h⟩ => Dat.unnamed (cfg := cfg0) ⟨26, h⟩ t
    | ⟨27, h⟩ => Dat.unnamed (cfg := cfg0) ⟨27, h⟩ t
    | ⟨28, h⟩ => Dat.unnamed (cfg := cfg0) ⟨28, h⟩ t
    | ⟨29, h⟩ => Dat.unnamed (cfg := cfg0) ⟨29, h⟩ t
    | ⟨_ + 30, h⟩ => absurd h (Nat.not_lt.2 (Nat.le_add_left _ _))
  Φ _ := Pipeline.ΦA spec0 c
  q w := Pipeline.shareOf spec0 w
  owed _ := 0

/-- The arrays are what the region finds. -/
theorem entry (c : Dev nD) (w : Fin cfg0.W) : (dats m 0 c).A w = V m c (Pipeline.arrRef spec0 w) := by
  dsimp only [dats]

/-- Input 0's buffer holds its block when the body runs. -/
theorem found0 (c : Dev nD) (t : Fin cfg0.N) (d) : (dats m 0 c).before 0 t d = (dats m 0 c).after 0 t :=
  before0_0_of m (dats m 0 c) (entry m c 0) (fun _ => by dsimp only [dats]) t d
/-- Input 1's buffer holds its block when the body runs. -/
theorem found1 (c : Dev nD) (t : Fin cfg0.N) (d) : (dats m 0 c).before 1 t d = (dats m 0 c).after 1 t :=
  before0_1_of m (dats m 0 c) (entry m c 1) (fun _ => by dsimp only [dats]) t d
/-- Input 2's buffer holds its block when the body runs. -/
theorem found2 (c : Dev nD) (t : Fin cfg0.N) (d) : (dats m 0 c).before 2 t d = (dats m 0 c).after 2 t :=
  before0_2_of m (dats m 0 c) (entry m c 2) (fun _ => by dsimp only [dats]) t d
/-- Input 3's buffer holds its block when the body runs. -/
theorem found3 (c : Dev nD) (t : Fin cfg0.N) (d) : (dats m 0 c).before 3 t d = (dats m 0 c).after 3 t :=
  before0_3_of m (dats m 0 c) (entry m c 3) (fun _ => by dsimp only [dats]) t d
/-- Input 4's buffer holds its block when the body runs. -/
theorem found4 (c : Dev nD) (t : Fin cfg0.N) (d) : (dats m 0 c).before 4 t d = (dats m 0 c).after 4 t :=
  before0_4_of m (dats m 0 c) (entry m c 4) (fun _ => by dsimp only [dats]) t d
/-- Input 5's buffer holds its block when the body runs. -/
theorem found5 (c : Dev nD) (t : Fin cfg0.N) (d) : (dats m 0 c).before 5 t d = (dats m 0 c).after 5 t :=
  before0_5_of m (dats m 0 c) (entry m c 5) (fun _ => by dsimp only [dats]) t d
/-- Input 6's buffer holds its block when the body runs. -/
theorem found6 (c : Dev nD) (t : Fin cfg0.N) (d) : (dats m 0 c).before 6 t d = (dats m 0 c).after 6 t :=
  before0_6_of m (dats m 0 c) (entry m c 6) (fun _ => by dsimp only [dats]) t d
/-- Input 7's buffer holds its block when the body runs. -/
theorem found7 (c : Dev nD) (t : Fin cfg0.N) (d) : (dats m 0 c).before 7 t d = (dats m 0 c).after 7 t :=
  before0_7_of m (dats m 0 c) (entry m c 7) (fun _ => by dsimp only [dats]) t d
/-- Input 8's buffer holds its block when the body runs. -/
theorem found8 (c : Dev nD) (t : Fin cfg0.N) (d) : (dats m 0 c).before 8 t d = (dats m 0 c).after 8 t :=
  before0_8_of m (dats m 0 c) (entry m c 8) (fun _ => by dsimp only [dats]) t d
/-- Input 9's buffer holds its block when the body runs. -/
theorem found9 (c : Dev nD) (t : Fin cfg0.N) (d) : (dats m 0 c).before 9 t d = (dats m 0 c).after 9 t :=
  before0_9_of m (dats m 0 c) (entry m c 9) (fun _ => by dsimp only [dats]) t d
/-- Input 10's buffer holds its block when the body runs. -/
theorem found10 (c : Dev nD) (t : Fin cfg0.N) (d) : (dats m 0 c).before 10 t d = (dats m 0 c).after 10 t :=
  before0_10_of m (dats m 0 c) (entry m c 10) (fun _ => by dsimp only [dats]) t d
/-- Input 11's buffer holds its block when the body runs. -/
theorem found11 (c : Dev nD) (t : Fin cfg0.N) (d) : (dats m 0 c).before 11 t d = (dats m 0 c).after 11 t :=
  before0_11_of m (dats m 0 c) (entry m c 11) (fun _ => by dsimp only [dats]) t d
/-- Input 12's buffer holds its block when the body runs. -/
theorem found12 (c : Dev nD) (t : Fin cfg0.N) (d) : (dats m 0 c).before 12 t d = (dats m 0 c).after 12 t :=
  before0_12_of m (dats m 0 c) (entry m c 12) (fun _ => by dsimp only [dats]) t d
/-- Input 13's buffer holds its block when the body runs. -/
theorem found13 (c : Dev nD) (t : Fin cfg0.N) (d) : (dats m 0 c).before 13 t d = (dats m 0 c).after 13 t :=
  before0_13_of m (dats m 0 c) (entry m c 13) (fun _ => by dsimp only [dats]) t d
/-- Input 14's buffer holds its block when the body runs. -/
theorem found14 (c : Dev nD) (t : Fin cfg0.N) (d) : (dats m 0 c).before 14 t d = (dats m 0 c).after 14 t :=
  before0_14_of m (dats m 0 c) (entry m c 14) (fun _ => by dsimp only [dats]) t d
/-- Input 15's buffer holds its block when the body runs. -/
theorem found15 (c : Dev nD) (t : Fin cfg0.N) (d) : (dats m 0 c).before 15 t d = (dats m 0 c).after 15 t :=
  before0_15_of m (dats m 0 c) (entry m c 15) (fun _ => by dsimp only [dats]) t d
/-- Input 16's buffer holds its block when the body runs. -/
theorem found16 (c : Dev nD) (t : Fin cfg0.N) (d) : (dats m 0 c).before 16 t d = (dats m 0 c).after 16 t :=
  before0_16_of m (dats m 0 c) (entry m c 16) (fun _ => by dsimp only [dats]) t d
/-- Input 17's buffer holds its block when the body runs. -/
theorem found17 (c : Dev nD) (t : Fin cfg0.N) (d) : (dats m 0 c).before 17 t d = (dats m 0 c).after 17 t :=
  before0_17_of m (dats m 0 c) (entry m c 17) (fun _ => by dsimp only [dats]) t d
/-- Input 18's buffer holds its block when the body runs. -/
theorem found18 (c : Dev nD) (t : Fin cfg0.N) (d) : (dats m 0 c).before 18 t d = (dats m 0 c).after 18 t :=
  before0_18_of m (dats m 0 c) (entry m c 18) (fun _ => by dsimp only [dats]) t d

set_option maxHeartbeats 2000000 in
/-- A body that keeps its nineteen inputs and fills its other buffers with something, restated over what the buffers read. -/
theorem kept_inputs (c : Dev nD) (arg1 : Memref sig .tc .vmem S256x1024 .f32) (arg2 : Memref sig .tc .vmem S256x1792 .f32) (arg3 : Memref sig .tc .vmem S16x512 .f32) (arg4 : Memref sig .tc .vmem S16x256 .f32) (arg5 : Memref sig .tc .vmem S256x512 .f32) (arg6 : Memref sig .tc .vmem S16x512 .f32) (arg7 : Memref sig .tc .vmem S4x512 .f32) (arg8 : Memref sig .tc .vmem S1x512 .f32) (arg9 : Memref sig .tc .vmem S512x1024 .bf16) (arg10 : Memref sig .tc .vmem S1024x512 .bf16) (arg11 : Memref sig .tc .vmem S1x1024 .f32) (arg12 : Memref sig .tc .vmem S1x512 .f32) (arg13 : Memref sig .tc .vmem S256x256 .bf16) (arg14 : Memref sig .tc .vmem S256x256 .bf16) (arg15 : Memref sig .tc .vmem S1x256 .f32) (arg16 : Memref sig .tc .vmem S1x256 .f32) (arg17 : Memref sig .tc .vmem S4x128x128 .bf16) (arg18 : Memref sig .tc .vmem S4x128x128 .bf16) (arg19 : Memref sig .tc .vmem S128x256 .f32) (arg20 : Memref sig .tc .vmem S256x1792 .bf16) (arg21 : Memref sig .tc .vmem S4x512 .f32) (arg22 : Memref sig .tc .vmem S1x512 .f32) (arg23 : Memref sig .tc .vmem S512x1024 .f32) (arg24 : Memref sig .tc .vmem S1x1024 .f32) (arg25 : Memref sig .tc .vmem S1x512 .f32) (arg26 : Memref sig .tc .vmem S256x256 .f32) (arg27 : Memref sig .tc .vmem S1x256 .f32) (arg28 : Memref sig .tc .vmem S1x256 .f32) (arg29 : Memref sig .tc .vmem S4x128x128 .f32) (arg30 : Memref sig .tc .vmem S128x256 .f32) (arg31 : Memref sig .tc .vmem S8x512 .f32) (arg32 : Memref sig .tc .vmem S16x512 .f32) (arg33 : Memref sig .tc .vmem S16x256 .f32) (body : (PUnit → sProp 𝕄) → sProp 𝕄)
    (hrun : ∀ (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (K : PUnit → sProp 𝕄), iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩)) ⊢ body K)
    {D0 : Type} {b0 : D0 → Vec F S256x1024 .f32} {X0 : Vec F S256x1024 .f32} (e0 : ∀ d, b0 d = X0) {D1 : Type} {b1 : D1 → Vec F S256x1792 .f32} {X1 : Vec F S256x1792 .f32} (e1 : ∀ d, b1 d = X1) {D2 : Type} {b2 : D2 → Vec F S16x512 .f32} {X2 : Vec F S16x512 .f32} (e2 : ∀ d, b2 d = X2) {D3 : Type} {b3 : D3 → Vec F S16x256 .f32} {X3 : Vec F S16x256 .f32} (e3 : ∀ d, b3 d = X3) {D4 : Type} {b4 : D4 → Vec F S256x512 .f32} {X4 : Vec F S256x512 .f32} (e4 : ∀ d, b4 d = X4) {D5 : Type} {b5 : D5 → Vec F S16x512 .f32} {X5 : Vec F S16x512 .f32} (e5 : ∀ d, b5 d = X5) {D6 : Type} {b6 : D6 → Vec F S4x512 .f32} {X6 : Vec F S4x512 .f32} (e6 : ∀ d, b6 d = X6) {D7 : Type} {b7 : D7 → Vec F S1x512 .f32} {X7 : Vec F S1x512 .f32} (e7 : ∀ d, b7 d = X7) {D8 : Type} {b8 : D8 → Vec F S512x1024 .bf16} {X8 : Vec F S512x1024 .bf16} (e8 : ∀ d, b8 d = X8) {D9 : Type} {b9 : D9 → Vec F S1024x512 .bf16} {X9 : Vec F S1024x512 .bf16} (e9 : ∀ d, b9 d = X9) {D10 : Type} {b10 : D10 → Vec F S1x1024 .f32} {X10 : Vec F S1x1024 .f32} (e10 : ∀ d, b10 d = X10) {D11 : Type} {b11 : D11 → Vec F S1x512 .f32} {X11 : Vec F S1x512 .f32} (e11 : ∀ d, b11 d = X11) {D12 : Type} {b12 : D12 → Vec F S256x256 .bf16} {X12 : Vec F S256x256 .bf16} (e12 : ∀ d, b12 d = X12) {D13 : Type} {b13 : D13 → Vec F S256x256 .bf16} {X13 : Vec F S256x256 .bf16} (e13 : ∀ d, b13 d = X13) {D14 : Type} {b14 : D14 → Vec F S1x256 .f32} {X14 : Vec F S1x256 .f32} (e14 : ∀ d, b14 d = X14) {D15 : Type} {b15 : D15 → Vec F S1x256 .f32} {X15 : Vec F S1x256 .f32} (e15 : ∀ d, b15 d = X15) {D16 : Type} {b16 : D16 → Vec F S4x128x128 .bf16} {X16 : Vec F S4x128x128 .bf16} (e16 : ∀ d, b16 d = X16) {D17 : Type} {b17 : D17 → Vec F S4x128x128 .bf16} {X17 : Vec F S4x128x128 .bf16} (e17 : ∀ d, b17 d = X17) {D18 : Type} {b18 : D18 → Vec F S128x256 .f32} {X18 : Vec F S128x256 .f32} (e18 : ∀ d, b18 d = X18) (P R Q : sProp 𝕄) (hP : P = iprop(iprop((∃ d, owns (c : Thread nD τ) arg31 fullShare d) ∗ (∃ d, owns (c : Thread nD τ) arg32 fullShare d) ∗ (∃ d, owns (c : Thread nD τ) arg33 fullShare d)) ∗ R)) :
    iprop(P ∗ Q ∗ (∃ d, owns (c : Thread nD τ) arg1 fullShare (b0 d))
    ∗ (∃ d, owns (c : Thread nD τ) arg2 fullShare (b1 d))
    ∗ (∃ d, owns (c : Thread nD τ) arg3 fullShare (b2 d))
    ∗ (∃ d, owns (c : Thread nD τ) arg4 fullShare (b3 d))
    ∗ (∃ d, owns (c : Thread nD τ) arg5 fullShare (b4 d))
    ∗ (∃ d, owns (c : Thread nD τ) arg6 fullShare (b5 d))
    ∗ (∃ d, owns (c : Thread nD τ) arg7 fullShare (b6 d))
    ∗ (∃ d, owns (c : Thread nD τ) arg8 fullShare (b7 d))
    ∗ (∃ d, owns (c : Thread nD τ) arg9 fullShare (b8 d))
    ∗ (∃ d, owns (c : Thread nD τ) arg10 fullShare (b9 d))
    ∗ (∃ d, owns (c : Thread nD τ) arg11 fullShare (b10 d))
    ∗ (∃ d, owns (c : Thread nD τ) arg12 fullShare (b11 d))
    ∗ (∃ d, owns (c : Thread nD τ) arg13 fullShare (b12 d))
    ∗ (∃ d, owns (c : Thread nD τ) arg14 fullShare (b13 d))
    ∗ (∃ d, owns (c : Thread nD τ) arg15 fullShare (b14 d))
    ∗ (∃ d, owns (c : Thread nD τ) arg16 fullShare (b15 d))
    ∗ (∃ d, owns (c : Thread nD τ) arg17 fullShare (b16 d))
    ∗ (∃ d, owns (c : Thread nD τ) arg18 fullShare (b17 d))
    ∗ (∃ d, owns (c : Thread nD τ) arg19 fullShare (b18 d))
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ (∃ d, owns (c : Thread nD τ) arg30 fullShare d)) ⊢ body (fun _ => iprop(P ∗ Q ∗ owns (c : Thread nD τ) arg1 fullShare X0
    ∗ owns (c : Thread nD τ) arg2 fullShare X1
    ∗ owns (c : Thread nD τ) arg3 fullShare X2
    ∗ owns (c : Thread nD τ) arg4 fullShare X3
    ∗ owns (c : Thread nD τ) arg5 fullShare X4
    ∗ owns (c : Thread nD τ) arg6 fullShare X5
    ∗ owns (c : Thread nD τ) arg7 fullShare X6
    ∗ owns (c : Thread nD τ) arg8 fullShare X7
    ∗ owns (c : Thread nD τ) arg9 fullShare X8
    ∗ owns (c : Thread nD τ) arg10 fullShare X9
    ∗ owns (c : Thread nD τ) arg11 fullShare X10
    ∗ owns (c : Thread nD τ) arg12 fullShare X11
    ∗ owns (c : Thread nD τ) arg13 fullShare X12
    ∗ owns (c : Thread nD τ) arg14 fullShare X13
    ∗ owns (c : Thread nD τ) arg15 fullShare X14
    ∗ owns (c : Thread nD τ) arg16 fullShare X15
    ∗ owns (c : Thread nD τ) arg17 fullShare X16
    ∗ owns (c : Thread nD τ) arg18 fullShare X17
    ∗ owns (c : Thread nD τ) arg19 fullShare X18
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ (∃ d, owns (c : Thread nD τ) arg30 fullShare d))) := by
  subst hP
  unfold owns
  iintro ⟨⟨⟨⟨%d30, %g30, %h30, HS0⟩, ⟨%d31, %g31, %h31, HS1⟩, ⟨%d32, %g32, %h32, HS2⟩⟩, Hg⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%d9, %g9, %h9, H9⟩, ⟨%d10, %g10, %h10, H10⟩, ⟨%d11, %g11, %h11, H11⟩, ⟨%d12, %g12, %h12, H12⟩, ⟨%d13, %g13, %h13, H13⟩, ⟨%d14, %g14, %h14, H14⟩, ⟨%d15, %g15, %h15, H15⟩, ⟨%d16, %g16, %h16, H16⟩, ⟨%d17, %g17, %h17, H17⟩, ⟨%d18, %g18, %h18, H18⟩, ⟨%d19, %g19, %h19, H19⟩, ⟨%d20, %g20, %h20, H20⟩, ⟨%d21, %g21, %h21, H21⟩, ⟨%d22, %g22, %h22, H22⟩, ⟨%d23, %g23, %h23, H23⟩, ⟨%d24, %g24, %h24, H24⟩, ⟨%d25, %g25, %h25, H25⟩, ⟨%d26, %g26, %h26, H26⟩, ⟨%d27, %g27, %h27, H27⟩, ⟨%d28, %g28, %h28, H28⟩, ⟨%d29, %g29, %h29, H29⟩⟩
  iapply (hrun g0 g1 g2 g3 g4 g5 g6 g7 g8 g9 g10 g11 g12 g13 g14 g15 g16 g17 g18 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexists _; iexact HS0
  isplitl [HS1]; · iexists _; iexact HS1
  isplitl [HS2]; · iexists _; iexact HS2
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, HS0⟩, ⟨%e31, HS1⟩, ⟨%e32, HS2⟩⟩
  isplitl [HS0 HS1 HS2 Hg]
  · isplitl [HS0 HS1 HS2]
    · isplitl [HS0]; · iexists _; iexists _; isplitr; swap; (iexact HS0); ipureintro; rfl
      isplitl [HS1]; · iexists _; iexists _; isplitr; swap; (iexact HS1); ipureintro; rfl
      iexists _; iexists _; isplitr; swap; (iexact HS2); ipureintro; rfl
    iexact Hg
  isplitl [Ho]; · iexact Ho
  isplitl [H0]; · iexists _; isplitr; swap; (iexact H0); ipureintro; exact h0.trans (e0 d0)
  isplitl [H1]; · iexists _; isplitr; swap; (iexact H1); ipureintro; exact h1.trans (e1 d1)
  isplitl [H2]; · iexists _; isplitr; swap; (iexact H2); ipureintro; exact h2.trans (e2 d2)
  isplitl [H3]; · iexists _; isplitr; swap; (iexact H3); ipureintro; exact h3.trans (e3 d3)
  isplitl [H4]; · iexists _; isplitr; swap; (iexact H4); ipureintro; exact h4.trans (e4 d4)
  isplitl [H5]; · iexists _; isplitr; swap; (iexact H5); ipureintro; exact h5.trans (e5 d5)
  isplitl [H6]; · iexists _; isplitr; swap; (iexact H6); ipureintro; exact h6.trans (e6 d6)
  isplitl [H7]; · iexists _; isplitr; swap; (iexact H7); ipureintro; exact h7.trans (e7 d7)
  isplitl [H8]; · iexists _; isplitr; swap; (iexact H8); ipureintro; exact h8.trans (e8 d8)
  isplitl [H9]; · iexists _; isplitr; swap; (iexact H9); ipureintro; exact h9.trans (e9 d9)
  isplitl [H10]; · iexists _; isplitr; swap; (iexact H10); ipureintro; exact h10.trans (e10 d10)
  isplitl [H11]; · iexists _; isplitr; swap; (iexact H11); ipureintro; exact h11.trans (e11 d11)
  isplitl [H12]; · iexists _; isplitr; swap; (iexact H12); ipureintro; exact h12.trans (e12 d12)
  isplitl [H13]; · iexists _; isplitr; swap; (iexact H13); ipureintro; exact h13.trans (e13 d13)
  isplitl [H14]; · iexists _; isplitr; swap; (iexact H14); ipureintro; exact h14.trans (e14 d14)
  isplitl [H15]; · iexists _; isplitr; swap; (iexact H15); ipureintro; exact h15.trans (e15 d15)
  isplitl [H16]; · iexists _; isplitr; swap; (iexact H16); ipureintro; exact h16.trans (e16 d16)
  isplitl [H17]; · iexists _; isplitr; swap; (iexact H17); ipureintro; exact h17.trans (e17 d17)
  isplitl [H18]; · iexists _; isplitr; swap; (iexact H18); ipureintro; exact h18.trans (e18 d18)
  isplitl [H19]; · iexists _; iexists _; isplitr; swap; (iexact H19); ipureintro; rfl
  isplitl [H20]; · iexists _; iexists _; isplitr; swap; (iexact H20); ipureintro; rfl
  isplitl [H21]; · iexists _; iexists _; isplitr; swap; (iexact H21); ipureintro; rfl
  isplitl [H22]; · iexists _; iexists _; isplitr; swap; (iexact H22); ipureintro; rfl
  isplitl [H23]; · iexists _; iexists _; isplitr; swap; (iexact H23); ipureintro; rfl
  isplitl [H24]; · iexists _; iexists _; isplitr; swap; (iexact H24); ipureintro; rfl
  isplitl [H25]; · iexists _; iexists _; isplitr; swap; (iexact H25); ipureintro; rfl
  isplitl [H26]; · iexists _; iexists _; isplitr; swap; (iexact H26); ipureintro; rfl
  isplitl [H27]; · iexists _; iexists _; isplitr; swap; (iexact H27); ipureintro; rfl
  isplitl [H28]; · iexists _; iexists _; isplitr; swap; (iexact H28); ipureintro; rfl
  iexists _; iexists _; isplitr; swap; (iexact H29); ipureintro; rfl

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

/-- What it hands back. -/
def back (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d))

set_option maxHeartbeats 2000000 in
/-- The body at any point, from the run of the point's case. -/
theorem point (c : Dev nD) (t : Fin cfg0.N) :
    handed m c t ⊢ wp frame (wpE (defs₀ (F := F)) Variants.none c none) Set.univ (bodyAt0 t) (fun _ => back m c t) := by
  have hN : t.val < 32 := lt_of_lt_of_eq t.isLt (show cfg0.N = 32 from N_0)
  by_cases hc0 : cond0_0 (grid0.coords t)
  · have hc1 : ¬cond0_1 (grid0.coords t) := fun h => by
      have h0 := (hcond0_0 t).mp hc0
      have h1 := (hcond0_1 t).mp h
      omega
    exact kept_inputs c _ _ _ _ _ _ _ _ _ _ _ _ _ _ _ _ _ _ _ _ _ _ _ _ _ _ _ _ _ _ _ _ _ _ (fun f0 f1 f2 f3 f4 f5 f6 f7 f8 f9 f10 f11 f12 f13 f14 f15 f16 f17 f18 K =>
            runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 f0 f1 f2 f3 f4 f5 f6 f7 f8 f9 f10 f11 f12 f13 f14 f15 f16 f17 f18 Set.univ K)
            (found0 m c t) (found1 m c t) (found2 m c t) (found3 m c t) (found4 m c t) (found5 m c t) (found6 m c t) (found7 m c t) (found8 m c t) (found9 m c t) (found10 m c t) (found11 m c t) (found12 m c t) (found13 m c t) (found14 m c t) (found15 m c t) (found16 m c t) (found17 m c t) (found18 m c t) _ _ _ (PhiA0_eq c)
  · by_cases hc1 : cond0_1 (grid0.coords t)
    · exact kept_inputs c _ _ _ _ _ _ _ _ _ _ _ _ _ _ _ _ _ _ _ _ _ _ _ _ _ _ _ _ _ _ _ _ _ _ (fun f0 f1 f2 f3 f4 f5 f6 f7 f8 f9 f10 f11 f12 f13 f14 f15 f16 f17 f18 K =>
            runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 f0 f1 f2 f3 f4 f5 f6 f7 f8 f9 f10 f11 f12 f13 f14 f15 f16 f17 f18 Set.univ K)
            (found0 m c t) (found1 m c t) (found2 m c t) (found3 m c t) (found4 m c t) (found5 m c t) (found6 m c t) (found7 m c t) (found8 m c t) (found9 m c t) (found10 m c t) (found11 m c t) (found12 m c t) (found13 m c t) (found14 m c t) (found15 m c t) (found16 m c t) (found17 m c t) (found18 m c t) _ _ _ (PhiA0_eq c)
    · exact kept_inputs c _ _ _ _ _ _ _ _ _ _ _ _ _ _ _ _ _ _ _ _ _ _ _ _ _ _ _ _ _ _ _ _ _ _ (fun f0 f1 f2 f3 f4 f5 f6 f7 f8 f9 f10 f11 f12 f13 f14 f15 f16 f17 f18 K =>
            runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 f0 f1 f2 f3 f4 f5 f6 f7 f8 f9 f10 f11 f12 f13 f14 f15 f16 f17 f18 Set.univ K)
            (found0 m c t) (found1 m c t) (found2 m c t) (found3 m c t) (found4 m c t) (found5 m c t) (found6 m c t) (found7 m c t) (found8 m c t) (found9 m c t) (found10 m c t) (found11 m c t) (found12 m c t) (found13 m c t) (found14 m c t) (found15 m c t) (found16 m c t) (found17 m c t) (found18 m c t) _ _ _ (PhiA0_eq c)

/-- The body table's row at a point is the body there. -/
theorem row (t : Fin cfg0.N) : defs₀ (F := F) .tc cfg0.body (cfg0.bodyArgs t (cfg0.slots t)) = bodyAt0 t := by
  unfold defs₀; rw [Defs.onTc_tc]

set_option maxHeartbeats 2000000 in
/-- The same as the pipeline asks for it. -/
theorem every_point (c : Dev nD) : BodyObligation (dats (F := F) m 0 c) (defs₀ (F := F)) Variants.none () Set.univ free := fun t => by
  rw [bigSep_W0, bigSep_W0, row]
  exact triple_restated (point m c t) rfl .rfl fun _ => .rfl

-- the launch theorem's implicit arguments are found by unifying its conclusion with this one
set_option backward.isDefEq.respectTransparency.types false in
/-- The whole program ends, with every semaphore at zero, each input array as the region found it, and every buffer outside the pipeline too. -/
theorem run_ends : θ_run defs (onTc (τ := τ) (main (F := F))) (s₀ m ρ)
    (fun r => (Pipeline.RDat.FramePost (cfgs 0) (fun c => (dats m 0 c).toRForget free) (V m)) r ∧ r.2.sem = fun _ => 0) :=
  Pipeline.θ_run_frame_track_forget_shared (Q' := _) cfgs (dats m) (0 : Fin 1) launch₀0 defs₀ Variants.none free m ρ main
    (hbody := fun c => (every_point m c).loose) (hq := fun _ _ _ => rfl)
    (howed := fun _ _ => rfl) (V := V m) (hmain := hmain m Variants.none) (hA := entry m) (hin := fun _ => .rfl) (hout := fun _ => .rfl)

set_option maxHeartbeats 1800000 in
/-- The argument arrays end unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h.1 c 0 rfl).trans ((entry m c 0).trans (V_main_arg0 m c)),
      (Pipeline.RDat.FramePost.arr_in h.1 c 3 rfl).trans ((entry m c 3).trans (V_main_arg1 m c)),
      (Pipeline.RDat.FramePost.arr_in h.1 c 5 rfl).trans ((entry m c 5).trans (V_main_arg2 m c)),
      (Pipeline.RDat.FramePost.arr_in h.1 c 6 rfl).trans ((entry m c 6).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩) (run_ends m ρ)

/-- The kernel's frame: it ends, its arguments are unchanged and its semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (kept m ρ) ((θ_run defs _ _).mono (fun _ h => h.2) (run_ends m ρ))

end Cert.KernelIdeal.Own

end
-- ==== Proof.Alg.lean ====
/- Facts about sums and about the root mean square over the extended reals, free of any program: a sum over a row padded with
   zeros, a sum over two halves laid end to end, and the gradient of `x ↦ x · rsqrt (mean x² + ε) · g` in the two forms it is
   written in. -/
module

public import Idealize.ShloMosaic.Lib.Pipeline.ValueKit
public import Idealize.ShloMosaic.PureOps.Ideal.Laws

@[expose] public section

noncomputable section

open Idealize.ShloMosaic
open scoped BigOperators

namespace Cert.Alg

/-- A row of 2752 numbers as the kernel stores it: two halves of 1376, each followed by 32 zeros. -/
def padded (f : Fin 2752 → EReal) (k : Fin 2816) : EReal :=
  if h : k.val < 1376 then f ⟨k.val, by omega⟩ else if k.val < 1408 then 0
    else if h : k.val < 2784 then f ⟨k.val - 32, by omega⟩ else 0

/-- A sum over four stretches is the four sums. -/
theorem sum_four (f : Fin 2816 → EReal) : ∑ k, f k = ∑ k : Fin 1376, f ⟨k.val, by omega⟩ + ∑ k : Fin 32, f ⟨1376 + k.val, by omega⟩
    + ∑ k : Fin 1376, f ⟨1408 + k.val, by omega⟩ + ∑ k : Fin 32, f ⟨2784 + k.val, by omega⟩ := by
  have e : ∑ k, f k = ∑ k : Fin (1376 + 32 + 1376 + 32), f (Fin.cast (by norm_num) k) :=
    (Equiv.sum_comp (finCongr (by norm_num : 1376 + 32 + 1376 + 32 = 2816)) f).symm
  rw [e, Fin.sum_univ_add, Fin.sum_univ_add, Fin.sum_univ_add]
  rfl

/-- A sum over two stretches of 1376 is the two sums. -/
theorem sum_two (f : Fin 2752 → EReal) : ∑ k, f k = ∑ k : Fin 1376, f ⟨k.val, by omega⟩ + ∑ k : Fin 1376, f ⟨1376 + k.val, by omega⟩ := by
  have e : ∑ k, f k = ∑ k : Fin (1376 + 1376), f (Fin.cast (by norm_num) k) :=
    (Equiv.sum_comp (finCongr (by norm_num : 1376 + 1376 = 2752)) f).symm
  rw [e, Fin.sum_univ_add]
  rfl

/-- A sum over 5504 numbers is the sum over the first 2752 and the sum over the rest. -/
theorem sum_halves (f : Fin 5504 → EReal) : ∑ k, f k = ∑ k : Fin 2752, f ⟨k.val, by omega⟩ + ∑ k : Fin 2752, f ⟨2752 + k.val, by omega⟩ := by
  have e : ∑ k, f k = ∑ k : Fin (2752 + 2752), f (Fin.cast (by norm_num) k) :=
    (Equiv.sum_comp (finCongr (by norm_num : 2752 + 2752 = 5504)) f).symm
  rw [e, Fin.sum_univ_add]
  rfl

/-- The zeros between and after the halves add nothing to a product of two padded rows. -/
theorem sum_padded (f g : Fin 2752 → EReal) : ∑ k, padded f k * padded g k = ∑ k, f k * g k := by
  rw [sum_four, sum_two]
  have h0 : ∀ k : Fin 32, padded f ⟨1376 + k.val, by omega⟩ * padded g ⟨1376 + k.val, by omega⟩ = 0 := fun k => by
    have hp : ∀ f, padded f ⟨1376 + k.val, by omega⟩ = 0 := fun f => by
      unfold padded
      rw [dif_neg (by simp), if_pos (by simp; omega)]
    rw [hp, hp, mul_zero]
  have h1 : ∀ k : Fin 32, padded f ⟨2784 + k.val, by omega⟩ * padded g ⟨2784 + k.val, by omega⟩ = 0 := fun k => by
    have hp : ∀ f, padded f ⟨2784 + k.val, by omega⟩ = 0 := fun f => by
      unfold padded
      rw [dif_neg (by simp; omega), if_neg (by simp; omega), dif_neg (by simp)]
    rw [hp, hp, mul_zero]
  have h2 : ∀ (f : Fin 2752 → EReal) (k : Fin 1376), padded f ⟨k.val, by omega⟩ = f ⟨k.val, by omega⟩ := fun f k => by
    unfold padded
    rw [dif_pos k.isLt]
  have h3 : ∀ (f : Fin 2752 → EReal) (k : Fin 1376), padded f ⟨1408 + k.val, by omega⟩ = f ⟨1376 + k.val, by omega⟩ := fun f k => by
    unfold padded
    rw [dif_neg (by simp; omega), if_neg (by simp), dif_pos (by simp; omega)]
    congr 1
    apply Fin.ext
    simp
    omega
  simp only [h0, h1, h2, h3, Finset.sum_const_zero, add_zero]

/-- `f32`'s `1024` is the number 1024. -/
theorem lit_1024 : Ideal.ofBits .f32 0x44800000#32 = ((1024 : ℝ) : EReal) := by
  simp [Ideal.ofBits, Ideal.ieee]
  norm_num [← EReal.coe_mul]

/-- `f32`'s `-0.5` is the number -1/2. -/
theorem lit_neg_half : Ideal.ofBits .f32 0xBF000000#32 = ((-(1 / 2) : ℝ) : EReal) := by
  simp [Ideal.ofBits, Ideal.ieee]
  norm_num [← EReal.coe_mul]

/-- The guard `ε` in the root mean square is a positive number. -/
theorem lit_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A square is not negative. -/
theorem sq_nonneg' (x : EReal) : 0 ≤ x * x := by
  rcases le_total 0 x with h | h
  · exact mul_nonneg h h
  · have h' : 0 ≤ -x := by simpa using EReal.neg_le_neg_iff.mpr h
    have := mul_nonneg h' h'
    rwa [neg_mul_neg] at this

/-- The number under the root is infinite, or a positive real. -/
theorem under_root {n : Nat} (x : Fin n → EReal) :
    Ideal.div (∑ k, x k * x k) (Ideal.ofBits .f32 0x44800000#32) + Ideal.ofBits .f32 0x358637BD#32 = ⊤
      ∨ ∃ p : ℝ, 0 < p ∧ Ideal.div (∑ k, x k * x k) (Ideal.ofBits .f32 0x44800000#32) + Ideal.ofBits .f32 0x358637BD#32 = (p : EReal) := by
  obtain ⟨e, he, hl⟩ := lit_eps
  rw [lit_1024, hl]
  have h0 : 0 ≤ ∑ k, x k * x k := Finset.sum_nonneg fun k _ => sq_nonneg' _
  generalize ∑ k, x k * x k = s at h0 ⊢
  have hd : Ideal.div s ((1024 : ℝ) : EReal) = s * (((1024 : ℝ)⁻¹ : ℝ) : EReal) := by
    unfold Ideal.div
    rw [if_neg (by norm_num), EReal.coe_inv]
  rw [hd]
  induction s with
  | bot => simp at h0
  | coe r =>
    right
    have hr : 0 ≤ r := EReal.coe_nonneg.mp h0
    exact ⟨r * (1024 : ℝ)⁻¹ + e, by positivity, by rw [EReal.coe_add, EReal.coe_mul]⟩
  | top =>
    left
    rw [EReal.top_mul_coe_of_pos (by norm_num), EReal.top_add_coe]

/-- A real factor that is not negative goes through a sum. -/
theorem sum_mul_real {n : Nat} (f : Fin n → EReal) (r : ℝ) (hr : 0 ≤ r) : ∑ k, f k * (r : EReal) = (∑ k, f k) * (r : EReal) := by
  have h : ∀ s : Finset (Fin n), ∑ k ∈ s, f k * (r : EReal) = (∑ k ∈ s, f k) * (r : EReal) := fun s => by
    induction s using Finset.induction_on with
    | empty => simp
    | insert a s ha ih =>
      rw [Finset.sum_insert ha, Finset.sum_insert ha, ih, EReal.right_distrib_of_nonneg_of_ne_top (EReal.coe_nonneg.mpr hr) (EReal.coe_ne_top r)]
  exact h _

/-- Two equal negative multiples are the double's. -/
theorem neg_add_of_real (w : EReal) {r : ℝ} (hr : 0 ≤ r) : -(((r + r : ℝ) : EReal) * w) = -((r : EReal) * w) + -((r : EReal) * w) := by
  rw [EReal.coe_add, EReal.right_distrib_of_nonneg (EReal.coe_nonneg.mpr hr) (EReal.coe_nonneg.mpr hr), ← neg_one_mul,
    ← neg_one_mul ((r : EReal) * w), ← mul_assoc]
  have h : (-1 : EReal) = ((-1 : ℝ) : EReal) := by norm_num
  rw [h]
  induction w with
  | bot =>
    rcases hr.eq_or_lt with rfl | hr
    · simp
    · simp [EReal.coe_mul_bot_of_pos hr]
  | coe w => norm_cast; push_cast; norm_cast; ring_nf
  | top =>
    rcases hr.eq_or_lt with rfl | hr
    · simp
    · simp [EReal.coe_mul_top_of_pos hr]

/-- The gradient of `x ↦ x · rsqrt (mean x² + ε) · g` in the closed form and as the chain rule spells it. -/
theorem rms_bwd {n : Nat} (x d : Fin n → EReal) (r : EReal) (i : Fin n) (v : EReal) (hv : v = ⊤ ∨ ∃ p : ℝ, 0 < p ∧ v = (p : EReal)) :
    r + Ideal.rsqrt v * (d i - x i * Ideal.rsqrt v * Ideal.div (∑ k, d k * (x k * Ideal.rsqrt v)) (Ideal.ofBits .f32 0x44800000#32))
    = r + d i * Ideal.rsqrt v
      + x i * Ideal.div ((∑ k, x k * d k) * (Ideal.ofBits .f32 0xBF000000#32 * Ideal.div (Ideal.rsqrt v) v)) (Ideal.ofBits .f32 0x44800000#32)
      + Ideal.div ((∑ k, x k * d k) * (Ideal.ofBits .f32 0xBF000000#32 * Ideal.div (Ideal.rsqrt v) v)) (Ideal.ofBits .f32 0x44800000#32) * x i := by
  rw [lit_1024, lit_neg_half]
  have hd : ∀ s, Ideal.div s ((1024 : ℝ) : EReal) = s * (((1024 : ℝ)⁻¹ : ℝ) : EReal) := fun s => by
    unfold Ideal.div
    rw [if_neg (by norm_num), EReal.coe_inv]
  simp only [hd]
  rcases hv with rfl | ⟨p, hp, rfl⟩
  · have h0 : Ideal.rsqrt ⊤ = 0 := rfl
    have h1 : Ideal.div 0 ⊤ = 0 := by simp [Ideal.div]
    simp [h0, h1]
  · have h0 : Ideal.rsqrt (p : EReal) = (((Real.sqrt p)⁻¹ : ℝ) : EReal) := by
      show (if p < 0 then ⊥ else if p = 0 then ⊤ else (((Real.sqrt p)⁻¹ : ℝ) : EReal)) = _
      rw [if_neg (not_lt.mpr hp.le), if_neg hp.ne']
    have h1 : Ideal.div (((Real.sqrt p)⁻¹ : ℝ) : EReal) (p : EReal) = (((Real.sqrt p)⁻¹ * p⁻¹ : ℝ) : EReal) := by
      unfold Ideal.div
      rw [if_neg (by exact_mod_cast hp.ne'), ← EReal.coe_inv, ← EReal.coe_mul]
    rw [h0, h1]
    set ρ : ℝ := (Real.sqrt p)⁻¹ with hρ
    have hρ0 : 0 < ρ := by positivity
    have hρ2 : ρ * ρ = p⁻¹ := by rw [hρ, ← mul_inv, Real.mul_self_sqrt hp.le]
    have hs : ∑ k, d k * (x k * (ρ : EReal)) = (∑ k, x k * d k) * (ρ : EReal) := by
      rw [← sum_mul_real _ _ hρ0.le]
      exact Finset.sum_congr rfl fun k _ => by rw [← mul_assoc, mul_comm (d k)]
    rw [hs]
    generalize ∑ k, x k * d k = S
    have hl : 0 ≤ 1 / 2 * (ρ * p⁻¹) * (1024 : ℝ)⁻¹ := by positivity
    have e1 : x i * (S * ((((-(1 / 2) : ℝ)) : EReal) * ((ρ * p⁻¹ : ℝ) : EReal)) * (((1024 : ℝ)⁻¹ : ℝ) : EReal))
        = -(((1 / 2 * (ρ * p⁻¹) * (1024 : ℝ)⁻¹ : ℝ) : EReal) * (x i * S)) := by
      rw [← EReal.coe_mul, mul_assoc S, ← EReal.coe_mul, show -(1 / 2) * (ρ * p⁻¹) * (1024 : ℝ)⁻¹ = -(1 / 2 * (ρ * p⁻¹) * (1024 : ℝ)⁻¹) by ring, EReal.coe_neg,
        mul_neg, mul_neg, ← mul_assoc, mul_comm (x i * S)]
    rw [mul_comm _ (x i), e1, add_assoc, ← neg_add_of_real (x i * S) hl, add_assoc]
    congr 1
    rw [sub_eq_add_neg, EReal.left_distrib_of_nonneg_of_ne_top (EReal.coe_nonneg.mpr hρ0.le) (EReal.coe_ne_top ρ), mul_comm (ρ : EReal) (d i), mul_neg]
    congr 2
    have e2 : (ρ : EReal) * (x i * (ρ : EReal) * (S * (ρ : EReal) * (((1024 : ℝ)⁻¹ : ℝ) : EReal)))
        = ((ρ : EReal) * (ρ : EReal) * (ρ : EReal) * (((1024 : ℝ)⁻¹ : ℝ) : EReal)) * (x i * S) := by
      ac_rfl
    rw [e2, ← EReal.coe_mul, ← EReal.coe_mul, ← EReal.coe_mul, hρ2]
    congr 2
    ring

end Cert.Alg

end
-- ==== Proof.DhRms.lean ====
/- The gradient through a normalisation and two products (`_dh_rms_bwd` at the feed-forward layer): the padded rows and columns the host lays
   out, the body's block of the input's gradient and of its half, and the gain's gradient summed over the grid, against
   what `jax.vjp` takes of `rmsnorm` and the two products. -/
module

public import proofs.«01_k».proof.Proof.Gen.Kernel2Ideal.Value
public import proofs.«01_k».proof.Proof.Gen.Reference2Ideal.Read
public import proofs.«01_k».proof.Proof.Alg
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)
open scoped BigOperators

namespace Cert.Kernel2Ideal.Own

open Cert.Kernel2Ideal Cert.Kernel2Ideal.Gen

variable (m : (ℓ : Loc nD τ sig) → Buf (Elt Ideal) ℓ)

/-- Running two lines of operations one after the other is running their concatenation. -/
theorem after_two {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l₁ ih => exact ih _

/-- What the host leaves in `v0`. -/
abbrev B0 (c : Dev nD) : FVec Ideal S8192x32 .f32 := V m c main_v0
/-- What the host leaves in `v3`. -/
abbrev B3 (c : Dev nD) : FVec Ideal S4x1376x1024 .bf16 := V m c main_v3
/-- What the host leaves in `v4`. -/
abbrev B4 (c : Dev nD) : FVec Ideal S32x1024 .bf16 := V m c main_v4
/-- What the host leaves in `v6`. -/
abbrev B6 (c : Dev nD) : FVec Ideal S1376x1024 .bf16 := V m c main_v6
/-- What the host leaves in `v8`. -/
abbrev B8 (c : Dev nD) : FVec Ideal S1376x1024 .bf16 := V m c main_v8
/-- What the host leaves in `v9`. -/
abbrev B9 (c : Dev nD) : FVec Ideal S2816x1024 .bf16 := V m c main_v9
/-- What the host leaves in `v11`. -/
abbrev B11 (c : Dev nD) : FVec Ideal S1376x1024 .bf16 := V m c main_v11
/-- What the host leaves in `v13`. -/
abbrev B13 (c : Dev nD) : FVec Ideal S1376x1024 .bf16 := V m c main_v13
/-- What the host leaves in `v14`. -/
abbrev B14 (c : Dev nD) : FVec Ideal S2816x1024 .bf16 := V m c main_v14
/-- What the host leaves in `v15`. -/
abbrev B15 (c : Dev nD) : FVec Ideal S8192x1376 .f32 := V m c main_v15
/-- What the host leaves in `v16`. -/
abbrev B16 (c : Dev nD) : FVec Ideal S8192x1376 .f32 := V m c main_v16
/-- What the host leaves in `v18`. -/
abbrev B18 (c : Dev nD) : FVec Ideal S8192x2816 .bf16 := V m c main_v18
/-- What the host leaves in `v19`. -/
abbrev B19 (c : Dev nD) : FVec Ideal S8192x1376 .f32 := V m c main_v19
/-- What the host leaves in `v20`. -/
abbrev B20 (c : Dev nD) : FVec Ideal S8192x1376 .f32 := V m c main_v20
/-- What the host leaves in `v22`. -/
abbrev B22 (c : Dev nD) : FVec Ideal S8192x2816 .bf16 := V m c main_v22
/-- What the host leaves in `v23`. -/
abbrev B23 (c : Dev nD) : FVec Ideal S1x1024 .f32 := V m c main_v23

set_option maxHeartbeats 1000000 in
/-- `v9` is the four pieces laid end to end. -/
theorem laid9 (c : Dev nD) : B9 m c = concatenate S2816x1024 0 [⟨S1376x1024, B6 m c⟩, ⟨S32x1024, B4 m c⟩, ⟨S1376x1024, B8 m c⟩,
    ⟨S32x1024, B4 m c⟩] concatenates_S1376x1024_S32x1024_S1376x1024_S32x1024_S2816x1024_d0 := by
  unfold B9 B6 B4 B8 V
  rw [← List.take_append_drop 11 (hostOps0 (F := Ideal)), after_two]
  generalize StableHlo.after (List.take 11 (hostOps0 (F := Ideal))) _ = σ
  simp only [hostOps0, List.drop]
  after_results
  rfl

set_option maxHeartbeats 1000000 in
/-- `v14` is the four pieces laid end to end. -/
theorem laid14 (c : Dev nD) : B14 m c = concatenate S2816x1024 0 [⟨S1376x1024, B11 m c⟩, ⟨S32x1024, B4 m c⟩, ⟨S1376x1024, B13 m c⟩,
    ⟨S32x1024, B4 m c⟩] concatenates_S1376x1024_S32x1024_S1376x1024_S32x1024_S2816x1024_d0 := by
  unfold B14 B11 B4 B13 V
  rw [← List.take_append_drop 16 (hostOps0 (F := Ideal)), after_two]
  generalize StableHlo.after (List.take 16 (hostOps0 (F := Ideal))) _ = σ
  simp only [hostOps0, List.drop]
  after_results
  rfl

set_option maxHeartbeats 1000000 in
/-- `v18` is the four pieces laid end to end. -/
theorem laid18 (c : Dev nD) : B18 m c = truncf .bf16 (concatenate S8192x2816 1 [⟨S8192x1376, B15 m c⟩, ⟨S8192x32, B0 m c⟩, ⟨S8192x1376, B16 m c⟩,
    ⟨S8192x32, B0 m c⟩] concatenates_S8192x1376_S8192x32_S8192x1376_S8192x32_S8192x2816_d1) bitsLt_bf16_f32 := by
  unfold B18 B15 B0 B16 V
  rw [← List.take_append_drop 19 (hostOps0 (F := Ideal)), after_two]
  generalize StableHlo.after (List.take 19 (hostOps0 (F := Ideal))) _ = σ
  simp only [hostOps0, List.drop]
  after_results
  rfl

set_option maxHeartbeats 1000000 in
/-- `v22` is the four pieces laid end to end. -/
theorem laid22 (c : Dev nD) : B22 m c = truncf .bf16 (concatenate S8192x2816 1 [⟨S8192x1376, B19 m c⟩, ⟨S8192x32, B0 m c⟩, ⟨S8192x1376, B20 m c⟩,
    ⟨S8192x32, B0 m c⟩] concatenates_S8192x1376_S8192x32_S8192x1376_S8192x32_S8192x2816_d1) bitsLt_bf16_f32 := by
  unfold B22 B19 B0 B20 V
  rw [← List.take_append_drop 23 (hostOps0 (F := Ideal)), after_two]
  generalize StableHlo.after (List.take 23 (hostOps0 (F := Ideal))) _ = σ
  simp only [hostOps0, List.drop]
  after_results
  rfl

/-- The zeros after a half. -/
theorem at0 (c : Dev nD) (j) : B0 m c j = 0 := by
  unfold B0
  entry_read
  pointwise

/-- The zero rows after a half. -/
theorem at4 (c : Dev nD) (j) : B4 m c j = 0 := by
  unfold B4
  entry_read
  pointwise

/-- Quarter 0 of the transposed weight. -/
theorem at6 (c : Dev nD) (j) : B6 m c j = (m ((c : Thread nD τ).loc main_arg2) : FVec Ideal S1024x5504 .f32) (ix2 (j 1) ⟨0 + (j 0).val, by have := (j 0).isLt; simp at this; omega⟩) := by
  unfold B6
  entry_read
  pointwise

/-- Quarter 1 of the transposed weight. -/
theorem at8 (c : Dev nD) (j) : B8 m c j = (m ((c : Thread nD τ).loc main_arg2) : FVec Ideal S1024x5504 .f32) (ix2 (j 1) ⟨1376 + (j 0).val, by have := (j 0).isLt; simp at this; omega⟩) := by
  unfold B8
  entry_read
  pointwise

/-- Quarter 2 of the transposed weight. -/
theorem at11 (c : Dev nD) (j) : B11 m c j = (m ((c : Thread nD τ).loc main_arg2) : FVec Ideal S1024x5504 .f32) (ix2 (j 1) ⟨2752 + (j 0).val, by have := (j 0).isLt; simp at this; omega⟩) := by
  unfold B11
  entry_read
  pointwise

/-- Quarter 3 of the transposed weight. -/
theorem at13 (c : Dev nD) (j) : B13 m c j = (m ((c : Thread nD τ).loc main_arg2) : FVec Ideal S1024x5504 .f32) (ix2 (j 1) ⟨4128 + (j 0).val, by have := (j 0).isLt; simp at this; omega⟩) := by
  unfold B13
  entry_read
  pointwise

/-- Half of the gradient. -/
theorem at15 (c : Dev nD) (j) : B15 m c j = (m ((c : Thread nD τ).loc main_arg0) : FVec Ideal S8192x2752 .f32) (ix2 (j 0) ⟨0 + (j 1).val, by have := (j 1).isLt; simp at this; omega⟩) := by
  unfold B15
  entry_read
  pointwise

/-- Half of the gradient. -/
theorem at16 (c : Dev nD) (j) : B16 m c j = (m ((c : Thread nD τ).loc main_arg0) : FVec Ideal S8192x2752 .f32) (ix2 (j 0) ⟨1376 + (j 1).val, by have := (j 1).isLt; simp at this; omega⟩) := by
  unfold B16
  entry_read
  pointwise

/-- Half of the gradient. -/
theorem at19 (c : Dev nD) (j) : B19 m c j = (m ((c : Thread nD τ).loc main_arg1) : FVec Ideal S8192x2752 .f32) (ix2 (j 0) ⟨0 + (j 1).val, by have := (j 1).isLt; simp at this; omega⟩) := by
  unfold B19
  entry_read
  pointwise

/-- Half of the gradient. -/
theorem at20 (c : Dev nD) (j) : B20 m c j = (m ((c : Thread nD τ).loc main_arg1) : FVec Ideal S8192x2752 .f32) (ix2 (j 0) ⟨1376 + (j 1).val, by have := (j 1).isLt; simp at this; omega⟩) := by
  unfold B20
  entry_read
  pointwise

/-- The gain as a row. -/
theorem at23 (c : Dev nD) (j) : B23 m c j = (m ((c : Thread nD τ).loc main_arg4) : FVec Ideal S1024 .f32) (ix1 (j 1)) := by
  unfold B23
  entry_read
  pointwise

/-- Two halves of a row, each with its zeros after it, are the padded row. -/
theorem four_cols (a b : FVec Ideal S8192x1376 .f32) (z : FVec Ideal S8192x32 .f32) (f : Fin 2752 → EReal) (i : Fin 8192) (k : Fin 2816)
    (ha : ∀ n : Fin 1376, a (ix2 i n) = f ⟨n.val, by omega⟩) (hz : ∀ n : Fin 32, z (ix2 i n) = 0) (hb : ∀ n : Fin 1376, b (ix2 i n) = f ⟨1376 + n.val, by omega⟩) :
    (concatenate S8192x2816 1 [⟨S8192x1376, a⟩, ⟨S8192x32, z⟩, ⟨S8192x1376, b⟩,
    ⟨S8192x32, z⟩] concatenates_S8192x1376_S8192x32_S8192x1376_S8192x32_S8192x2816_d1 : FVec Ideal S8192x2816 .f32) (ix2 i k) = Cert.Alg.padded f k := by
  pointwise
  unfold Cert.Alg.padded
  by_cases h1 : k.val < 1376
  · rw [dif_pos h1, dif_pos h1]
    exact ha _
  · by_cases h2 : k.val < 1408
    · rw [dif_neg h1, dif_pos (by omega), dif_neg h1, if_pos h2]
      exact hz _
    · by_cases h3 : k.val < 2784
      · rw [dif_neg h1, dif_neg (by omega), dif_pos (by omega), dif_neg h1, if_neg h2, dif_pos h3]
        exact (hb _).trans (congrArg f (Fin.ext (by simp; omega)))
      · rw [dif_neg h1, dif_neg (by omega), dif_neg (by omega), dif_neg h1, if_neg h2, dif_neg h3]
        exact hz _

/-- The same of columns. -/
theorem four_rows (a b : FVec Ideal S1376x1024 .bf16) (z : FVec Ideal S32x1024 .bf16) (f : Fin 2752 → EReal) (i : Fin 1024) (k : Fin 2816)
    (ha : ∀ n : Fin 1376, a (ix2 n i) = f ⟨n.val, by omega⟩) (hz : ∀ n : Fin 32, z (ix2 n i) = 0) (hb : ∀ n : Fin 1376, b (ix2 n i) = f ⟨1376 + n.val, by omega⟩) :
    (concatenate S2816x1024 0 [⟨S1376x1024, a⟩, ⟨S32x1024, z⟩, ⟨S1376x1024, b⟩,
    ⟨S32x1024, z⟩] concatenates_S1376x1024_S32x1024_S1376x1024_S32x1024_S2816x1024_d0 : FVec Ideal S2816x1024 .bf16) (ix2 k i) = Cert.Alg.padded f k := by
  pointwise
  unfold Cert.Alg.padded
  by_cases h1 : k.val < 1376
  · rw [dif_pos h1, dif_pos h1]
    exact ha _
  · by_cases h2 : k.val < 1408
    · rw [dif_neg h1, dif_pos (by omega), dif_neg h1, if_pos h2]
      exact hz _
    · by_cases h3 : k.val < 2784
      · rw [dif_neg h1, dif_neg (by omega), dif_pos (by omega), dif_neg h1, if_neg h2, dif_pos h3]
        exact (hb _).trans (congrArg f (Fin.ext (by simp; omega)))
      · rw [dif_neg h1, dif_neg (by omega), dif_neg (by omega), dif_neg h1, if_neg h2, dif_neg h3]
        exact hz _

/-- A row of the gate's gradient as the kernel reads it. -/
theorem row18 (c : Dev nD) (i : Fin 8192) (k : Fin 2816) : B18 m c (ix2 i k) = Cert.Alg.padded (fun n => (m ((c : Thread nD τ).loc main_arg0) : FVec Ideal S8192x2752 .f32) (ix2 i n)) k := by
  rw [laid18]
  exact four_cols _ _ _ _ i k (fun n => (at15 m c _).trans (congrArg (m ((c : Thread nD τ).loc main_arg0) : FVec Ideal S8192x2752 .f32) (congrArg (ix2 i) (Fin.ext (by simp))))) (fun n => at0 m c _)
    (fun n => (at16 m c _).trans (congrArg (m ((c : Thread nD τ).loc main_arg0) : FVec Ideal S8192x2752 .f32) (congrArg (ix2 i) (Fin.ext (by simp <;> omega)))))

/-- A row of the up projection's gradient as the kernel reads it. -/
theorem row22 (c : Dev nD) (i : Fin 8192) (k : Fin 2816) : B22 m c (ix2 i k) = Cert.Alg.padded (fun n => (m ((c : Thread nD τ).loc main_arg1) : FVec Ideal S8192x2752 .f32) (ix2 i n)) k := by
  rw [laid22]
  exact four_cols _ _ _ _ i k (fun n => (at19 m c _).trans (congrArg (m ((c : Thread nD τ).loc main_arg1) : FVec Ideal S8192x2752 .f32) (congrArg (ix2 i) (Fin.ext (by simp))))) (fun n => at0 m c _)
    (fun n => (at20 m c _).trans (congrArg (m ((c : Thread nD τ).loc main_arg1) : FVec Ideal S8192x2752 .f32) (congrArg (ix2 i) (Fin.ext (by simp <;> omega)))))

/-- A column of the gate's weight as the kernel reads it. -/
theorem row9 (c : Dev nD) (i : Fin 1024) (k : Fin 2816) : B9 m c (ix2 k i) = Cert.Alg.padded (fun n => (m ((c : Thread nD τ).loc main_arg2) : FVec Ideal S1024x5504 .f32) (ix2 i ⟨0 + n.val, by omega⟩)) k := by
  rw [laid9]
  exact four_rows _ _ _ _ i k (fun n => (at6 m c _).trans (congrArg (m ((c : Thread nD τ).loc main_arg2) : FVec Ideal S1024x5504 .f32) (congrArg (ix2 i) (Fin.ext (by simp))))) (fun n => at4 m c _)
    (fun n => (at8 m c _).trans (congrArg (m ((c : Thread nD τ).loc main_arg2) : FVec Ideal S1024x5504 .f32) (congrArg (ix2 i) (Fin.ext (by simp <;> omega)))))

/-- A column of the up projection's weight as the kernel reads it. -/
theorem row14 (c : Dev nD) (i : Fin 1024) (k : Fin 2816) : B14 m c (ix2 k i) = Cert.Alg.padded (fun n => (m ((c : Thread nD τ).loc main_arg2) : FVec Ideal S1024x5504 .f32) (ix2 i ⟨2752 + n.val, by omega⟩)) k := by
  rw [laid14]
  exact four_rows _ _ _ _ i k (fun n => (at11 m c _).trans (congrArg (m ((c : Thread nD τ).loc main_arg2) : FVec Ideal S1024x5504 .f32) (congrArg (ix2 i) (Fin.ext (by simp))))) (fun n => at4 m c _)
    (fun n => (at13 m c _).trans (congrArg (m ((c : Thread nD τ).loc main_arg2) : FVec Ideal S1024x5504 .f32) (congrArg (ix2 i) (Fin.ext (by simp <;> omega)))))

/-- Every window's block at a grid point, decided over the grid. -/
theorem idx : ∀ t : Fin cfg0.N, win0_0.index t = ![t.val, 0]
    ∧ win0_1.index t = ![0, 0] ∧ win0_2.index t = ![t.val, 0] ∧ win0_3.index t = ![0, 0]
    ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The root mean square's reciprocal of a row. -/
def rs (x : Fin 1024 → EReal) : EReal :=
  Ideal.rsqrt (Ideal.div (∑ k, x k * x k) (Ideal.ofBits .f32 0x44800000#32) + Ideal.ofBits .f32 0x358637BD#32)

/-- What comes back through the two products, at one entry. -/
def back (v0 : Vec Ideal S512x2816 .bf16) (v2 : Vec Ideal S2816x1024 .bf16) (v5 : Vec Ideal S512x2816 .bf16) (v7 : Vec Ideal S2816x1024 .bf16)
    (i : Fin 512) (k : Fin 1024) : EReal :=
  ∑ n : Fin 2816, v0 (ix2 i n) * v2 (ix2 n k) + ∑ n : Fin 2816, v5 (ix2 i n) * v7 (ix2 n k)

/-- The two products of the body. -/
theorem pay4_at (v0 : Vec Ideal S512x2816 .bf16) (v2 : Vec Ideal S2816x1024 .bf16) (v5 : Vec Ideal S512x2816 .bf16) (v7 : Vec Ideal S2816x1024 .bf16)
    (i : Fin 512) (k : Fin 1024) : k0_pay4 v0 v2 v5 v7 (ix2 i k) = back v0 v2 v5 v7 i k := by
  pointwise [k0_pay4]
  rfl

/-- The normalised row. -/
theorem pay6_at (v11 : Vec Ideal S512x1024 .f32) (i : Fin 512) (k : Fin 1024) :
    k0_pay6 v11 (ix2 i k) = v11 (ix2 i k) * rs (fun n => v11 (ix2 i n)) := by
  pointwise [k0_pay6, k0_pay5, rs]

/-- The body's gradient of the input, in the form the chain rule spells. -/
theorem pay7_at (v0 : Vec Ideal S512x2816 .bf16) (v2 : Vec Ideal S2816x1024 .bf16) (v5 : Vec Ideal S512x2816 .bf16) (v7 : Vec Ideal S2816x1024 .bf16)
    (v11 : Vec Ideal S512x1024 .f32) (v22 : Vec Ideal S1x1024 .f32) (v26 : Vec Ideal S512x1024 .f32) (i : Fin 512) (k : Fin 1024) :
    k0_pay7 v0 v2 v5 v7 v11 v22 v26 (ix2 i k) = v26 (ix2 i k)
      + rs (fun n => v11 (ix2 i n)) * (back v0 v2 v5 v7 i k * v22 (ix2 0 k) - v11 (ix2 i k) * rs (fun n => v11 (ix2 i n))
        * Ideal.div (∑ n, back v0 v2 v5 v7 i n * v22 (ix2 0 n) * (v11 (ix2 i n) * rs (fun n => v11 (ix2 i n)))) (Ideal.ofBits .f32 0x44800000#32)) := by
  pointwise [k0_pay7, k0_pay6, k0_pay5]
  simp only [pay4_at]
  rfl

open Cert.Reference2Ideal.Read in
/-- What comes back through the two products of the reference is one product with the weights side by side. -/
theorem ref_back (x0 x1 : FVec Ideal Cert.Reference2Ideal.S8192x2752 .f32) (x2 : FVec Ideal Cert.Reference2Ideal.S1024x5504 .f32) (i : Fin 8192) (k : Fin 1024) :
    val_main_v20 (F := Ideal) x0 x1 x2 (ix2 i k) = ∑ n : Fin 2752, x0 (ix2 i n) * x2 (ix2 k ⟨n.val, by omega⟩)
      + ∑ n : Fin 2752, x1 (ix2 i n) * x2 (ix2 k ⟨2752 + n.val, by omega⟩) := by
  pointwise [val_main_v20, val_main_v19]

open Cert.Reference2Ideal.Read in
/-- The reference's gradient of the input. -/
theorem ref_dx (x0 x1 : FVec Ideal Cert.Reference2Ideal.S8192x2752 .f32) (x2 : FVec Ideal Cert.Reference2Ideal.S1024x5504 .f32)
    (x3 : FVec Ideal Cert.Reference2Ideal.S8192x1024 .f32) (x4 : FVec Ideal Cert.Reference2Ideal.S1024 .f32) (x5 : FVec Ideal Cert.Reference2Ideal.S8192x1024 .f32) (i : Fin 8192) (k : Fin 1024) :
    val_main_v41 (F := Ideal) x0 x1 x2 x3 x4 x5 (ix2 i k) = x5 (ix2 i k)
      + rs (fun n => x3 (ix2 i n)) * (val_main_v20 (F := Ideal) x0 x1 x2 (ix2 i k) * x4 (ix1 k) - x3 (ix2 i k) * rs (fun n => x3 (ix2 i n))
        * Ideal.div (∑ n, val_main_v20 (F := Ideal) x0 x1 x2 (ix2 i n) * x4 (ix1 n) * (x3 (ix2 i n) * rs (fun n => x3 (ix2 i n)))) (Ideal.ofBits .f32 0x44800000#32)) := by
  unfold rs
  rw [Cert.Alg.rms_bwd (fun n => x3 (ix2 i n)) (fun n => val_main_v20 (F := Ideal) x0 x1 x2 (ix2 i n) * x4 (ix1 n)) _ k _ (Cert.Alg.under_root _)]
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_one]

open Cert.Reference2Ideal.Read in
/-- The reference's gradient of the gain. -/
theorem ref_dgain (x0 x1 : FVec Ideal Cert.Reference2Ideal.S8192x2752 .f32) (x2 : FVec Ideal Cert.Reference2Ideal.S1024x5504 .f32)
    (x3 : FVec Ideal Cert.Reference2Ideal.S8192x1024 .f32) (z : Fin 1) (k : Fin 1024) :
    val_main_v45 (F := Ideal) x0 x1 x2 x3 (ix2 z k) = ∑ i : Fin 8192, val_main_v20 (F := Ideal) x0 x1 x2 (ix2 i k) * (x3 (ix2 i k) * rs (fun n => x3 (ix2 i n))) := by
  pointwise [val_main_v45, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8]
  simp only [Fin.sum_univ_one]
  exact Finset.sum_congr rfl fun i _ => mul_comm _ _

/-- A row of a block at a grid point, in the array. -/
def inArr (t : Fin cfg0.N) (r : Fin 512) : Fin 8192 := ⟨512 * t.val + r.val, by have h : t.val < 16 := lt_of_lt_of_eq t.isLt (show cfg0.N = 16 from N_0); omega⟩

/-- The gate gradient's block. -/
theorem blk0 (c : Dev nD) (t : Fin cfg0.N) (r : Fin 512) (n : Fin 2816) :
    (show Vec Ideal S512x2816 .bf16 from iblk m c 0 t) (ix2 r n) = B18 m c (ix2 (inArr t r) n) := by
  blk_point [iblk, idx t]
  simp only [inArr]
  omega
/-- The gate's weight, whole. -/
theorem blk1 (c : Dev nD) (t : Fin cfg0.N) (n : Fin 2816) (k : Fin 1024) :
    (show Vec Ideal S2816x1024 .bf16 from iblk m c 1 t) (ix2 n k) = B9 m c (ix2 n k) := by
  blk_point [iblk, idx t]
/-- The up gradient's block. -/
theorem blk2 (c : Dev nD) (t : Fin cfg0.N) (r : Fin 512) (n : Fin 2816) :
    (show Vec Ideal S512x2816 .bf16 from iblk m c 2 t) (ix2 r n) = B22 m c (ix2 (inArr t r) n) := by
  blk_point [iblk, idx t]
  simp only [inArr]
  omega
/-- The up weight, whole. -/
theorem blk3 (c : Dev nD) (t : Fin cfg0.N) (n : Fin 2816) (k : Fin 1024) :
    (show Vec Ideal S2816x1024 .bf16 from iblk m c 3 t) (ix2 n k) = B14 m c (ix2 n k) := by
  blk_point [iblk, idx t]
/-- The input's block. -/
theorem blk4 (c : Dev nD) (t : Fin cfg0.N) (r : Fin 512) (n : Fin 1024) :
    (show Vec Ideal S512x1024 .f32 from iblk m c 4 t) (ix2 r n) = (V m c main_arg3 : FVec Ideal S8192x1024 .f32) (ix2 (inArr t r) n) := by
  blk_point [iblk, idx t]
  simp only [inArr]
  omega
/-- The gain, whole. -/
theorem blk5 (c : Dev nD) (t : Fin cfg0.N) (z : Fin 1) (n : Fin 1024) :
    (show Vec Ideal S1x1024 .f32 from iblk m c 5 t) (ix2 z n) = B23 m c (ix2 0 n) := by
  blk_point [iblk, idx t]
/-- The residual's gradient's block. -/
theorem blk6 (c : Dev nD) (t : Fin cfg0.N) (r : Fin 512) (n : Fin 1024) :
    (show Vec Ideal S512x1024 .f32 from iblk m c 6 t) (ix2 r n) = (V m c main_arg5 : FVec Ideal S8192x1024 .f32) (ix2 (inArr t r) n) := by
  blk_point [iblk, idx t]
  simp only [inArr]
  omega

open Cert.Reference2Ideal.Read

/-- The gate gradient's block, by its padded rows. -/
theorem pad0 (c : Dev nD) (t : Fin cfg0.N) (r : Fin 512) (n : Fin 2816) :
    (iblk m c 0 t : Vec Ideal S512x2816 .bf16) (ix2 r n) = Cert.Alg.padded (fun n => (m ((c : Thread nD τ).loc main_arg0) : FVec Ideal S8192x2752 .f32) (ix2 (inArr t r) n)) n :=
  (blk0 m c t r n).trans (row18 m c _ n)

/-- The gate's weight, by its padded columns. -/
theorem pad1 (c : Dev nD) (t : Fin cfg0.N) (n : Fin 2816) (k : Fin 1024) :
    (iblk m c 1 t : Vec Ideal S2816x1024 .bf16) (ix2 n k) = Cert.Alg.padded (fun n => (m ((c : Thread nD τ).loc main_arg2) : FVec Ideal S1024x5504 .f32) (ix2 k ⟨n.val, by omega⟩)) n :=
  ((blk1 m c t n k).trans (row9 m c k n)).trans (by simp only [Nat.zero_add])

/-- The up gradient's block, by its padded rows. -/
theorem pad2 (c : Dev nD) (t : Fin cfg0.N) (r : Fin 512) (n : Fin 2816) :
    (iblk m c 2 t : Vec Ideal S512x2816 .bf16) (ix2 r n) = Cert.Alg.padded (fun n => (m ((c : Thread nD τ).loc main_arg1) : FVec Ideal S8192x2752 .f32) (ix2 (inArr t r) n)) n :=
  (blk2 m c t r n).trans (row22 m c _ n)

/-- The up weight, by its padded columns. -/
theorem pad3 (c : Dev nD) (t : Fin cfg0.N) (n : Fin 2816) (k : Fin 1024) :
    (iblk m c 3 t : Vec Ideal S2816x1024 .bf16) (ix2 n k) = Cert.Alg.padded (fun n => (m ((c : Thread nD τ).loc main_arg2) : FVec Ideal S1024x5504 .f32) (ix2 k ⟨2752 + n.val, by omega⟩)) n :=
  (blk3 m c t n k).trans (row14 m c k n)

/-- What comes back through the two products at a block's entry is the reference's at the array's. -/
theorem back_blk (c : Dev nD) (t : Fin cfg0.N) (r : Fin 512) (k : Fin 1024) :
    back (iblk m c 0 t) (iblk m c 1 t) (iblk m c 2 t) (iblk m c 3 t) r k = val_main_v20 (F := Ideal) (m ((c : Thread nD τ).loc main_arg0)) (m ((c : Thread nD τ).loc main_arg1)) (m ((c : Thread nD τ).loc main_arg2)) (ix2 (inArr t r) k) := by
  rw [ref_back]
  unfold back
  simp only [pad0, pad1, pad2, pad3]
  rw [Cert.Alg.sum_padded, Cert.Alg.sum_padded]

/-- The input. -/
abbrev B3x (c : Dev nD) : FVec Ideal S8192x1024 .f32 := m ((c : Thread nD τ).loc main_arg3)

/-- A row of the input at a block's row. -/
theorem x_blk (c : Dev nD) (t : Fin cfg0.N) (r : Fin 512) (n : Fin 1024) :
    (iblk m c 4 t : Vec Ideal S512x1024 .f32) (ix2 r n) = (m ((c : Thread nD τ).loc main_arg3) : FVec Ideal S8192x1024 .f32) (ix2 (inArr t r) n) := by
  refine (blk4 m c t r n).trans ?_
  rw [V_main_arg3]

/-- The body's gradient of the input at a block's entry. -/
theorem pay7_blk (c : Dev nD) (t : Fin cfg0.N) (r : Fin 512) (k : Fin 1024) :
    k0_pay7 (iblk m c 0 t) (iblk m c 1 t) (iblk m c 2 t) (iblk m c 3 t) (iblk m c 4 t) (iblk m c 5 t) (iblk m c 6 t) (ix2 r k)
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (inArr t r) k) := by
  have h5 : ∀ n, (iblk m c 5 t : Vec Ideal S1x1024 .f32) (ix2 0 n) = (m ((c : Thread nD τ).loc main_arg4) : FVec Ideal S1024 .f32) (ix1 n) := fun n =>
    (blk5 m c t 0 n).trans (at23 m c _)
  have h6 : (iblk m c 6 t : Vec Ideal S512x1024 .f32) (ix2 r k) = (m ((c : Thread nD τ).loc main_arg5) : FVec Ideal S8192x1024 .f32) (ix2 (inArr t r) k) := by
    refine (blk6 m c t r k).trans ?_
    rw [V_main_arg5]
  rw [pay7_at, ref_dx]
  simp only [back_blk, x_blk, h5, h6]

/-- The first result's block. -/
theorem dx_at (c : Dev nD) (t : Fin cfg0.N) (r : Fin 512) (k : Fin 1024) :
    (outsAt0 m c t.val t.isLt).1 (ix2 r k) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (inArr t r) k) := by
  by_cases h : t.val % 16 = 0
  · rw [outsAt0_A m c t h]; frame_out; exact pay7_blk m c t r k
  · rw [outsAt0_B m c t h]; frame_out; exact pay7_blk m c t r k

/-- The half that the block before is handed. -/
theorem half_at (v : Vec Ideal S512x1024 .f32) (j : S512x1024.Idx) : (k0_pay1 v : FVec Ideal S512x1024 .bf16) j = (Ideal.ofBits .f32 0x3F000000#32 * (v : FVec Ideal S512x1024 .f32) j : EReal) := by
  pointwise [k0_pay1]

/-- The second result's block. -/
theorem dxb_at (c : Dev nD) (t : Fin cfg0.N) (r : Fin 512) (k : Fin 1024) :
    (outsAt0 m c t.val t.isLt).2.1 (ix2 r k) = Ideal.ofBits .f32 0x3F000000#32 * val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (inArr t r) k) := by
  by_cases h : t.val % 16 = 0
  · rw [outsAt0_A m c t h]; frame_out; exact (half_at _ _).trans (congrArg _ (pay7_blk m c t r k))
  · rw [outsAt0_B m c t h]; frame_out; exact (half_at _ _).trans (congrArg _ (pay7_blk m c t r k))

/-- The reference's half. -/
theorem ref_half (c : Dev nD) (j) : val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j = Ideal.ofBits .f32 0x3F000000#32 * val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [val_main_v44, val_main_v43, val_main_v42, val_main_cst_8]

/-- A row's part of the gain's gradient. -/
def part (c : Dev nD) (k : Fin 1024) (i : Fin 8192) : EReal :=
  (val_main_v20 (F := Ideal) (m ((c : Thread nD τ).loc main_arg0)) (m ((c : Thread nD τ).loc main_arg1)) (m ((c : Thread nD τ).loc main_arg2)) : FVec Ideal S8192x1024 .f32) (ix2 i k) * (B3x m c (ix2 i k) * rs (fun n => B3x m c (ix2 i n)))

/-- A block's part of the gain's gradient. -/
theorem part_at (c : Dev nD) (t : Fin cfg0.N) (acc : Vec Ideal S1x1024 .f32) (z : Fin 1) (k : Fin 1024) :
    k0_pay3 (k0_pay4 (iblk m c 0 t) (iblk m c 1 t) (iblk m c 2 t) (iblk m c 3 t)) (k0_pay6 (iblk m c 4 t)) acc (ix2 z k)
      = acc (ix2 z k) + ∑ r : Fin 512, part m c k (inArr t r) := by
  pointwise [k0_pay3]
  simp only [pay4_at, pay6_at, back_blk, x_blk]
  rfl

/-- The gain's gradient starts at zero. -/
theorem start_zero (j : S1x1024.Idx) : k0_pay2 (F := Ideal) j = 0 := by pointwise! [k0_pay2]

/-- At the first point the gain's gradient is the block's part. -/
theorem gain_first (c : Dev nD) (t : Fin cfg0.N) (h : t.val % 16 = 0) (z : Fin 1) (k : Fin 1024) :
    (outsAt0 m c t.val t.isLt).2.2 (ix2 z k) = 0 + ∑ r : Fin 512, part m c k (inArr t r) := by
  rw [outsAt0_A m c t h]
  frame_out
  rw [part_at, start_zero]

/-- At every other point it is what the point before left and the block's part. -/
theorem gain_next (c : Dev nD) (t : Fin cfg0.N) (h : ¬t.val % 16 = 0) (z : Fin 1) (k : Fin 1024) :
    (outsAt0 m c t.val t.isLt).2.2 (ix2 z k) = (outsAt0 m c (t.val - 1) (Nat.lt_of_le_of_lt (Nat.sub_le _ _) t.isLt)).2.2 (ix2 z k)
      + ∑ r : Fin 512, part m c k (inArr t r) := by
  rw [outsAt0_B m c t h]
  frame_out
  rw [part_at]

/-- The gradient of the input, whole. -/
theorem final7 (c : Dev nD) : (dats m 0 c).arrAt 7 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  refine (congrArg _ (eq_ix2 y)).trans ((dx_at m c t (y 0) (y 1)).trans (congrArg _ ?_))
  blk_ext [idx t, inArr]

/-- Its half, whole. -/
theorem final8 (c : Dev nD) : (dats m 0 c).arrAt 8 cfg0.N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, ref_half]
  refine (congrArg _ (eq_ix2 y)).trans ((dxb_at m c t (y 0) (y 1)).trans (congrArg (fun j => Ideal.ofBits .f32 0x3F000000#32 * val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j) ?_))
  blk_ext [idx t, inArr]

/-- The gradient of the gain, whole. -/
theorem final9 (c : Dev nD) : (dats m 0 c).arrAt 9 cfg0.N = val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have hm : t.val % 16 = 15 := (flush0_9 t).mp hf
  blk_simp
  rw [after0_9, Pipeline.eq_sum_fin_of_reset_step_apply_of_flush (fun n h => (outsAt0 m c n h).2.2) 16 (fun _ => 0) _
    (fun t h j => (congrArg _ (eq_ix2 j)).trans (gain_first m c t h (j 0) (j 1)))
    (fun t h j => ((congrArg _ (eq_ix2 j)).trans (gain_next m c t h (j 0) (j 1))).trans (congrArg₂ (· + ·) (congrArg _ (eq_ix2 j).symm) rfl)) t hm _, zero_add]
  have e : ((win0_9.blk t).view.emb y : S1x1024.Idx) = ix2 (y 0) (y 1) := by
    blk_ext [idx t]
  refine Eq.trans ?_ ((congrArg _ e).trans (ref_dgain _ _ _ _ (y 0) (y 1))).symm
  have hN : t.val < 16 := lt_of_lt_of_eq t.isLt (show cfg0.N = 16 from N_0)
  refine Fin.sum_mul_add_congr fun s r hl => ?_
  refine (congrArg (part m c (y 1)) (Fin.ext ?_)).trans (b := part m c (y 1) ⟨_, hl⟩) rfl
  simp only [inArr]
  omega

end Cert.Kernel2Ideal.Own

end
-- ==== Proof.MmTn.lean ====
/- The product `aᵀ · dy` of a weight's gradient (`_mm_tn`): its accumulator, one sum over the rows, against the gradient
   that `jax.vjp` takes of `w ↦ a @ w`. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Own

open Cert.Kernel3Ideal Cert.Kernel3Ideal.Gen

variable (m : (ℓ : Loc nD τ sig) → Buf (Elt Ideal) ℓ)

/-- Every window's block at a grid point, decided over the grid. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The accumulator starts at zero. -/
theorem start_zero (j : S1408x1024.Idx) : k0_pay1 (F := Ideal) j = 0 := by pointwise! [k0_pay1]

/-- One step adds the product of the two blocks' columns, summed over the block's rows. -/
theorem step_add (acc : Vec Ideal S1408x1024 .f32) (x : Vec Ideal S2048x1408 .bf16) (y : Vec Ideal S2048x1024 .bf16)
    (j : S1408x1024.Idx) :
    k0_pay2 acc x y j = acc j + ∑ k : Fin 2048, x (ix2 k (j 0)) * y (ix2 k (j 1)) := by
  pointwise [k0_pay2]

/-- The last step's store is the accumulator itself. -/
theorem store_id (acc : Vec Ideal S1408x1024 .f32) (j : S1408x1024.Idx) : k0_pay3 acc j = acc j := by
  pointwise [k0_pay3]

/-- The reference's entry: one sum over all the rows. -/
theorem ref_sum (a : FVec Ideal Cert.Reference3Ideal.S8192x2816 .f32) (d : FVec Ideal Cert.Reference3Ideal.S8192x1024 .f32)
    (j : Cert.Reference3Ideal.S2816x1024.Idx) :
    Cert.Reference3Ideal.Read.val_main_v4 (F := Ideal) a d j = ∑ k : Fin 8192, a (ix2 k (j 0)) * d (ix2 k (j 1)) := by
  pointwise [Cert.Reference3Ideal.Read.val_main_v4, Cert.Reference3Ideal.Read.val_main_v3, Cert.Reference3Ideal.Read.val_main_v2]
  exact Finset.sum_congr rfl fun k _ => mul_comm _ _

/-- At a run's first point the accumulator is the block's part alone. -/
theorem acc_first (c : Dev nD) (t : Fin cfg0.N) (h : t.val % 4 = 0) (j : S1408x1024.Idx) :
    (outsAt0 m c t.val t.isLt).2 j = 0 + ∑ k : Fin 2048, (show Vec Ideal S2048x1408 .bf16 from iblk m c 0 t) (ix2 k (j 0))
      * (show Vec Ideal S2048x1024 .bf16 from iblk m c 1 t) (ix2 k (j 1)) := by
  rw [outsAt0_A m c t h (by omega)]
  frame_out
  rw [step_add, start_zero]

/-- At every other point it is what the point before left, plus the block's part. -/
theorem acc_next (c : Dev nD) (t : Fin cfg0.N) (h : ¬t.val % 4 = 0) (j : S1408x1024.Idx) :
    (outsAt0 m c t.val t.isLt).2 j = (outsAt0 m c (t.val - 1) (Nat.lt_of_le_of_lt (Nat.sub_le _ _) t.isLt)).2 j
      + ∑ k : Fin 2048, (show Vec Ideal S2048x1408 .bf16 from iblk m c 0 t) (ix2 k (j 0))
      * (show Vec Ideal S2048x1024 .bf16 from iblk m c 1 t) (ix2 k (j 1)) := by
  by_cases h1 : t.val % 4 = 3
  · rw [outsAt0_C m c t h h1]; frame_out; rw [step_add]; exact congrArg₂ (· + ·) (congrFun ((Memref.isWhole_whole cc0_scratch0).read_unread _) j) rfl
  · rw [outsAt0_B m c t h h1]; frame_out; rw [step_add]; exact congrArg₂ (· + ·) (congrFun ((Memref.isWhole_whole cc0_scratch0).read_unread _) j) rfl

/-- What a run's last point writes back is the accumulator. -/
theorem out_last (c : Dev nD) (t : Fin cfg0.N) (h : t.val % 4 = 3) (j : S1408x1024.Idx) :
    (outsAt0 m c t.val t.isLt).1 j = (outsAt0 m c t.val t.isLt).2 j := by
  rw [outsAt0_C m c t (by omega) h]
  frame_out
  rw [store_id]

/-- The result array after the run is the reference's. -/
theorem final (c : Dev nD) : (dats m 0 c).arrAt 2 cfg0.N
    = Cert.Reference3Ideal.Read.val_main_v4 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4 (fun _ => 0) _
    (acc_first m c) (acc_next m c) t hm _, zero_add, ref_sum]
  refine Fin.sum_mul_add_congr fun s k hl => ?_
  have e := idx ⟨_, Pipeline.run_point_lt_of_flush t hm s⟩
  blk_point [iblk, V, idx t, e]

end Cert.Kernel3Ideal.Own

end
-- ==== Proof.MixOut.lean ====
/- The mixer's output product added to the residual stream (`_mm_res`): one block of rows at a time against `x + y @ w_out`. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Own

open Cert.Kernel6Ideal Cert.Kernel6Ideal.Gen

variable (m : (ℓ : Loc nD τ sig) → Buf (Elt Ideal) ℓ)

/-- Every window's block at a grid point, decided over the grid. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The body's store at an entry: the residual and the row by column sum. -/
theorem pay_at (x : Vec Ideal S512x1024 .f32) (y : Vec Ideal S512x1024 .bf16) (w : Vec Ideal S1024x1024 .bf16) (j : S512x1024.Idx) :
    k0_pay1 x y w j = x j + ∑ k : Fin 1024, y (ix2 (j 0) k) * w (ix2 k (j 1)) := by
  pointwise [k0_pay1]

/-- The reference's entry. -/
theorem ref_at (y x : FVec Ideal Cert.Reference6Ideal.S8192x1024 .f32) (w : FVec Ideal Cert.Reference6Ideal.S1024x1024 .f32)
    (j : Cert.Reference6Ideal.S8192x1024.Idx) :
    Cert.Reference6Ideal.Read.val_main_v1 (F := Ideal) y w x j = x j + ∑ k : Fin 1024, y (ix2 (j 0) k) * w (ix2 k (j 1)) := by
  pointwise [Cert.Reference6Ideal.Read.val_main_v1, Cert.Reference6Ideal.Read.val_main_v0]

/-- The product's left factor as the host leaves it. -/
theorem at0 (c : Dev nD) (j) : (V m c main_v0 : FVec Ideal S8192x1024 .bf16) j = (m ((c : Thread nD τ).loc main_arg0) : FVec Ideal S8192x1024 .f32) j := by
  entry_read
  pointwise

/-- The weight as the host leaves it. -/
theorem at1 (c : Dev nD) (j) : (V m c main_v1 : FVec Ideal S1024x1024 .bf16) j = (m ((c : Thread nD τ).loc main_arg1) : FVec Ideal S1024x1024 .f32) j := by
  entry_read
  pointwise

/-- The result array after the run is the reference's. -/
theorem final (c : Dev nD) : (dats m 0 c).arrAt 3 cfg0.N
    = Cert.Reference6Ideal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  rw [pay_at, ref_at]
  blk_point [iblk, idx t]

end Cert.Kernel6Ideal.Own

end
-- ==== Proof.MixDy.lean ====
/- The gradient through the mixer's output product (`_mm_nt`): one block of rows at a time against `jax.vjp` of `y ↦ y @ w_out`. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Own

open Cert.Kernel7Ideal Cert.Kernel7Ideal.Gen

variable (m : (ℓ : Loc nD τ sig) → Buf (Elt Ideal) ℓ)

/-- Every window's block at a grid point, decided over the grid. -/
theorem idx : ∀ t : Fin cfg0.N, win0_0.index t = ![t.val, 0] ∧ win0_1.index t = ![0, 0] ∧ win0_2.index t = ![t.val, 0] :=
  (by decide +kernel : ∀ t : Fin grid0.N, _)

/-- The body's store at an entry: a row of the gradient by a row of the weight. -/
theorem pay_at (y : Vec Ideal S512x1024 .bf16) (w : Vec Ideal S1024x1024 .bf16) (j : S512x1024.Idx) :
    k0_pay1 y w j = ∑ k : Fin 1024, y (ix2 (j 0) k) * w (ix2 (j 1) k) := by
  pointwise [k0_pay1]

/-- The reference's entry. -/
theorem ref_at (y : FVec Ideal Cert.Reference7Ideal.S8192x1024 .f32) (w : FVec Ideal Cert.Reference7Ideal.S1024x1024 .f32)
    (j : Cert.Reference7Ideal.S8192x1024.Idx) :
    Cert.Reference7Ideal.Read.val_main_v2 (F := Ideal) y w j = ∑ k : Fin 1024, y (ix2 (j 0) k) * w (ix2 (j 1) k) := by
  pointwise [Cert.Reference7Ideal.Read.val_main_v2]

/-- The gradient as the host leaves it. -/
theorem at0 (c : Dev nD) (j) : (V m c main_v0 : FVec Ideal S8192x1024 .bf16) j = (m ((c : Thread nD τ).loc main_arg0) : FVec Ideal S8192x1024 .f32) j := by
  entry_read
  pointwise

/-- The weight as the host leaves it. -/
theorem at1 (c : Dev nD) (j) : (V m c main_v1 : FVec Ideal S1024x1024 .bf16) j = (m ((c : Thread nD τ).loc main_arg1) : FVec Ideal S1024x1024 .f32) j := by
  entry_read
  pointwise

/-- The result array after the run is the reference's. -/
theorem final (c : Dev nD) : (dats m 0 c).arrAt 2 cfg0.N
    = Cert.Reference7Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [pay_at, ref_at]
  blk_point [iblk, idx t]

end Cert.Kernel7Ideal.Own

end
-- ==== Proof.MixDwo.lean ====
/- The product `aᵀ · dy` of the gradient of the mixer's output weight (`_mm_tn`): its accumulator, one sum over the rows, against the gradient
   that `jax.vjp` takes of `w ↦ y @ w`. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Own

open Cert.Kernel8Ideal Cert.Kernel8Ideal.Gen

variable (m : (ℓ : Loc nD τ sig) → Buf (Elt Ideal) ℓ)

/-- Every window's block at a grid point, decided over the grid. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The accumulator starts at zero. -/
theorem start_zero (j : S1024x1024.Idx) : k0_pay1 (F := Ideal) j = 0 := by pointwise! [k0_pay1]

/-- One step adds the product of the two blocks' columns, summed over the block's rows. -/
theorem step_add (acc : Vec Ideal S1024x1024 .f32) (x : Vec Ideal S2048x1024 .bf16) (y : Vec Ideal S2048x1024 .bf16)
    (j : S1024x1024.Idx) :
    k0_pay2 acc x y j = acc j + ∑ k : Fin 2048, x (ix2 k (j 0)) * y (ix2 k (j 1)) := by
  pointwise [k0_pay2]

/-- The last step's store is the accumulator itself. -/
theorem store_id (acc : Vec Ideal S1024x1024 .f32) (j : S1024x1024.Idx) : k0_pay3 acc j = acc j := by
  pointwise [k0_pay3]

/-- The reference's entry: one sum over all the rows. -/
theorem ref_sum (a : FVec Ideal Cert.Reference8Ideal.S8192x1024 .f32) (d : FVec Ideal Cert.Reference8Ideal.S8192x1024 .f32)
    (j : Cert.Reference8Ideal.S1024x1024.Idx) :
    Cert.Reference8Ideal.Read.val_main_v4 (F := Ideal) a d j = ∑ k : Fin 8192, a (ix2 k (j 0)) * d (ix2 k (j 1)) := by
  pointwise [Cert.Reference8Ideal.Read.val_main_v4, Cert.Reference8Ideal.Read.val_main_v3, Cert.Reference8Ideal.Read.val_main_v2]
  exact Finset.sum_congr rfl fun k _ => mul_comm _ _

/-- At a run's first point the accumulator is the block's part alone. -/
theorem acc_first (c : Dev nD) (t : Fin cfg0.N) (h : t.val % 4 = 0) (j : S1024x1024.Idx) :
    (outsAt0 m c t.val t.isLt).2 j = 0 + ∑ k : Fin 2048, (show Vec Ideal S2048x1024 .bf16 from iblk m c 0 t) (ix2 k (j 0))
      * (show Vec Ideal S2048x1024 .bf16 from iblk m c 1 t) (ix2 k (j 1)) := by
  rw [outsAt0_A m c t h (by omega)]
  frame_out
  rw [step_add, start_zero]

/-- At every other point it is what the point before left, plus the block's part. -/
theorem acc_next (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + ∑ k : Fin 2048, (show Vec Ideal S2048x1024 .bf16 from iblk m c 0 t) (ix2 k (j 0))
      * (show Vec Ideal S2048x1024 .bf16 from iblk m c 1 t) (ix2 k (j 1)) := by
  by_cases h1 : t.val % 4 = 3
  · rw [outsAt0_C m c t h h1]; frame_out; rw [step_add]; exact congrArg₂ (· + ·) (congrFun ((Memref.isWhole_whole cc0_scratch0).read_unread _) j) rfl
  · rw [outsAt0_B m c t h h1]; frame_out; rw [step_add]; exact congrArg₂ (· + ·) (congrFun ((Memref.isWhole_whole cc0_scratch0).read_unread _) j) rfl

/-- What a run's last point writes back is the accumulator. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rw [store_id]

/-- The result array after the run is the reference's. -/
theorem final (c : Dev nD) : (dats m 0 c).arrAt 2 cfg0.N
    = Cert.Reference8Ideal.Read.val_main_v4 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4 (fun _ => 0) _
    (acc_first m c) (acc_next m c) t hm _, zero_add, ref_sum]
  refine Fin.sum_mul_add_congr fun s k hl => ?_
  have e := idx ⟨_, Pipeline.run_point_lt_of_flush t hm s⟩
  blk_point [iblk, V, idx t, e]

end Cert.Kernel8Ideal.Own

end
-- ==== Proof.MixDwin.lean ====
/- The product `aᵀ · dy` of the gradient of the mixer's input weight (`_mm_tn`): its accumulator, one sum over the rows, against the gradient
   that `jax.vjp` takes of `w ↦ h @ w`. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Own

open Cert.Kernel9Ideal Cert.Kernel9Ideal.Gen

variable (m : (ℓ : Loc nD τ sig) → Buf (Elt Ideal) ℓ)

/-- Every window's block at a grid point, decided over the grid. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The accumulator starts at zero. -/
theorem start_zero (j : S1792x1024.Idx) : k0_pay1 (F := Ideal) j = 0 := by pointwise! [k0_pay1]

/-- One step adds the product of the two blocks' columns, summed over the block's rows. -/
theorem step_add (acc : Vec Ideal S1792x1024 .f32) (x : Vec Ideal S2048x1792 .bf16) (y : Vec Ideal S2048x1024 .bf16)
    (j : S1792x1024.Idx) :
    k0_pay2 acc x y j = acc j + ∑ k : Fin 2048, x (ix2 k (j 0)) * y (ix2 k (j 1)) := by
  pointwise [k0_pay2]

/-- The last step's store is the accumulator itself. -/
theorem store_id (acc : Vec Ideal S1792x1024 .f32) (j : S1792x1024.Idx) : k0_pay3 acc j = acc j := by
  pointwise [k0_pay3]

/-- The reference's entry: one sum over all the rows. -/
theorem ref_sum (a : FVec Ideal Cert.Reference9Ideal.S8192x1792 .f32) (d : FVec Ideal Cert.Reference9Ideal.S8192x1024 .f32)
    (j : Cert.Reference9Ideal.S1792x1024.Idx) :
    Cert.Reference9Ideal.Read.val_main_v5 (F := Ideal) a d j = ∑ k : Fin 8192, a (ix2 k (j 0)) * d (ix2 k (j 1)) := by
  pointwise [Cert.Reference9Ideal.Read.val_main_v5, Cert.Reference9Ideal.Read.val_main_v4, Cert.Reference9Ideal.Read.val_main_v3, Cert.Reference9Ideal.Read.val_main_v2]
  done

/-- At a run's first point the accumulator is the block's part alone. -/
theorem acc_first (c : Dev nD) (t : Fin cfg0.N) (h : t.val % 4 = 0) (j : S1792x1024.Idx) :
    (outsAt0 m c t.val t.isLt).2 j = 0 + ∑ k : Fin 2048, (show Vec Ideal S2048x1792 .bf16 from iblk m c 0 t) (ix2 k (j 0))
      * (show Vec Ideal S2048x1024 .bf16 from iblk m c 1 t) (ix2 k (j 1)) := by
  rw [outsAt0_A m c t h (by omega)]
  frame_out
  rw [step_add, start_zero]

/-- At every other point it is what the point before left, plus the block's part. -/
theorem acc_next (c : Dev nD) (t : Fin cfg0.N) (h : ¬t.val % 4 = 0) (j : S1792x1024.Idx) :
    (outsAt0 m c t.val t.isLt).2 j = (outsAt0 m c (t.val - 1) (Nat.lt_of_le_of_lt (Nat.sub_le _ _) t.isLt)).2 j
      + ∑ k : Fin 2048, (show Vec Ideal S2048x1792 .bf16 from iblk m c 0 t) (ix2 k (j 0))
      * (show Vec Ideal S2048x1024 .bf16 from iblk m c 1 t) (ix2 k (j 1)) := by
  by_cases h1 : t.val % 4 = 3
  · rw [outsAt0_C m c t h h1]; frame_out; rw [step_add]; exact congrArg₂ (· + ·) (congrFun ((Memref.isWhole_whole cc0_scratch0).read_unread _) j) rfl
  · rw [outsAt0_B m c t h h1]; frame_out; rw [step_add]; exact congrArg₂ (· + ·) (congrFun ((Memref.isWhole_whole cc0_scratch0).read_unread _) j) rfl

/-- What a run's last point writes back is the accumulator. -/
theorem out_last (c : Dev nD) (t : Fin cfg0.N) (h : t.val % 4 = 3) (j : S1792x1024.Idx) :
    (outsAt0 m c t.val t.isLt).1 j = (outsAt0 m c t.val t.isLt).2 j := by
  rw [outsAt0_C m c t (by omega) h]
  frame_out
  rw [store_id]

/-- The result array after the run is the reference's. -/
theorem final (c : Dev nD) : (dats m 0 c).arrAt 2 cfg0.N
    = Cert.Reference9Ideal.Read.val_main_v5 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2, out_last m c t hm, Pipeline.eq_sum_fin_of_reset_step_apply_of_flush (fun n h => (outsAt0 m c n h).2) 4 (fun _ => 0) _
    (acc_first m c) (acc_next m c) t hm _, zero_add, ref_sum]
  refine Fin.sum_mul_add_congr fun s k hl => ?_
  have e := idx ⟨_, Pipeline.run_point_lt_of_flush t hm s⟩
  blk_point [iblk, V, idx t, e]

end Cert.Kernel9Ideal.Own

end
-- ==== Proof.Pad.lean ====
/- The padded layout of the hidden width as the host builds it: pieces of a row or of a column laid end to end with zeros
   after each half, read as `Alg.padded`. -/
module

public import proofs.«01_k».proof.Proof.Alg
public import Idealize.ShloMosaic.Lib.Pipeline.ValueKit
public import Idealize.ShloMosaic.Lib.Claim

@[expose] public section

set_option maxRecDepth 16384

noncomputable section

open Idealize.ShloMosaic

namespace Cert.Pad

abbrev R8192x1376 : Shape := ⟨2, ![8192, 1376]⟩
abbrev R8192x32 : Shape := ⟨2, ![8192, 32]⟩
abbrev R8192x2816 : Shape := ⟨2, ![8192, 2816]⟩
abbrev R1376x1024 : Shape := ⟨2, ![1376, 1024]⟩
abbrev R688x1024 : Shape := ⟨2, ![688, 1024]⟩
abbrev R32x1024 : Shape := ⟨2, ![32, 1024]⟩
abbrev R2816x1024 : Shape := ⟨2, ![2816, 1024]⟩

/-- Running two lines of operations one after the other is running their concatenation. -/
theorem after_two {τ} {sig} {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l₁ ih => exact ih _

/-- Two halves of a row, each with its zeros after it, are the padded row. -/
theorem four_cols (h : Shape.Concatenates [R8192x1376, R8192x32, R8192x1376, R8192x32] R8192x2816 1)
    (a b : FVec Ideal R8192x1376 .f32) (z : FVec Ideal R8192x32 .f32) (f : Fin 2752 → EReal) (i : Fin 8192) (k : Fin 2816)
    (ha : ∀ n : Fin 1376, a (ix2 i n) = f ⟨n.val, by omega⟩) (hz : ∀ n : Fin 32, z (ix2 i n) = 0) (hb : ∀ n : Fin 1376, b (ix2 i n) = f ⟨1376 + n.val, by omega⟩) :
    (concatenate R8192x2816 1 [⟨R8192x1376, a⟩, ⟨R8192x32, z⟩, ⟨R8192x1376, b⟩, ⟨R8192x32, z⟩] h : FVec Ideal R8192x2816 .f32) (ix2 i k)
      = Cert.Alg.padded f k := by
  pointwise
  unfold Cert.Alg.padded
  by_cases h1 : k.val < 1376
  · rw [dif_pos h1, dif_pos h1]
    exact ha _
  · by_cases h2 : k.val < 1408
    · rw [dif_neg h1, dif_pos (by omega), dif_neg h1, if_pos h2]
      exact hz _
    · by_cases h3 : k.val < 2784
      · rw [dif_neg h1, dif_neg (by omega), dif_pos (by omega), dif_neg h1, if_neg h2, dif_pos h3]
        exact (hb _).trans (congrArg f (Fin.ext (by simp; omega)))
      · rw [dif_neg h1, dif_neg (by omega), dif_neg (by omega), dif_neg h1, if_neg h2, dif_neg h3]
        exact hz _

/-- The same of columns. -/
theorem four_rows (h : Shape.Concatenates [R1376x1024, R32x1024, R1376x1024, R32x1024] R2816x1024 0)
    (a b : FVec Ideal R1376x1024 .bf16) (z : FVec Ideal R32x1024 .bf16) (f : Fin 2752 → EReal) (i : Fin 1024) (k : Fin 2816)
    (ha : ∀ n : Fin 1376, a (ix2 n i) = f ⟨n.val, by omega⟩) (hz : ∀ n : Fin 32, z (ix2 n i) = 0) (hb : ∀ n : Fin 1376, b (ix2 n i) = f ⟨1376 + n.val, by omega⟩) :
    (concatenate R2816x1024 0 [⟨R1376x1024, a⟩, ⟨R32x1024, z⟩, ⟨R1376x1024, b⟩, ⟨R32x1024, z⟩] h : FVec Ideal R2816x1024 .bf16) (ix2 k i)
      = Cert.Alg.padded f k := by
  pointwise
  unfold Cert.Alg.padded
  by_cases h1 : k.val < 1376
  · rw [dif_pos h1, dif_pos h1]
    exact ha _
  · by_cases h2 : k.val < 1408
    · rw [dif_neg h1, dif_pos (by omega), dif_neg h1, if_pos h2]
      exact hz _
    · by_cases h3 : k.val < 2784
      · rw [dif_neg h1, dif_neg (by omega), dif_pos (by omega), dif_neg h1, if_neg h2, dif_pos h3]
        exact (hb _).trans (congrArg f (Fin.ext (by simp; omega)))
      · rw [dif_neg h1, dif_neg (by omega), dif_neg (by omega), dif_neg h1, if_neg h2, dif_neg h3]
        exact hz _

/-- Four quarters of a column, with zeros after the second and after the fourth. -/
theorem six_rows (h : Shape.Concatenates [R688x1024, R688x1024, R32x1024, R688x1024, R688x1024, R32x1024] R2816x1024 0)
    (a b c d : FVec Ideal R688x1024 .bf16) (z : FVec Ideal R32x1024 .bf16) (f : Fin 2752 → EReal) (i : Fin 1024) (k : Fin 2816)
    (ha : ∀ n : Fin 688, a (ix2 n i) = f ⟨n.val, by omega⟩) (hb : ∀ n : Fin 688, b (ix2 n i) = f ⟨688 + n.val, by omega⟩)
    (hz : ∀ n : Fin 32, z (ix2 n i) = 0)
    (hc : ∀ n : Fin 688, c (ix2 n i) = f ⟨1376 + n.val, by omega⟩) (hd : ∀ n : Fin 688, d (ix2 n i) = f ⟨2064 + n.val, by omega⟩) :
    (concatenate R2816x1024 0 [⟨R688x1024, a⟩, ⟨R688x1024, b⟩, ⟨R32x1024, z⟩, ⟨R688x1024, c⟩, ⟨R688x1024, d⟩, ⟨R32x1024, z⟩] h
      : FVec Ideal R2816x1024 .bf16) (ix2 k i) = Cert.Alg.padded f k := by
  pointwise
  unfold Cert.Alg.padded
  by_cases h0 : k.val < 688
  · rw [dif_pos h0, dif_pos (by omega)]
    exact ha _
  · by_cases h1 : k.val < 1376
    · rw [dif_neg h0, dif_pos (by omega), dif_pos h1]
      exact (hb _).trans (congrArg f (Fin.ext (by simp; omega)))
    · by_cases h2 : k.val < 1408
      · rw [dif_neg h0, dif_neg (by omega), dif_pos (by omega), dif_neg h1, if_pos h2]
        exact hz _
      · by_cases h3 : k.val < 2096
        · rw [dif_neg h0, dif_neg (by omega), dif_neg (by omega), dif_pos (by omega), dif_neg h1, if_neg h2, dif_pos (by omega)]
          exact (hc _).trans (congrArg f (Fin.ext (by simp; omega)))
        · by_cases h4 : k.val < 2784
          · rw [dif_neg h0, dif_neg (by omega), dif_neg (by omega), dif_neg (by omega), dif_pos (by omega), dif_neg h1, if_neg h2, dif_pos h4]
            exact (hd _).trans (congrArg f (Fin.ext (by simp; omega)))
          · rw [dif_neg h0, dif_neg (by omega), dif_neg (by omega), dif_neg (by omega), dif_neg (by omega), dif_neg h1, if_neg h2, dif_neg h4]
            exact hz _

end Cert.Pad

end
-- ==== Proof.FfnOut.lean ====
/- The feed-forward layer's output product added to the residual stream (`_mm_res`): the host pads the hidden rows and
   the weight's columns with zeros, and a block of rows at a time is `x + 0.5 (a @ w_out)`. -/
module

public import proofs.«01_k».proof.Proof.Gen.Kernel5Ideal.Value
public import proofs.«01_k».proof.Proof.Gen.Reference5Ideal.Read
public import proofs.«01_k».proof.Proof.Pad
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)
open scoped BigOperators

namespace Cert.Kernel5Ideal.Own

open Cert.Kernel5Ideal Cert.Kernel5Ideal.Gen

variable (m : (ℓ : Loc nD τ sig) → Buf (Elt Ideal) ℓ)

/-- What the host leaves in `v0`. -/
abbrev B0 (c : Dev nD) : FVec Ideal S8192x32 .f32 := V m c main_v0
/-- What the host leaves in `v1`. -/
abbrev B1 (c : Dev nD) : FVec Ideal S8192x1376 .f32 := V m c main_v1
/-- What the host leaves in `v2`. -/
abbrev B2 (c : Dev nD) : FVec Ideal S8192x1376 .f32 := V m c main_v2
/-- What the host leaves in `v4`. -/
abbrev B4 (c : Dev nD) : FVec Ideal S8192x2816 .bf16 := V m c main_v4
/-- What the host leaves in `v7`. -/
abbrev B7 (c : Dev nD) : FVec Ideal S32x1024 .bf16 := V m c main_v7
/-- What the host leaves in `v9`. -/
abbrev B9 (c : Dev nD) : FVec Ideal S688x1024 .bf16 := V m c main_v9
/-- What the host leaves in `v11`. -/
abbrev B11 (c : Dev nD) : FVec Ideal S688x1024 .bf16 := V m c main_v11
/-- What the host leaves in `v13`. -/
abbrev B13 (c : Dev nD) : FVec Ideal S688x1024 .bf16 := V m c main_v13
/-- What the host leaves in `v15`. -/
abbrev B15 (c : Dev nD) : FVec Ideal S688x1024 .bf16 := V m c main_v15
/-- What the host leaves in `v16`. -/
abbrev B16 (c : Dev nD) : FVec Ideal S2816x1024 .bf16 := V m c main_v16

set_option maxHeartbeats 1000000 in
/-- `v4` is the four pieces laid end to end. -/
theorem laid4 (c : Dev nD) : B4 m c = truncf .bf16 (concatenate S8192x2816 1 [⟨S8192x1376, B1 m c⟩, ⟨S8192x32, B0 m c⟩, ⟨S8192x1376, B2 m c⟩,
    ⟨S8192x32, B0 m c⟩] concatenates_S8192x1376_S8192x32_S8192x1376_S8192x32_S8192x2816_d1) bitsLt_bf16_f32 := by
  unfold B4 B1 B0 B2 V
  rw [← List.take_append_drop 4 (hostOps0 (F := Ideal)), Cert.Pad.after_two]
  generalize StableHlo.after (List.take 4 (hostOps0 (F := Ideal))) _ = σ
  simp only [hostOps0, List.drop]
  after_results
  rfl

set_option maxHeartbeats 1000000 in
/-- `v16` is the six pieces laid end to end. -/
theorem laid16 (c : Dev nD) : B16 m c = concatenate S2816x1024 0 [⟨S688x1024, B9 m c⟩, ⟨S688x1024, B11 m c⟩, ⟨S32x1024, B7 m c⟩, ⟨S688x1024, B13 m c⟩,
    ⟨S688x1024, B15 m c⟩, ⟨S32x1024, B7 m c⟩] concatenates_S688x1024_S688x1024_S32x1024_S688x1024_S688x1024_S32x1024_S2816x1024_d0 := by
  unfold B16 B9 B11 B7 B13 B15 V
  rw [← List.take_append_drop 18 (hostOps0 (F := Ideal)), Cert.Pad.after_two]
  generalize StableHlo.after (List.take 18 (hostOps0 (F := Ideal))) _ = σ
  simp only [hostOps0, List.drop]
  after_results
  rfl

/-- The zeros after a half. -/
theorem at0 (c : Dev nD) (j) : B0 m c j = 0 := by
  unfold B0
  entry_read
  pointwise

/-- The zero rows after a half. -/
theorem at7 (c : Dev nD) (j) : B7 m c j = 0 := by
  unfold B7
  entry_read
  pointwise

/-- Half of the hidden rows. -/
theorem at1 (c : Dev nD) (j) : B1 m c j = (m ((c : Thread nD τ).loc main_arg0) : FVec Ideal S8192x2752 .f32) (ix2 (j 0) ⟨0 + (j 1).val, by have := (j 1).isLt; simp at this; omega⟩) := by
  unfold B1
  entry_read
  pointwise

/-- Half of the hidden rows. -/
theorem at2 (c : Dev nD) (j) : B2 m c j = (m ((c : Thread nD τ).loc main_arg0) : FVec Ideal S8192x2752 .f32) (ix2 (j 0) ⟨1376 + (j 1).val, by have := (j 1).isLt; simp at this; omega⟩) := by
  unfold B2
  entry_read
  pointwise

/-- Quarter 0 of the weight. -/
theorem at9 (c : Dev nD) (j) : B9 m c j = (m ((c : Thread nD τ).loc main_arg1) : FVec Ideal S2752x1024 .f32) (ix2 ⟨0 + (j 0).val, by have := (j 0).isLt; simp at this; omega⟩ (j 1)) := by
  unfold B9
  entry_read
  pointwise

/-- Quarter 1 of the weight. -/
theorem at11 (c : Dev nD) (j) : B11 m c j = (m ((c : Thread nD τ).loc main_arg1) : FVec Ideal S2752x1024 .f32) (ix2 ⟨688 + (j 0).val, by have := (j 0).isLt; simp at this; omega⟩ (j 1)) := by
  unfold B11
  entry_read
  pointwise

/-- Quarter 2 of the weight. -/
theorem at13 (c : Dev nD) (j) : B13 m c j = (m ((c : Thread nD τ).loc main_arg1) : FVec Ideal S2752x1024 .f32) (ix2 ⟨1376 + (j 0).val, by have := (j 0).isLt; simp at this; omega⟩ (j 1)) := by
  unfold B13
  entry_read
  pointwise

/-- Quarter 3 of the weight. -/
theorem at15 (c : Dev nD) (j) : B15 m c j = (m ((c : Thread nD τ).loc main_arg1) : FVec Ideal S2752x1024 .f32) (ix2 ⟨2064 + (j 0).val, by have := (j 0).isLt; simp at this; omega⟩ (j 1)) := by
  unfold B15
  entry_read
  pointwise

/-- A row of the hidden rows as the kernel reads it. -/
theorem row4 (c : Dev nD) (i : Fin 8192) (k : Fin 2816) : B4 m c (ix2 i k) = Cert.Alg.padded (fun n => (m ((c : Thread nD τ).loc main_arg0) : FVec Ideal S8192x2752 .f32) (ix2 i n)) k := by
  rw [laid4]
  exact Cert.Pad.four_cols concatenates_S8192x1376_S8192x32_S8192x1376_S8192x32_S8192x2816_d1 _ _ _ _ i k (fun n => (at1 m c _).trans (congrArg (m ((c : Thread nD τ).loc main_arg0) : FVec Ideal S8192x2752 .f32) (congrArg (ix2 i) (Fin.ext (by simp))))) (fun n => at0 m c _)
    (fun n => (at2 m c _).trans (congrArg (m ((c : Thread nD τ).loc main_arg0) : FVec Ideal S8192x2752 .f32) (congrArg (ix2 i) (Fin.ext (by simp <;> omega)))))

/-- A column of the weight as the kernel reads it. -/
theorem row16 (c : Dev nD) (i : Fin 1024) (k : Fin 2816) : B16 m c (ix2 k i) = Cert.Alg.padded (fun n => (m ((c : Thread nD τ).loc main_arg1) : FVec Ideal S2752x1024 .f32) (ix2 n i)) k := by
  rw [laid16]
  exact Cert.Pad.six_rows concatenates_S688x1024_S688x1024_S32x1024_S688x1024_S688x1024_S32x1024_S2816x1024_d0 _ _ _ _ _ _ i k (fun n => (at9 m c _).trans (congrArg (m ((c : Thread nD τ).loc main_arg1) : FVec Ideal S2752x1024 .f32) (congrArg (fun r => ix2 r i) (Fin.ext (by simp <;> omega)))))
    (fun n => (at11 m c _).trans (congrArg (m ((c : Thread nD τ).loc main_arg1) : FVec Ideal S2752x1024 .f32) (congrArg (fun r => ix2 r i) (Fin.ext (by simp <;> omega))))) (fun n => at7 m c _)
    (fun n => (at13 m c _).trans (congrArg (m ((c : Thread nD τ).loc main_arg1) : FVec Ideal S2752x1024 .f32) (congrArg (fun r => ix2 r i) (Fin.ext (by simp <;> omega)))))
    (fun n => (at15 m c _).trans (congrArg (m ((c : Thread nD τ).loc main_arg1) : FVec Ideal S2752x1024 .f32) (congrArg (fun r => ix2 r i) (Fin.ext (by simp <;> omega)))))

/-- Every window's block at a grid point, decided over the grid. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The body's store at an entry: the residual and half of the row by column sum. -/
theorem pay_at (x : Vec Ideal S512x1024 .f32) (y : Vec Ideal S512x2816 .bf16) (w : Vec Ideal S2816x1024 .bf16) (i : Fin 512) (n : Fin 1024) :
    k0_pay1 x y w (ix2 i n) = x (ix2 i n) + Ideal.ofBits .f32 0x3F000000#32 * ∑ k : Fin 2816, y (ix2 i k) * w (ix2 k n) := by
  pointwise [k0_pay1]

/-- The reference's entry. -/
theorem ref_at (y : FVec Ideal Cert.Reference5Ideal.S8192x2752 .f32) (w : FVec Ideal Cert.Reference5Ideal.S2752x1024 .f32)
    (x : FVec Ideal Cert.Reference5Ideal.S8192x1024 .f32) (i : Fin 8192) (n : Fin 1024) :
    Cert.Reference5Ideal.Read.val_main_v3 (F := Ideal) y w x (ix2 i n) = x (ix2 i n) + Ideal.ofBits .f32 0x3F000000#32 * ∑ k : Fin 2752, y (ix2 i k) * w (ix2 k n) := by
  pointwise [Cert.Reference5Ideal.Read.val_main_v3, Cert.Reference5Ideal.Read.val_main_v2, Cert.Reference5Ideal.Read.val_main_v1,
    Cert.Reference5Ideal.Read.val_main_cst, Cert.Reference5Ideal.Read.val_main_v0]

/-- A row of a block at a grid point, in the array. -/
def inArr (t : Fin cfg0.N) (r : Fin 512) : Fin 8192 := ⟨512 * t.val + r.val, by have h : t.val < 16 := lt_of_lt_of_eq t.isLt (show cfg0.N = 16 from N_0); omega⟩

/-- The hidden rows' block, by its padded rows. -/
theorem blk0 (c : Dev nD) (t : Fin cfg0.N) (r : Fin 512) (n : Fin 2816) :
    (iblk m c 0 t : Vec Ideal S512x2816 .bf16) (ix2 r n) = Cert.Alg.padded (fun n => (m ((c : Thread nD τ).loc main_arg0) : FVec Ideal S8192x2752 .f32) (ix2 (inArr t r) n)) n := by
  refine Eq.trans (b := B4 m c (ix2 (inArr t r) n)) ?_ (row4 m c _ n)
  blk_point [iblk, idx t]
  simp only [inArr]
  omega

/-- The weight, by its padded columns. -/
theorem blk1 (c : Dev nD) (t : Fin cfg0.N) (n : Fin 2816) (k : Fin 1024) :
    (iblk m c 1 t : Vec Ideal S2816x1024 .bf16) (ix2 n k) = Cert.Alg.padded (fun n => (m ((c : Thread nD τ).loc main_arg1) : FVec Ideal S2752x1024 .f32) (ix2 n k)) n := by
  refine Eq.trans (b := B16 m c (ix2 n k)) ?_ (row16 m c k n)
  blk_point [iblk, idx t]

/-- The residual stream's block. -/
theorem blk2 (c : Dev nD) (t : Fin cfg0.N) (r : Fin 512) (n : Fin 1024) :
    (iblk m c 2 t : Vec Ideal S512x1024 .f32) (ix2 r n) = (m ((c : Thread nD τ).loc main_arg2) : FVec Ideal S8192x1024 .f32) (ix2 (inArr t r) n) := by
  refine Eq.trans (b := (V m c main_arg2 : FVec Ideal S8192x1024 .f32) (ix2 (inArr t r) n)) ?_ (by rw [V_main_arg2])
  blk_point [iblk, idx t]
  simp only [inArr]
  omega

/-- The body's store at a block's entry is the reference's at the array's. -/
theorem pay_blk (c : Dev nD) (t : Fin cfg0.N) (r : Fin 512) (k : Fin 1024) :
    k0_pay1 (iblk m c 2 t) (iblk m c 0 t) (iblk m c 1 t) (ix2 r k)
      = Cert.Reference5Ideal.Read.val_main_v3 (F := Ideal) (m ((c : Thread nD τ).loc main_arg0)) (m ((c : Thread nD τ).loc main_arg1)) (m ((c : Thread nD τ).loc main_arg2)) (ix2 (inArr t r) k) := by
  rw [pay_at, ref_at]
  simp only [blk0, blk1, blk2]
  rw [Cert.Alg.sum_padded]

/-- The result array after the run is the reference's. -/
theorem final (c : Dev nD) : (dats m 0 c).arrAt 3 cfg0.N
    = Cert.Reference5Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  refine (congrArg _ (eq_ix2 y)).trans ((pay_blk m c t (y 0) (y 1)).trans (congrArg _ ?_))
  blk_ext [idx t, inArr]

end Cert.Kernel5Ideal.Own

end
-- ==== Proof.Rms.lean ====
/- The reciprocal root mean square of a row, the one factor the normalisation's kernels share. -/
module

public import Idealize.ShloMosaic.Lib.Pipeline.ValueKit
public import Idealize.ShloMosaic.Lib.Claim

@[expose] public section

noncomputable section

open Idealize.ShloMosaic
open scoped BigOperators

namespace Cert.Rms

/-- The root mean square's reciprocal of a row. -/
def rs (x : Fin 1024 → EReal) : EReal :=
  Ideal.rsqrt (Ideal.div (∑ k, x k * x k) (Ideal.ofBits .f32 0x44800000#32) + Ideal.ofBits .f32 0x358637BD#32)

end Cert.Rms

end
-- ==== Proof.MixIn.lean ====
/- The mixer's normalisation and input product (`_mix_in`): a block of rows at a time, the normalised rows and their product with
   the weight the host transposed. -/
module

public import proofs.«01_k».proof.Proof.Gen.Kernel11Ideal.Value
public import proofs.«01_k».proof.Proof.Gen.Reference11Ideal.Read
public import proofs.«01_k».proof.Proof.Rms
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Rms (rs)
open scoped BigOperators

namespace Cert.Kernel11Ideal.Own

open Cert.Kernel11Ideal Cert.Kernel11Ideal.Gen

variable (m : (ℓ : Loc nD τ sig) → Buf (Elt Ideal) ℓ)

/-- The input. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The weight. -/
abbrev W (c : Dev nD) : FVec Ideal S1024x1792 .f32 := m ((c : Thread nD τ).loc main_arg2)

/-- Every window's block at a grid point, decided over the grid. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normalised rows the body stores. -/
theorem pay1_at (x : Vec Ideal S512x1024 .f32) (g : Vec Ideal S1x1024 .f32) (i : Fin 512) (k : Fin 1024) :
    k0_pay1 x g (ix2 i k) = x (ix2 i k) * rs (fun n => x (ix2 i n)) * g (ix2 0 k) := by
  pointwise [k0_pay1, rs]

/-- The product the body stores. -/
theorem pay2_at (x : Vec Ideal S512x1024 .f32) (g : Vec Ideal S1x1024 .f32) (w : Vec Ideal S1792x1024 .bf16) (i : Fin 512) (n : Fin 1792) :
    k0_pay2 x g w (ix2 i n) = ∑ k : Fin 1024, x (ix2 i k) * rs (fun n => x (ix2 i n)) * g (ix2 0 k) * w (ix2 n k) := by
  pointwise [k0_pay2]
  simp only [pay1_at]

open Cert.Reference11Ideal.Read in
/-- The reference's normalised rows. -/
theorem ref_h (x : FVec Ideal Cert.Reference11Ideal.S8192x1024 .f32) (g : FVec Ideal Cert.Reference11Ideal.S1024 .f32) (i : Fin 8192) (k : Fin 1024) :
    val_main_v12 (F := Ideal) x g (ix2 i k) = x (ix2 i k) * rs (fun n => x (ix2 i n)) * g (ix1 k) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, rs]

open Cert.Reference11Ideal.Read in
/-- The first result of the reference at an entry. -/
theorem ref_h' (x : FVec Ideal Cert.Reference11Ideal.S8192x1024 .f32) (g : FVec Ideal Cert.Reference11Ideal.S1024 .f32) (i : Fin 8192) (k : Fin 1024) :
    val_main_v13 (F := Ideal) x g (ix2 i k) = x (ix2 i k) * rs (fun n => x (ix2 i n)) * g (ix1 k) :=
  ref_h x g i k

open Cert.Reference11Ideal.Read in
/-- The second result of the reference at an entry. -/
theorem ref_p (x : FVec Ideal Cert.Reference11Ideal.S8192x1024 .f32) (g : FVec Ideal Cert.Reference11Ideal.S1024 .f32)
    (w : FVec Ideal Cert.Reference11Ideal.S1024x1792 .f32) (i : Fin 8192) (n : Fin 1792) :
    val_main_v14 (F := Ideal) x g w (ix2 i n) = ∑ k : Fin 1024, x (ix2 i k) * rs (fun n => x (ix2 i n)) * g (ix1 k) * w (ix2 k n) := by
  pointwise [val_main_v14]
  simp only [ref_h]

/-- A row of a block at a grid point, in the array. -/
def inArr (t : Fin cfg0.N) (r : Fin 512) : Fin 8192 := ⟨512 * t.val + r.val, by have h : t.val < 16 := lt_of_lt_of_eq t.isLt (show cfg0.N = 16 from N_0); omega⟩

/-- The gain as a row. -/
theorem at0 (c : Dev nD) (j) : (V m c main_v0 : FVec Ideal S1x1024 .f32) j = G m c (ix1 (j 1)) := by
  entry_read
  pointwise

/-- The transposed weight. -/
theorem at2 (c : Dev nD) (j) : (V m c main_v2 : FVec Ideal S1792x1024 .bf16) j = W m c (ix2 (j 1) (j 0)) := by
  entry_read
  pointwise

/-- The input's block. -/
theorem blk0 (c : Dev nD) (t : Fin cfg0.N) (r : Fin 512) (n : Fin 1024) :
    (iblk m c 0 t : Vec Ideal S512x1024 .f32) (ix2 r n) = X m c (ix2 (inArr t r) n) := by
  refine Eq.trans (b := (V m c main_arg0 : FVec Ideal S8192x1024 .f32) (ix2 (inArr t r) n)) ?_ (by rw [V_main_arg0])
  blk_point [iblk, idx t]
  simp only [inArr]
  omega

/-- The gain, whole. -/
theorem blk1 (c : Dev nD) (t : Fin cfg0.N) (n : Fin 1024) : (iblk m c 1 t : Vec Ideal S1x1024 .f32) (ix2 0 n) = G m c (ix1 n) := by
  refine Eq.trans (b := (V m c main_v0 : FVec Ideal S1x1024 .f32) (ix2 0 n)) ?_ (at0 m c _)
  blk_point [iblk, idx t]

/-- The weight, whole. -/
theorem blk2 (c : Dev nD) (t : Fin cfg0.N) (n : Fin 1792) (k : Fin 1024) :
    (iblk m c 2 t : Vec Ideal S1792x1024 .bf16) (ix2 n k) = W m c (ix2 k n) := by
  refine Eq.trans (b := (V m c main_v2 : FVec Ideal S1792x1024 .bf16) (ix2 n k)) ?_ (at2 m c _)
  blk_point [iblk, idx t]

/-- The normalised rows of a block are the reference's. -/
theorem h_blk (c : Dev nD) (t : Fin cfg0.N) (r : Fin 512) (k : Fin 1024) : k0_pay1 (iblk m c 0 t) (iblk m c 1 t) (ix2 r k)
    = Cert.Reference11Ideal.Read.val_main_v13 (F := Ideal) (X m c) (G m c) (ix2 (inArr t r) k) := by
  rw [pay1_at, ref_h']
  simp only [blk0, blk1]

/-- The product of a block is the reference's. -/
theorem p_blk (c : Dev nD) (t : Fin cfg0.N) (r : Fin 512) (n : Fin 1792) : k0_pay2 (iblk m c 0 t) (iblk m c 1 t) (iblk m c 2 t) (ix2 r n)
    = Cert.Reference11Ideal.Read.val_main_v14 (F := Ideal) (X m c) (G m c) (W m c) (ix2 (inArr t r) n) := by
  rw [pay2_at, ref_p]
  simp only [blk0, blk1, blk2]

/-- The normalised rows, whole. -/
theorem final3 (c : Dev nD) : (dats m 0 c).arrAt 3 cfg0.N = Cert.Reference11Ideal.Read.val_main_v13 (F := Ideal) (X m c) (G m c) := by
  refine (dats m 0 c).arrAt_eq_of_covers 3 _ (by decide +kernel) fun t hf y => ?_
  blk_simp
  rw [after0_3]
  unfold out0_3
  frame_out
  refine (congrArg _ (eq_ix2 y)).trans ((h_blk m c t (y 0) (y 1)).trans (congrArg _ ?_))
  blk_ext [idx t, inArr]

/-- The product, whole. -/
theorem final4 (c : Dev nD) : (dats m 0 c).arrAt 4 cfg0.N = Cert.Reference11Ideal.Read.val_main_v14 (F := Ideal) (X m c) (G m c) (W m c) := by
  refine (dats m 0 c).arrAt_eq_of_covers 4 _ (by decide +kernel) fun t hf y => ?_
  blk_simp
  rw [after0_4]
  unfold out0_4
  frame_out
  refine (congrArg _ (eq_ix2 y)).trans ((p_blk m c t (y 0) (y 1)).trans (congrArg _ ?_))
  blk_ext [idx t, inArr]

end Cert.Kernel11Ideal.Own

end
-- ==== Proof.MixDh.lean ====
/- The gradient through the mixer's normalisation and input product (`_dh_rms_bwd` of one pair): the body's block of the input's
   gradient and of its half, and the gain's gradient summed over the grid, against what `jax.vjp` takes of `rmsnorm` and the product. -/
module

public import proofs.«01_k».proof.Proof.Gen.Kernel10Ideal.Value
public import proofs.«01_k».proof.Proof.Gen.Reference10Ideal.Read
public import proofs.«01_k».proof.Proof.Alg
public import proofs.«01_k».proof.Proof.Rms
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)
open Cert.Rms (rs)
open scoped BigOperators

namespace Cert.Kernel10Ideal.Own

open Cert.Kernel10Ideal Cert.Kernel10Ideal.Gen

variable (m : (ℓ : Loc nD τ sig) → Buf (Elt Ideal) ℓ)

/-- The product's gradient. -/
abbrev DP (c : Dev nD) : FVec Ideal S8192x1792 .f32 := m ((c : Thread nD τ).loc main_arg0)
/-- The weight. -/
abbrev W (c : Dev nD) : FVec Ideal S1024x1792 .f32 := m ((c : Thread nD τ).loc main_arg1)
/-- The input. -/
abbrev X (c : Dev nD) : FVec Ideal S8192x1024 .f32 := m ((c : Thread nD τ).loc main_arg2)
/-- The gain. -/
abbrev G (c : Dev nD) : FVec Ideal S1024 .f32 := m ((c : Thread nD τ).loc main_arg3)
/-- The residual's gradient. -/
abbrev D (c : Dev nD) : FVec Ideal S8192x1024 .f32 := m ((c : Thread nD τ).loc main_arg4)

/-- Every window's block at a grid point, decided over the grid. -/
theorem idx : ∀ t : Fin cfg0.N, win0_0.index t = ![t.val, 0]
    ∧ win0_1.index t = ![0, 0] ∧ win0_2.index t = ![t.val, 0] ∧ win0_3.index t = ![0, 0]
    ∧ win0_4.index t = ![t.val, 0] ∧ win0_5.index t = ![t.val, 0] ∧ win0_6.index t = ![t.val, 0]
    ∧ win0_7.index t = ![0, 0] :=
  (by decide +kernel : ∀ t : Fin grid0.N, _)

/-- What comes back through the product, at one entry. -/
def back (v0 : Vec Ideal S512x1792 .bf16) (v2 : Vec Ideal S1792x1024 .bf16) (i : Fin 512) (k : Fin 1024) : EReal :=
  ∑ n : Fin 1792, v0 (ix2 i n) * v2 (ix2 n k)

/-- The product of the body. -/
theorem pay3_at (v0 : Vec Ideal S512x1792 .bf16) (v2 : Vec Ideal S1792x1024 .bf16) (i : Fin 512) (k : Fin 1024) :
    k0_pay3 v0 v2 (ix2 i k) = back v0 v2 i k := by
  pointwise [k0_pay3]
  rfl

/-- The normalised row. -/
theorem pay5_at (v5 : Vec Ideal S512x1024 .f32) (i : Fin 512) (k : Fin 1024) :
    k0_pay5 v5 (ix2 i k) = v5 (ix2 i k) * rs (fun n => v5 (ix2 i n)) := by
  pointwise [k0_pay5, k0_pay4, rs]

/-- The body's gradient of the input, in the form the chain rule spells. -/
theorem pay6_at (v0 : Vec Ideal S512x1792 .bf16) (v2 : Vec Ideal S1792x1024 .bf16) (v11 : Vec Ideal S512x1024 .f32) (v22 : Vec Ideal S1x1024 .f32)
    (v26 : Vec Ideal S512x1024 .f32) (i : Fin 512) (k : Fin 1024) :
    k0_pay6 v0 v2 v11 v22 v26 (ix2 i k) = v26 (ix2 i k)
      + rs (fun n => v11 (ix2 i n)) * (back v0 v2 i k * v22 (ix2 0 k) - v11 (ix2 i k) * rs (fun n => v11 (ix2 i n))
        * Ideal.div (∑ n, back v0 v2 i n * v22 (ix2 0 n) * (v11 (ix2 i n) * rs (fun n => v11 (ix2 i n)))) (Ideal.ofBits .f32 0x44800000#32)) := by
  pointwise [k0_pay6, k0_pay5, k0_pay4]
  simp only [pay3_at]
  rfl

/-- The half that the block before is handed. -/
theorem pay7_at (v0 : Vec Ideal S512x1792 .bf16) (v2 : Vec Ideal S1792x1024 .bf16) (v11 : Vec Ideal S512x1024 .f32) (v22 : Vec Ideal S1x1024 .f32)
    (v26 : Vec Ideal S512x1024 .f32) (i : Fin 512) (k : Fin 1024) :
    (k0_pay7 v0 v2 v11 v22 v26 : FVec Ideal S512x1024 .bf16) (ix2 i k) = (Ideal.ofBits .f32 0x3F000000#32 * (k0_pay6 v0 v2 v11 v22 v26 : FVec Ideal S512x1024 .f32) (ix2 i k) : EReal) := by
  pointwise [k0_pay7]

open Cert.Reference10Ideal.Read in
/-- What comes back through the product of the reference. -/
theorem ref_back (x0 : FVec Ideal Cert.Reference10Ideal.S8192x1792 .f32) (x1 : FVec Ideal Cert.Reference10Ideal.S1024x1792 .f32) (i : Fin 8192) (k : Fin 1024) :
    val_main_v17 (F := Ideal) x0 x1 (ix2 i k) = ∑ n : Fin 1792, x0 (ix2 i n) * x1 (ix2 k n) := by
  pointwise [val_main_v17]

open Cert.Reference10Ideal.Read in
/-- The reference's gradient of the input. -/
theorem ref_dx (x0 : FVec Ideal Cert.Reference10Ideal.S8192x1792 .f32) (x1 : FVec Ideal Cert.Reference10Ideal.S1024x1792 .f32)
    (x2 : FVec Ideal Cert.Reference10Ideal.S8192x1024 .f32) (x3 : FVec Ideal Cert.Reference10Ideal.S1024 .f32) (x4 : FVec Ideal Cert.Reference10Ideal.S8192x1024 .f32)
    (i : Fin 8192) (k : Fin 1024) :
    val_main_v38 (F := Ideal) x0 x1 x2 x3 x4 (ix2 i k) = x4 (ix2 i k)
      + rs (fun n => x2 (ix2 i n)) * (val_main_v17 (F := Ideal) x0 x1 (ix2 i k) * x3 (ix1 k) - x2 (ix2 i k) * rs (fun n => x2 (ix2 i n))
        * Ideal.div (∑ n, val_main_v17 (F := Ideal) x0 x1 (ix2 i n) * x3 (ix1 n) * (x2 (ix2 i n) * rs (fun n => x2 (ix2 i n)))) (Ideal.ofBits .f32 0x44800000#32)) := by
  unfold rs
  rw [Cert.Alg.rms_bwd (fun n => x2 (ix2 i n)) (fun n => val_main_v17 (F := Ideal) x0 x1 (ix2 i n) * x3 (ix1 n)) _ k _ (Cert.Alg.under_root _)]
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Fin.sum_univ_one]

open Cert.Reference10Ideal.Read in
/-- The reference's gradient of the gain. -/
theorem ref_dgain (x0 : FVec Ideal Cert.Reference10Ideal.S8192x1792 .f32) (x1 : FVec Ideal Cert.Reference10Ideal.S1024x1792 .f32)
    (x2 : FVec Ideal Cert.Reference10Ideal.S8192x1024 .f32) (z : Fin 1) (k : Fin 1024) :
    val_main_v42 (F := Ideal) x0 x1 x2 (ix2 z k) = ∑ i : Fin 8192, val_main_v17 (F := Ideal) x0 x1 (ix2 i k) * (x2 (ix2 i k) * rs (fun n => x2 (ix2 i n))) := by
  pointwise [val_main_v42, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, rs]
  simp only [Fin.sum_univ_one]
  exact Finset.sum_congr rfl fun i _ => mul_comm _ _

open Cert.Reference10Ideal.Read

/-- The reference's half. -/
theorem ref_half (c : Dev nD) (j) : val_main_v41 (F := Ideal) (DP m c) (W m c) (X m c) (G m c) (D m c) j = Ideal.ofBits .f32 0x3F000000#32 * val_main_v38 (F := Ideal) (DP m c) (W m c) (X m c) (G m c) (D m c) j := by
  pointwise [val_main_v41, val_main_v40, val_main_v39, val_main_cst_8]

/-- A row of a block at a grid point, in the array. -/
def inArr (t : Fin cfg0.N) (r : Fin 512) : Fin 8192 := ⟨512 * t.val + r.val, by have h : t.val < 16 := lt_of_lt_of_eq t.isLt (show cfg0.N = 16 from N_0); omega⟩

/-- The transposed weight. -/
theorem at1 (c : Dev nD) (j) : (V m c main_v1 : FVec Ideal S1792x1024 .bf16) j = W m c (ix2 (j 1) (j 0)) := by
  entry_read
  pointwise

/-- The product's gradient as the host leaves it. -/
theorem at2 (c : Dev nD) (j) : (V m c main_v2 : FVec Ideal S8192x1792 .bf16) j = DP m c j := by
  entry_read
  pointwise

/-- The gain as a row. -/
theorem at3 (c : Dev nD) (j) : (V m c main_v3 : FVec Ideal S1x1024 .f32) j = G m c (ix1 (j 1)) := by
  entry_read
  pointwise

/-- The product's gradient's block. -/
theorem blk0 (c : Dev nD) (t : Fin cfg0.N) (r : Fin 512) (n : Fin 1792) :
    (iblk m c 0 t : Vec Ideal S512x1792 .bf16) (ix2 r n) = DP m c (ix2 (inArr t r) n) := by
  refine Eq.trans (b := (V m c main_v2 : FVec Ideal S8192x1792 .bf16) (ix2 (inArr t r) n)) ?_ (at2 m c _)
  blk_point [iblk, idx t]
  simp only [inArr]
  omega

/-- The weight, whole. -/
theorem blk1 (c : Dev nD) (t : Fin cfg0.N) (n : Fin 1792) (k : Fin 1024) :
    (iblk m c 1 t : Vec Ideal S1792x1024 .bf16) (ix2 n k) = W m c (ix2 k n) := by
  refine Eq.trans (b := (V m c main_v1 : FVec Ideal S1792x1024 .bf16) (ix2 n k)) ?_ (at1 m c _)
  blk_point [iblk, idx t]

/-- The input's block. -/
theorem x_blk (c : Dev nD) (t : Fin cfg0.N) (r : Fin 512) (n : Fin 1024) :
    (iblk m c 2 t : Vec Ideal S512x1024 .f32) (ix2 r n) = X m c (ix2 (inArr t r) n) := by
  refine Eq.trans (b := (V m c main_arg2 : FVec Ideal S8192x1024 .f32) (ix2 (inArr t r) n)) ?_ (by rw [V_main_arg2])
  blk_point [iblk, idx t]
  simp only [inArr]
  omega

/-- The gain, whole. -/
theorem blk3 (c : Dev nD) (t : Fin cfg0.N) (n : Fin 1024) : (iblk m c 3 t : Vec Ideal S1x1024 .f32) (ix2 0 n) = G m c (ix1 n) := by
  refine Eq.trans (b := (V m c main_v3 : FVec Ideal S1x1024 .f32) (ix2 0 n)) ?_ (at3 m c _)
  blk_point [iblk, idx t]

/-- The residual's gradient's block. -/
theorem blk4 (c : Dev nD) (t : Fin cfg0.N) (r : Fin 512) (n : Fin 1024) :
    (iblk m c 4 t : Vec Ideal S512x1024 .f32) (ix2 r n) = D m c (ix2 (inArr t r) n) := by
  refine Eq.trans (b := (V m c main_arg4 : FVec Ideal S8192x1024 .f32) (ix2 (inArr t r) n)) ?_ (by rw [V_main_arg4])
  blk_point [iblk, idx t]
  simp only [inArr]
  omega

/-- What comes back through the product at a block's entry is the reference's at the array's. -/
theorem back_blk (c : Dev nD) (t : Fin cfg0.N) (r : Fin 512) (k : Fin 1024) :
    back (iblk m c 0 t) (iblk m c 1 t) r k = val_main_v17 (F := Ideal) (DP m c) (W m c) (ix2 (inArr t r) k) := by
  rw [ref_back]
  unfold back
  simp only [blk0, blk1]

/-- The body's gradient of the input at a block's entry. -/
theorem pay6_blk (c : Dev nD) (t : Fin cfg0.N) (r : Fin 512) (k : Fin 1024) :
    k0_pay6 (iblk m c 0 t) (iblk m c 1 t) (iblk m c 2 t) (iblk m c 3 t) (iblk m c 4 t) (ix2 r k)
      = val_main_v38 (F := Ideal) (DP m c) (W m c) (X m c) (G m c) (D m c) (ix2 (inArr t r) k) := by
  rw [pay6_at, ref_dx]
  simp only [back_blk, x_blk, blk3, blk4]

/-- The first result's block. -/
theorem dx_at (c : Dev nD) (t : Fin cfg0.N) (r : Fin 512) (k : Fin 1024) :
    (outsAt0 m c t.val t.isLt).1 (ix2 r k) = val_main_v38 (F := Ideal) (DP m c) (W m c) (X m c) (G m c) (D m c) (ix2 (inArr t r) k) := by
  by_cases h : t.val % 16 = 0
  · rw [outsAt0_A m c t h]; frame_out; exact pay6_blk m c t r k
  · rw [outsAt0_B m c t h]; frame_out; exact pay6_blk m c t r k

/-- The second result's block. -/
theorem dxb_at (c : Dev nD) (t : Fin cfg0.N) (r : Fin 512) (k : Fin 1024) :
    (outsAt0 m c t.val t.isLt).2.1 (ix2 r k) = Ideal.ofBits .f32 0x3F000000#32 * val_main_v38 (F := Ideal) (DP m c) (W m c) (X m c) (G m c) (D m c) (ix2 (inArr t r) k) := by
  by_cases h : t.val % 16 = 0
  · rw [outsAt0_A m c t h]; frame_out; exact (pay7_at _ _ _ _ _ r k).trans (congrArg _ (pay6_blk m c t r k))
  · rw [outsAt0_B m c t h]; frame_out; exact (pay7_at _ _ _ _ _ r k).trans (congrArg _ (pay6_blk m c t r k))

/-- A row's part of the gain's gradient. -/
def part (c : Dev nD) (k : Fin 1024) (i : Fin 8192) : EReal :=
  (val_main_v17 (F := Ideal) (DP m c) (W m c) : FVec Ideal S8192x1024 .f32) (ix2 i k) * (X m c (ix2 i k) * rs (fun n => X m c (ix2 i n)))

/-- A block's part of the gain's gradient. -/
theorem part_at (c : Dev nD) (t : Fin cfg0.N) (acc : Vec Ideal S1x1024 .f32) (z : Fin 1) (k : Fin 1024) :
    k0_pay2 (k0_pay3 (iblk m c 0 t) (iblk m c 1 t)) (k0_pay5 (iblk m c 2 t)) acc (ix2 z k)
      = acc (ix2 z k) + ∑ r : Fin 512, part m c k (inArr t r) := by
  pointwise [k0_pay2]
  simp only [pay3_at, pay5_at, back_blk, x_blk]
  rfl

/-- The gain's gradient starts at zero. -/
theorem start_zero (j : S1x1024.Idx) : k0_pay1 (F := Ideal) j = 0 := by pointwise! [k0_pay1]

/-- At the first point the gain's gradient is the block's part. -/
theorem gain_first (c : Dev nD) (t : Fin cfg0.N) (h : t.val % 16 = 0) (z : Fin 1) (k : Fin 1024) :
    (outsAt0 m c t.val t.isLt).2.2 (ix2 z k) = 0 + ∑ r : Fin 512, part m c k (inArr t r) := by
  rw [outsAt0_A m c t h]
  frame_out
  rw [part_at, start_zero]

/-- At every other point it is what the point before left and the block's part. -/
theorem gain_next (c : Dev nD) (t : Fin cfg0.N) (h : ¬t.val % 16 = 0) (z : Fin 1) (k : Fin 1024) :
    (outsAt0 m c t.val t.isLt).2.2 (ix2 z k) = (outsAt0 m c (t.val - 1) (Nat.lt_of_le_of_lt (Nat.sub_le _ _) t.isLt)).2.2 (ix2 z k)
      + ∑ r : Fin 512, part m c k (inArr t r) := by
  rw [outsAt0_B m c t h]
  frame_out
  rw [part_at]

/-- The gradient of the input, whole. -/
theorem final5 (c : Dev nD) : (dats m 0 c).arrAt 5 cfg0.N = val_main_v38 (F := Ideal) (DP m c) (W m c) (X m c) (G m c) (D m c) := by
  refine (dats m 0 c).arrAt_eq_of_covers 5 _ (by decide +kernel) fun t hf y => ?_
  blk_simp
  rw [after0_5]
  refine (congrArg _ (eq_ix2 y)).trans ((dx_at m c t (y 0) (y 1)).trans (congrArg _ ?_))
  blk_ext [idx t, inArr]

/-- Its half, whole. -/
theorem final6 (c : Dev nD) : (dats m 0 c).arrAt 6 cfg0.N = val_main_v41 (F := Ideal) (DP m c) (W m c) (X m c) (G m c) (D m c) := by
  refine (dats m 0 c).arrAt_eq_of_covers 6 _ (by decide +kernel) fun t hf y => ?_
  blk_simp
  rw [after0_6, ref_half]
  refine (congrArg _ (eq_ix2 y)).trans ((dxb_at m c t (y 0) (y 1)).trans (congrArg (fun j => Ideal.ofBits .f32 0x3F000000#32 * val_main_v38 (F := Ideal) (DP m c) (W m c) (X m c) (G m c) (D m c) j) ?_))
  blk_ext [idx t, inArr]

/-- The gradient of the gain, whole. -/
theorem final7 (c : Dev nD) : (dats m 0 c).arrAt 7 cfg0.N = val_main_v42 (F := Ideal) (DP m c) (W m c) (X m c) := by
  refine (dats m 0 c).arrAt_eq_of_covers 7 _ (by decide +kernel) fun t hf y => ?_
  have hm : t.val % 16 = 15 := (flush0_7 t).mp hf
  blk_simp
  rw [after0_7, Pipeline.eq_sum_fin_of_reset_step_apply_of_flush (fun n h => (outsAt0 m c n h).2.2) 16 (fun _ => 0) _
    (fun t h j => (congrArg _ (eq_ix2 j)).trans (gain_first m c t h (j 0) (j 1)))
    (fun t h j => ((congrArg _ (eq_ix2 j)).trans (gain_next m c t h (j 0) (j 1))).trans (congrArg₂ (· + ·) (congrArg _ (eq_ix2 j).symm) rfl)) t hm _, zero_add]
  have e : ((win0_7.blk t).view.emb y : S1x1024.Idx) = ix2 (y 0) (y 1) := by
    blk_ext [idx t]
  refine Eq.trans ?_ ((congrArg _ e).trans (ref_dgain _ _ _ (y 0) (y 1))).symm
  have hN : t.val < 16 := lt_of_lt_of_eq t.isLt (show cfg0.N = 16 from N_0)
  refine Fin.sum_mul_add_congr fun s r hl => ?_
  refine (congrArg (part m c (y 1)) (Fin.ext ?_)).trans (b := part m c (y 1) ⟨_, hl⟩) rfl
  simp only [inArr]
  omega

end Cert.Kernel10Ideal.Own

end
-- ==== Proof.DhRms2.lean ====
/- The gradient through a normalisation and two products (`_dh_rms_bwd` at the second feed-forward layer): the padded rows and columns the host lays
   out, the body's block of the input's gradient and of its copy, and the gain's gradient summed over the grid, against
   what `jax.vjp` takes of `rmsnorm` and the two products. -/
module

public import proofs.«01_k».proof.Proof.Gen.Kernel12Ideal.Value
public import proofs.«01_k».proof.Proof.Gen.Reference12Ideal.Read
public import proofs.«01_k».proof.Proof.Alg
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)
open scoped BigOperators

namespace Cert.Kernel12Ideal.Own

open Cert.Kernel12Ideal Cert.Kernel12Ideal.Gen

variable (m : (ℓ : Loc nD τ sig) → Buf (Elt Ideal) ℓ)

/-- Running two lines of operations one after the other is running their concatenation. -/
theorem after_two {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l₁ ih => exact ih _

/-- What the host leaves in `v0`. -/
abbrev B0 (c : Dev nD) : FVec Ideal S8192x32 .f32 := V m c main_v0
/-- What the host leaves in `v3`. -/
abbrev B3 (c : Dev nD) : FVec Ideal S4x1376x1024 .bf16 := V m c main_v3
/-- What the host leaves in `v4`. -/
abbrev B4 (c : Dev nD) : FVec Ideal S32x1024 .bf16 := V m c main_v4
/-- What the host leaves in `v6`. -/
abbrev B6 (c : Dev nD) : FVec Ideal S1376x1024 .bf16 := V m c main_v6
/-- What the host leaves in `v8`. -/
abbrev B8 (c : Dev nD) : FVec Ideal S1376x1024 .bf16 := V m c main_v8
/-- What the host leaves in `v9`. -/
abbrev B9 (c : Dev nD) : FVec Ideal S2816x1024 .bf16 := V m c main_v9
/-- What the host leaves in `v11`. -/
abbrev B11 (c : Dev nD) : FVec Ideal S1376x1024 .bf16 := V m c main_v11
/-- What the host leaves in `v13`. -/
abbrev B13 (c : Dev nD) : FVec Ideal S1376x1024 .bf16 := V m c main_v13
/-- What the host leaves in `v14`. -/
abbrev B14 (c : Dev nD) : FVec Ideal S2816x1024 .bf16 := V m c main_v14
/-- What the host leaves in `v15`. -/
abbrev B15 (c : Dev nD) : FVec Ideal S8192x1376 .f32 := V m c main_v15
/-- What the host leaves in `v16`. -/
abbrev B16 (c : Dev nD) : FVec Ideal S8192x1376 .f32 := V m c main_v16
/-- What the host leaves in `v18`. -/
abbrev B18 (c : Dev nD) : FVec Ideal S8192x2816 .bf16 := V m c main_v18
/-- What the host leaves in `v19`. -/
abbrev B19 (c : Dev nD) : FVec Ideal S8192x1376 .f32 := V m c main_v19
/-- What the host leaves in `v20`. -/
abbrev B20 (c : Dev nD) : FVec Ideal S8192x1376 .f32 := V m c main_v20
/-- What the host leaves in `v22`. -/
abbrev B22 (c : Dev nD) : FVec Ideal S8192x2816 .bf16 := V m c main_v22
/-- What the host leaves in `v23`. -/
abbrev B23 (c : Dev nD) : FVec Ideal S1x1024 .f32 := V m c main_v23

set_option maxHeartbeats 1000000 in
/-- `v9` is the four pieces laid end to end. -/
theorem laid9 (c : Dev nD) : B9 m c = concatenate S2816x1024 0 [⟨S1376x1024, B6 m c⟩, ⟨S32x1024, B4 m c⟩, ⟨S1376x1024, B8 m c⟩,
    ⟨S32x1024, B4 m c⟩] concatenates_S1376x1024_S32x1024_S1376x1024_S32x1024_S2816x1024_d0 := by
  unfold B9 B6 B4 B8 V
  rw [← List.take_append_drop 11 (hostOps0 (F := Ideal)), after_two]
  generalize StableHlo.after (List.take 11 (hostOps0 (F := Ideal))) _ = σ
  simp only [hostOps0, List.drop]
  after_results
  rfl

set_option maxHeartbeats 1000000 in
/-- `v14` is the four pieces laid end to end. -/
theorem laid14 (c : Dev nD) : B14 m c = concatenate S2816x1024 0 [⟨S1376x1024, B11 m c⟩, ⟨S32x1024, B4 m c⟩, ⟨S1376x1024, B13 m c⟩,
    ⟨S32x1024, B4 m c⟩] concatenates_S1376x1024_S32x1024_S1376x1024_S32x1024_S2816x1024_d0 := by
  unfold B14 B11 B4 B13 V
  rw [← List.take_append_drop 16 (hostOps0 (F := Ideal)), after_two]
  generalize StableHlo.after (List.take 16 (hostOps0 (F := Ideal))) _ = σ
  simp only [hostOps0, List.drop]
  after_results
  rfl

set_option maxHeartbeats 1000000 in
/-- `v18` is the four pieces laid end to end. -/
theorem laid18 (c : Dev nD) : B18 m c = truncf .bf16 (concatenate S8192x2816 1 [⟨S8192x1376, B15 m c⟩, ⟨S8192x32, B0 m c⟩, ⟨S8192x1376, B16 m c⟩,
    ⟨S8192x32, B0 m c⟩] concatenates_S8192x1376_S8192x32_S8192x1376_S8192x32_S8192x2816_d1) bitsLt_bf16_f32 := by
  unfold B18 B15 B0 B16 V
  rw [← List.take_append_drop 19 (hostOps0 (F := Ideal)), after_two]
  generalize StableHlo.after (List.take 19 (hostOps0 (F := Ideal))) _ = σ
  simp only [hostOps0, List.drop]
  after_results
  rfl

set_option maxHeartbeats 1000000 in
/-- `v22` is the four pieces laid end to end. -/
theorem laid22 (c : Dev nD) : B22 m c = truncf .bf16 (concatenate S8192x2816 1 [⟨S8192x1376, B19 m c⟩, ⟨S8192x32, B0 m c⟩, ⟨S8192x1376, B20 m c⟩,
    ⟨S8192x32, B0 m c⟩] concatenates_S8192x1376_S8192x32_S8192x1376_S8192x32_S8192x2816_d1) bitsLt_bf16_f32 := by
  unfold B22 B19 B0 B20 V
  rw [← List.take_append_drop 23 (hostOps0 (F := Ideal)), after_two]
  generalize StableHlo.after (List.take 23 (hostOps0 (F := Ideal))) _ = σ
  simp only [hostOps0, List.drop]
  after_results
  rfl

/-- The zeros after a half. -/
theorem at0 (c : Dev nD) (j) : B0 m c j = 0 := by
  unfold B0
  entry_read
  pointwise

/-- The zero rows after a half. -/
theorem at4 (c : Dev nD) (j) : B4 m c j = 0 := by
  unfold B4
  entry_read
  pointwise

/-- Quarter 0 of the transposed weight. -/
theorem at6 (c : Dev nD) (j) : B6 m c j = (m ((c : Thread nD τ).loc main_arg2) : FVec Ideal S1024x5504 .f32) (ix2 (j 1) ⟨0 + (j 0).val, by have := (j 0).isLt; simp at this; omega⟩) := by
  unfold B6
  entry_read
  pointwise

/-- Quarter 1 of the transposed weight. -/
theorem at8 (c : Dev nD) (j) : B8 m c j = (m ((c : Thread nD τ).loc main_arg2) : FVec Ideal S1024x5504 .f32) (ix2 (j 1) ⟨1376 + (j 0).val, by have := (j 0).isLt; simp at this; omega⟩) := by
  unfold B8
  entry_read
  pointwise

/-- Quarter 2 of the transposed weight. -/
theorem at11 (c : Dev nD) (j) : B11 m c j = (m ((c : Thread nD τ).loc main_arg2) : FVec Ideal S1024x5504 .f32) (ix2 (j 1) ⟨2752 + (j 0).val, by have := (j 0).isLt; simp at this; omega⟩) := by
  unfold B11
  entry_read
  pointwise

/-- Quarter 3 of the transposed weight. -/
theorem at13 (c : Dev nD) (j) : B13 m c j = (m ((c : Thread nD τ).loc main_arg2) : FVec Ideal S1024x5504 .f32) (ix2 (j 1) ⟨4128 + (j 0).val, by have := (j 0).isLt; simp at this; omega⟩) := by
  unfold B13
  entry_read
  pointwise

/-- Half of the gradient. -/
theorem at15 (c : Dev nD) (j) : B15 m c j = (m ((c : Thread nD τ).loc main_arg0) : FVec Ideal S8192x2752 .f32) (ix2 (j 0) ⟨0 + (j 1).val, by have := (j 1).isLt; simp at this; omega⟩) := by
  unfold B15
  entry_read
  pointwise

/-- Half of the gradient. -/
theorem at16 (c : Dev nD) (j) : B16 m c j = (m ((c : Thread nD τ).loc main_arg0) : FVec Ideal S8192x2752 .f32) (ix2 (j 0) ⟨1376 + (j 1).val, by have := (j 1).isLt; simp at this; omega⟩) := by
  unfold B16
  entry_read
  pointwise

/-- Half of the gradient. -/
theorem at19 (c : Dev nD) (j) : B19 m c j = (m ((c : Thread nD τ).loc main_arg1) : FVec Ideal S8192x2752 .f32) (ix2 (j 0) ⟨0 + (j 1).val, by have := (j 1).isLt; simp at this; omega⟩) := by
  unfold B19
  entry_read
  pointwise

/-- Half of the gradient. -/
theorem at20 (c : Dev nD) (j) : B20 m c j = (m ((c : Thread nD τ).loc main_arg1) : FVec Ideal S8192x2752 .f32) (ix2 (j 0) ⟨1376 + (j 1).val, by have := (j 1).isLt; simp at this; omega⟩) := by
  unfold B20
  entry_read
  pointwise

/-- The gain as a row. -/
theorem at23 (c : Dev nD) (j) : B23 m c j = (m ((c : Thread nD τ).loc main_arg4) : FVec Ideal S1024 .f32) (ix1 (j 1)) := by
  unfold B23
  entry_read
  pointwise

/-- Two halves of a row, each with its zeros after it, are the padded row. -/
theorem four_cols (a b : FVec Ideal S8192x1376 .f32) (z : FVec Ideal S8192x32 .f32) (f : Fin 2752 → EReal) (i : Fin 8192) (k : Fin 2816)
    (ha : ∀ n : Fin 1376, a (ix2 i n) = f ⟨n.val, by omega⟩) (hz : ∀ n : Fin 32, z (ix2 i n) = 0) (hb : ∀ n : Fin 1376, b (ix2 i n) = f ⟨1376 + n.val, by omega⟩) :
    (concatenate S8192x2816 1 [⟨S8192x1376, a⟩, ⟨S8192x32, z⟩, ⟨S8192x1376, b⟩,
    ⟨S8192x32, z⟩] concatenates_S8192x1376_S8192x32_S8192x1376_S8192x32_S8192x2816_d1 : FVec Ideal S8192x2816 .f32) (ix2 i k) = Cert.Alg.padded f k := by
  pointwise
  unfold Cert.Alg.padded
  by_cases h1 : k.val < 1376
  · rw [dif_pos h1, dif_pos h1]
    exact ha _
  · by_cases h2 : k.val < 1408
    · rw [dif_neg h1, dif_pos (by omega), dif_neg h1, if_pos h2]
      exact hz _
    · by_cases h3 : k.val < 2784
      · rw [dif_neg h1, dif_neg (by omega), dif_pos (by omega), dif_neg h1, if_neg h2, dif_pos h3]
        exact (hb _).trans (congrArg f (Fin.ext (by simp; omega)))
      · rw [dif_neg h1, dif_neg (by omega), dif_neg (by omega), dif_neg h1, if_neg h2, dif_neg h3]
        exact hz _

/-- The same of columns. -/
theorem four_rows (a b : FVec Ideal S1376x1024 .bf16) (z : FVec Ideal S32x1024 .bf16) (f : Fin 2752 → EReal) (i : Fin 1024) (k : Fin 2816)
    (ha : ∀ n : Fin 1376, a (ix2 n i) = f ⟨n.val, by omega⟩) (hz : ∀ n : Fin 32, z (ix2 n i) = 0) (hb : ∀ n : Fin 1376, b (ix2 n i) = f ⟨1376 + n.val, by omega⟩) :
    (concatenate S2816x1024 0 [⟨S1376x1024, a⟩, ⟨S32x1024, z⟩, ⟨S1376x1024, b⟩,
    ⟨S32x1024, z⟩] concatenates_S1376x1024_S32x1024_S1376x1024_S32x1024_S2816x1024_d0 : FVec Ideal S2816x1024 .bf16) (ix2 k i) = Cert.Alg.padded f k := by
  pointwise
  unfold Cert.Alg.padded
  by_cases h1 : k.val < 1376
  · rw [dif_pos h1, dif_pos h1]
    exact ha _
  · by_cases h2 : k.val < 1408
    · rw [dif_neg h1, dif_pos (by omega), dif_neg h1, if_pos h2]
      exact hz _
    · by_cases h3 : k.val < 2784
      · rw [dif_neg h1, dif_neg (by omega), dif_pos (by omega), dif_neg h1, if_neg h2, dif_pos h3]
        exact (hb _).trans (congrArg f (Fin.ext (by simp; omega)))
      · rw [dif_neg h1, dif_neg (by omega), dif_neg (by omega), dif_neg h1, if_neg h2, dif_neg h3]
        exact hz _

/-- A row of the gate's gradient as the kernel reads it. -/
theorem row18 (c : Dev nD) (i : Fin 8192) (k : Fin 2816) : B18 m c (ix2 i k) = Cert.Alg.padded (fun n => (m ((c : Thread nD τ).loc main_arg0) : FVec Ideal S8192x2752 .f32) (ix2 i n)) k := by
  rw [laid18]
  exact four_cols _ _ _ _ i k (fun n => (at15 m c _).trans (congrArg (m ((c : Thread nD τ).loc main_arg0) : FVec Ideal S8192x2752 .f32) (congrArg (ix2 i) (Fin.ext (by simp))))) (fun n => at0 m c _)
    (fun n => (at16 m c _).trans (congrArg (m ((c : Thread nD τ).loc main_arg0) : FVec Ideal S8192x2752 .f32) (congrArg (ix2 i) (Fin.ext (by simp <;> omega)))))

/-- A row of the up projection's gradient as the kernel reads it. -/
theorem row22 (c : Dev nD) (i : Fin 8192) (k : Fin 2816) : B22 m c (ix2 i k) = Cert.Alg.padded (fun n => (m ((c : Thread nD τ).loc main_arg1) : FVec Ideal S8192x2752 .f32) (ix2 i n)) k := by
  rw [laid22]
  exact four_cols _ _ _ _ i k (fun n => (at19 m c _).trans (congrArg (m ((c : Thread nD τ).loc main_arg1) : FVec Ideal S8192x2752 .f32) (congrArg (ix2 i) (Fin.ext (by simp))))) (fun n => at0 m c _)
    (fun n => (at20 m c _).trans (congrArg (m ((c : Thread nD τ).loc main_arg1) : FVec Ideal S8192x2752 .f32) (congrArg (ix2 i) (Fin.ext (by simp <;> omega)))))

/-- A column of the gate's weight as the kernel reads it. -/
theorem row9 (c : Dev nD) (i : Fin 1024) (k : Fin 2816) : B9 m c (ix2 k i) = Cert.Alg.padded (fun n => (m ((c : Thread nD τ).loc main_arg2) : FVec Ideal S1024x5504 .f32) (ix2 i ⟨0 + n.val, by omega⟩)) k := by
  rw [laid9]
  exact four_rows _ _ _ _ i k (fun n => (at6 m c _).trans (congrArg (m ((c : Thread nD τ).loc main_arg2) : FVec Ideal S1024x5504 .f32) (congrArg (ix2 i) (Fin.ext (by simp))))) (fun n => at4 m c _)
    (fun n => (at8 m c _).trans (congrArg (m ((c : Thread nD τ).loc main_arg2) : FVec Ideal S1024x5504 .f32) (congrArg (ix2 i) (Fin.ext (by simp <;> omega)))))

/-- A column of the up projection's weight as the kernel reads it. -/
theorem row14 (c : Dev nD) (i : Fin 1024) (k : Fin 2816) : B14 m c (ix2 k i) = Cert.Alg.padded (fun n => (m ((c : Thread nD τ).loc main_arg2) : FVec Ideal S1024x5504 .f32) (ix2 i ⟨2752 + n.val, by omega⟩)) k := by
  rw [laid14]
  exact four_rows _ _ _ _ i k (fun n => (at11 m c _).trans (congrArg (m ((c : Thread nD τ).loc main_arg2) : FVec Ideal S1024x5504 .f32) (congrArg (ix2 i) (Fin.ext (by simp))))) (fun n => at4 m c _)
    (fun n => (at13 m c _).trans (congrArg (m ((c : Thread nD τ).loc main_arg2) : FVec Ideal S1024x5504 .f32) (congrArg (ix2 i) (Fin.ext (by simp <;> omega)))))

/-- Every window's block at a grid point, decided over the grid. -/
theorem idx : ∀ t : Fin cfg0.N, win0_0.index t = ![t.val, 0]
    ∧ win0_1.index t = ![0, 0] ∧ win0_2.index t = ![t.val, 0] ∧ win0_3.index t = ![0, 0]
    ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The root mean square's reciprocal of a row. -/
def rs (x : Fin 1024 → EReal) : EReal :=
  Ideal.rsqrt (Ideal.div (∑ k, x k * x k) (Ideal.ofBits .f32 0x44800000#32) + Ideal.ofBits .f32 0x358637BD#32)

/-- What comes back through the two products, at one entry. -/
def back (v0 : Vec Ideal S512x2816 .bf16) (v2 : Vec Ideal S2816x1024 .bf16) (v5 : Vec Ideal S512x2816 .bf16) (v7 : Vec Ideal S2816x1024 .bf16)
    (i : Fin 512) (k : Fin 1024) : EReal :=
  ∑ n : Fin 2816, v0 (ix2 i n) * v2 (ix2 n k) + ∑ n : Fin 2816, v5 (ix2 i n) * v7 (ix2 n k)

/-- The two products of the body. -/
theorem pay4_at (v0 : Vec Ideal S512x2816 .bf16) (v2 : Vec Ideal S2816x1024 .bf16) (v5 : Vec Ideal S512x2816 .bf16) (v7 : Vec Ideal S2816x1024 .bf16)
    (i : Fin 512) (k : Fin 1024) : k0_pay4 v0 v2 v5 v7 (ix2 i k) = back v0 v2 v5 v7 i k := by
  pointwise [k0_pay4]
  rfl

/-- The normalised row. -/
theorem pay6_at (v11 : Vec Ideal S512x1024 .f32) (i : Fin 512) (k : Fin 1024) :
    k0_pay6 v11 (ix2 i k) = v11 (ix2 i k) * rs (fun n => v11 (ix2 i n)) := by
  pointwise [k0_pay6, k0_pay5, rs]

/-- The body's gradient of the input, in the form the chain rule spells. -/
theorem pay7_at (v0 : Vec Ideal S512x2816 .bf16) (v2 : Vec Ideal S2816x1024 .bf16) (v5 : Vec Ideal S512x2816 .bf16) (v7 : Vec Ideal S2816x1024 .bf16)
    (v11 : Vec Ideal S512x1024 .f32) (v22 : Vec Ideal S1x1024 .f32) (v26 : Vec Ideal S512x1024 .f32) (i : Fin 512) (k : Fin 1024) :
    k0_pay7 v0 v2 v5 v7 v11 v22 v26 (ix2 i k) = v26 (ix2 i k)
      + rs (fun n => v11 (ix2 i n)) * (back v0 v2 v5 v7 i k * v22 (ix2 0 k) - v11 (ix2 i k) * rs (fun n => v11 (ix2 i n))
        * Ideal.div (∑ n, back v0 v2 v5 v7 i n * v22 (ix2 0 n) * (v11 (ix2 i n) * rs (fun n => v11 (ix2 i n)))) (Ideal.ofBits .f32 0x44800000#32)) := by
  pointwise [k0_pay7, k0_pay6, k0_pay5]
  simp only [pay4_at]
  rfl

open Cert.Reference12Ideal.Read in
/-- What comes back through the two products of the reference is one product with the weights side by side. -/
theorem ref_back (x0 x1 : FVec Ideal Cert.Reference12Ideal.S8192x2752 .f32) (x2 : FVec Ideal Cert.Reference12Ideal.S1024x5504 .f32) (i : Fin 8192) (k : Fin 1024) :
    val_main_v20 (F := Ideal) x0 x1 x2 (ix2 i k) = ∑ n : Fin 2752, x0 (ix2 i n) * x2 (ix2 k ⟨n.val, by omega⟩)
      + ∑ n : Fin 2752, x1 (ix2 i n) * x2 (ix2 k ⟨2752 + n.val, by omega⟩) := by
  pointwise [val_main_v20, val_main_v19]

open Cert.Reference12Ideal.Read in
/-- The reference's gradient of the input. -/
theorem ref_dx (x0 x1 : FVec Ideal Cert.Reference12Ideal.S8192x2752 .f32) (x2 : FVec Ideal Cert.Reference12Ideal.S1024x5504 .f32)
    (x3 : FVec Ideal Cert.Reference12Ideal.S8192x1024 .f32) (x4 : FVec Ideal Cert.Reference12Ideal.S1024 .f32) (x5 : FVec Ideal Cert.Reference12Ideal.S8192x1024 .f32) (i : Fin 8192) (k : Fin 1024) :
    val_main_v41 (F := Ideal) x0 x1 x2 x3 x4 x5 (ix2 i k) = x5 (ix2 i k)
      + rs (fun n => x3 (ix2 i n)) * (val_main_v20 (F := Ideal) x0 x1 x2 (ix2 i k) * x4 (ix1 k) - x3 (ix2 i k) * rs (fun n => x3 (ix2 i n))
        * Ideal.div (∑ n, val_main_v20 (F := Ideal) x0 x1 x2 (ix2 i n) * x4 (ix1 n) * (x3 (ix2 i n) * rs (fun n => x3 (ix2 i n)))) (Ideal.ofBits .f32 0x44800000#32)) := by
  unfold rs
  rw [Cert.Alg.rms_bwd (fun n => x3 (ix2 i n)) (fun n => val_main_v20 (F := Ideal) x0 x1 x2 (ix2 i n) * x4 (ix1 n)) _ k _ (Cert.Alg.under_root _)]
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Fin.sum_univ_one]

open Cert.Reference12Ideal.Read in
/-- The reference's gradient of the gain. -/
theorem ref_dgain (x0 x1 : FVec Ideal Cert.Reference12Ideal.S8192x2752 .f32) (x2 : FVec Ideal Cert.Reference12Ideal.S1024x5504 .f32)
    (x3 : FVec Ideal Cert.Reference12Ideal.S8192x1024 .f32) (z : Fin 1) (k : Fin 1024) :
    val_main_v43 (F := Ideal) x0 x1 x2 x3 (ix2 z k) = ∑ i : Fin 8192, val_main_v20 (F := Ideal) x0 x1 x2 (ix2 i k) * (x3 (ix2 i k) * rs (fun n => x3 (ix2 i n))) := by
  pointwise [val_main_v43, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [Fin.sum_univ_one]
  exact Finset.sum_congr rfl fun i _ => mul_comm _ _

/-- A row of a block at a grid point, in the array. -/
def inArr (t : Fin cfg0.N) (r : Fin 512) : Fin 8192 := ⟨512 * t.val + r.val, by have h : t.val < 16 := lt_of_lt_of_eq t.isLt (show cfg0.N = 16 from N_0); omega⟩

/-- The gate gradient's block. -/
theorem blk0 (c : Dev nD) (t : Fin cfg0.N) (r : Fin 512) (n : Fin 2816) :
    (show Vec Ideal S512x2816 .bf16 from iblk m c 0 t) (ix2 r n) = B18 m c (ix2 (inArr t r) n) := by
  blk_point [iblk, idx t]
  simp only [inArr]
  omega
/-- The gate's weight, whole. -/
theorem blk1 (c : Dev nD) (t : Fin cfg0.N) (n : Fin 2816) (k : Fin 1024) :
    (show Vec Ideal S2816x1024 .bf16 from iblk m c 1 t) (ix2 n k) = B9 m c (ix2 n k) := by
  blk_point [iblk, idx t]
/-- The up gradient's block. -/
theorem blk2 (c : Dev nD) (t : Fin cfg0.N) (r : Fin 512) (n : Fin 2816) :
    (show Vec Ideal S512x2816 .bf16 from iblk m c 2 t) (ix2 r n) = B22 m c (ix2 (inArr t r) n) := by
  blk_point [iblk, idx t]
  simp only [inArr]
  omega
/-- The up weight, whole. -/
theorem blk3 (c : Dev nD) (t : Fin cfg0.N) (n : Fin 2816) (k : Fin 1024) :
    (show Vec Ideal S2816x1024 .bf16 from iblk m c 3 t) (ix2 n k) = B14 m c (ix2 n k) := by
  blk_point [iblk, idx t]
/-- The input's block. -/
theorem blk4 (c : Dev nD) (t : Fin cfg0.N) (r : Fin 512) (n : Fin 1024) :
    (show Vec Ideal S512x1024 .f32 from iblk m c 4 t) (ix2 r n) = (V m c main_arg3 : FVec Ideal S8192x1024 .f32) (ix2 (inArr t r) n) := by
  blk_point [iblk, idx t]
  simp only [inArr]
  omega
/-- The gain, whole. -/
theorem blk5 (c : Dev nD) (t : Fin cfg0.N) (z : Fin 1) (n : Fin 1024) :
    (show Vec Ideal S1x1024 .f32 from iblk m c 5 t) (ix2 z n) = B23 m c (ix2 0 n) := by
  blk_point [iblk, idx t]
/-- The residual's gradient's block. -/
theorem blk6 (c : Dev nD) (t : Fin cfg0.N) (r : Fin 512) (n : Fin 1024) :
    (show Vec Ideal S512x1024 .f32 from iblk m c 6 t) (ix2 r n) = (V m c main_arg5 : FVec Ideal S8192x1024 .f32) (ix2 (inArr t r) n) := by
  blk_point [iblk, idx t]
  simp only [inArr]
  omega

open Cert.Reference12Ideal.Read

/-- The gate gradient's block, by its padded rows. -/
theorem pad0 (c : Dev nD) (t : Fin cfg0.N) (r : Fin 512) (n : Fin 2816) :
    (iblk m c 0 t : Vec Ideal S512x2816 .bf16) (ix2 r n) = Cert.Alg.padded (fun n => (m ((c : Thread nD τ).loc main_arg0) : FVec Ideal S8192x2752 .f32) (ix2 (inArr t r) n)) n :=
  (blk0 m c t r n).trans (row18 m c _ n)

/-- The gate's weight, by its padded columns. -/
theorem pad1 (c : Dev nD) (t : Fin cfg0.N) (n : Fin 2816) (k : Fin 1024) :
    (iblk m c 1 t : Vec Ideal S2816x1024 .bf16) (ix2 n k) = Cert.Alg.padded (fun n => (m ((c : Thread nD τ).loc main_arg2) : FVec Ideal S1024x5504 .f32) (ix2 k ⟨n.val, by omega⟩)) n :=
  ((blk1 m c t n k).trans (row9 m c k n)).trans (by simp only [Nat.zero_add])

/-- The up gradient's block, by its padded rows. -/
theorem pad2 (c : Dev nD) (t : Fin cfg0.N) (r : Fin 512) (n : Fin 2816) :
    (iblk m c 2 t : Vec Ideal S512x2816 .bf16) (ix2 r n) = Cert.Alg.padded (fun n => (m ((c : Thread nD τ).loc main_arg1) : FVec Ideal S8192x2752 .f32) (ix2 (inArr t r) n)) n :=
  (blk2 m c t r n).trans (row22 m c _ n)

/-- The up weight, by its padded columns. -/
theorem pad3 (c : Dev nD) (t : Fin cfg0.N) (n : Fin 2816) (k : Fin 1024) :
    (iblk m c 3 t : Vec Ideal S2816x1024 .bf16) (ix2 n k) = Cert.Alg.padded (fun n => (m ((c : Thread nD τ).loc main_arg2) : FVec Ideal S1024x5504 .f32) (ix2 k ⟨2752 + n.val, by omega⟩)) n :=
  (blk3 m c t n k).trans (row14 m c k n)

/-- What comes back through the two products at a block's entry is the reference's at the array's. -/
theorem back_blk (c : Dev nD) (t : Fin cfg0.N) (r : Fin 512) (k : Fin 1024) :
    back (iblk m c 0 t) (iblk m c 1 t) (iblk m c 2 t) (iblk m c 3 t) r k = val_main_v20 (F := Ideal) (m ((c : Thread nD τ).loc main_arg0)) (m ((c : Thread nD τ).loc main_arg1)) (m ((c : Thread nD τ).loc main_arg2)) (ix2 (inArr t r) k) := by
  rw [ref_back]
  unfold back
  simp only [pad0, pad1, pad2, pad3]
  rw [Cert.Alg.sum_padded, Cert.Alg.sum_padded]

/-- The input. -/
abbrev B3x (c : Dev nD) : FVec Ideal S8192x1024 .f32 := m ((c : Thread nD τ).loc main_arg3)

/-- A row of the input at a block's row. -/
theorem x_blk (c : Dev nD) (t : Fin cfg0.N) (r : Fin 512) (n : Fin 1024) :
    (iblk m c 4 t : Vec Ideal S512x1024 .f32) (ix2 r n) = (m ((c : Thread nD τ).loc main_arg3) : FVec Ideal S8192x1024 .f32) (ix2 (inArr t r) n) := by
  refine (blk4 m c t r n).trans ?_
  rw [V_main_arg3]

/-- The body's gradient of the input at a block's entry. -/
theorem pay7_blk (c : Dev nD) (t : Fin cfg0.N) (r : Fin 512) (k : Fin 1024) :
    k0_pay7 (iblk m c 0 t) (iblk m c 1 t) (iblk m c 2 t) (iblk m c 3 t) (iblk m c 4 t) (iblk m c 5 t) (iblk m c 6 t) (ix2 r k)
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (inArr t r) k) := by
  have h5 : ∀ n, (iblk m c 5 t : Vec Ideal S1x1024 .f32) (ix2 0 n) = (m ((c : Thread nD τ).loc main_arg4) : FVec Ideal S1024 .f32) (ix1 n) := fun n =>
    (blk5 m c t 0 n).trans (at23 m c _)
  have h6 : (iblk m c 6 t : Vec Ideal S512x1024 .f32) (ix2 r k) = (m ((c : Thread nD τ).loc main_arg5) : FVec Ideal S8192x1024 .f32) (ix2 (inArr t r) k) := by
    refine (blk6 m c t r k).trans ?_
    rw [V_main_arg5]
  rw [pay7_at, ref_dx]
  simp only [back_blk, x_blk, h5, h6]

/-- The first result's block. -/
theorem dx_at (c : Dev nD) (t : Fin cfg0.N) (r : Fin 512) (k : Fin 1024) :
    (outsAt0 m c t.val t.isLt).1 (ix2 r k) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (inArr t r) k) := by
  by_cases h : t.val % 16 = 0
  · rw [outsAt0_A m c t h]; frame_out; exact pay7_blk m c t r k
  · rw [outsAt0_B m c t h]; frame_out; exact pay7_blk m c t r k

/-- The copy that the block before is handed. -/
theorem copy_at (v : Vec Ideal S512x1024 .f32) (j : S512x1024.Idx) : (k0_pay1 v : FVec Ideal S512x1024 .bf16) j = ((v : FVec Ideal S512x1024 .f32) j : EReal) := by
  pointwise [k0_pay1]

/-- The second result's block. -/
theorem dxb_at (c : Dev nD) (t : Fin cfg0.N) (r : Fin 512) (k : Fin 1024) :
    (outsAt0 m c t.val t.isLt).2.1 (ix2 r k) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (inArr t r) k) := by
  by_cases h : t.val % 16 = 0
  · rw [outsAt0_A m c t h]; frame_out; exact (copy_at _ _).trans (pay7_blk m c t r k)
  · rw [outsAt0_B m c t h]; frame_out; exact (copy_at _ _).trans (pay7_blk m c t r k)

/-- The reference's copy. -/
theorem ref_copy (c : Dev nD) (j) : val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  pointwise [val_main_v42]

/-- A row's part of the gain's gradient. -/
def part (c : Dev nD) (k : Fin 1024) (i : Fin 8192) : EReal :=
  (val_main_v20 (F := Ideal) (m ((c : Thread nD τ).loc main_arg0)) (m ((c : Thread nD τ).loc main_arg1)) (m ((c : Thread nD τ).loc main_arg2)) : FVec Ideal S8192x1024 .f32) (ix2 i k) * (B3x m c (ix2 i k) * rs (fun n => B3x m c (ix2 i n)))

/-- A block's part of the gain's gradient. -/
theorem part_at (c : Dev nD) (t : Fin cfg0.N) (acc : Vec Ideal S1x1024 .f32) (z : Fin 1) (k : Fin 1024) :
    k0_pay3 (k0_pay4 (iblk m c 0 t) (iblk m c 1 t) (iblk m c 2 t) (iblk m c 3 t)) (k0_pay6 (iblk m c 4 t)) acc (ix2 z k)
      = acc (ix2 z k) + ∑ r : Fin 512, part m c k (inArr t r) := by
  pointwise [k0_pay3]
  simp only [pay4_at, pay6_at, back_blk, x_blk]
  rfl

/-- The gain's gradient starts at zero. -/
theorem start_zero (j : S1x1024.Idx) : k0_pay2 (F := Ideal) j = 0 := by pointwise! [k0_pay2]

/-- At the first point the gain's gradient is the block's part. -/
theorem gain_first (c : Dev nD) (t : Fin cfg0.N) (h : t.val % 16 = 0) (z : Fin 1) (k : Fin 1024) :
    (outsAt0 m c t.val t.isLt).2.2 (ix2 z k) = 0 + ∑ r : Fin 512, part m c k (inArr t r) := by
  rw [outsAt0_A m c t h]
  frame_out
  rw [part_at, start_zero]

/-- At every other point it is what the point before left and the block's part. -/
theorem gain_next (c : Dev nD) (t : Fin cfg0.N) (h : ¬t.val % 16 = 0) (z : Fin 1) (k : Fin 1024) :
    (outsAt0 m c t.val t.isLt).2.2 (ix2 z k) = (outsAt0 m c (t.val - 1) (Nat.lt_of_le_of_lt (Nat.sub_le _ _) t.isLt)).2.2 (ix2 z k)
      + ∑ r : Fin 512, part m c k (inArr t r) := by
  rw [outsAt0_B m c t h]
  frame_out
  rw [part_at]

/-- The gradient of the input, whole. -/
theorem final7 (c : Dev nD) : (dats m 0 c).arrAt 7 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  refine (congrArg _ (eq_ix2 y)).trans ((dx_at m c t (y 0) (y 1)).trans (congrArg _ ?_))
  blk_ext [idx t, inArr]

/-- Its copy, whole. -/
theorem final8 (c : Dev nD) : (dats m 0 c).arrAt 8 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, ref_copy]
  refine (congrArg _ (eq_ix2 y)).trans ((dxb_at m c t (y 0) (y 1)).trans (congrArg (fun j => val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j) ?_))
  blk_ext [idx t, inArr]

/-- The gradient of the gain, whole. -/
theorem final9 (c : Dev nD) : (dats m 0 c).arrAt 9 cfg0.N = val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have hm : t.val % 16 = 15 := (flush0_9 t).mp hf
  blk_simp
  rw [after0_9, Pipeline.eq_sum_fin_of_reset_step_apply_of_flush (fun n h => (outsAt0 m c n h).2.2) 16 (fun _ => 0) _
    (fun t h j => (congrArg _ (eq_ix2 j)).trans (gain_first m c t h (j 0) (j 1)))
    (fun t h j => ((congrArg _ (eq_ix2 j)).trans (gain_next m c t h (j 0) (j 1))).trans (congrArg₂ (· + ·) (congrArg _ (eq_ix2 j).symm) rfl)) t hm _, zero_add]
  have e : ((win0_9.blk t).view.emb y : S1x1024.Idx) = ix2 (y 0) (y 1) := by
    blk_ext [idx t]
  refine Eq.trans ?_ ((congrArg _ e).trans (ref_dgain _ _ _ _ (y 0) (y 1))).symm
  have hN : t.val < 16 := lt_of_lt_of_eq t.isLt (show cfg0.N = 16 from N_0)
  refine Fin.sum_mul_add_congr fun s r hl => ?_
  refine (congrArg (part m c (y 1)) (Fin.ext ?_)).trans (b := part m c (y 1) ⟨_, hl⟩) rfl
  simp only [inArr]
  omega

end Cert.Kernel12Ideal.Own

end
-- ==== Proof.Final.lean ====
/- The loss's call (`_final`): the body's block of the gradient of the last rows and of its half, the gain's gradient and the loss
   summed over the grid, against the value of the plain loss and what `jax.vjp` takes of it. -/
module

public import proofs.«01_k».proof.Proof.Gen.Kernel13Ideal.Value
public import proofs.«01_k».proof.Proof.Gen.Reference13Ideal.Read
public import proofs.«01_k».proof.Proof.Alg
public import proofs.«01_k».proof.Proof.Rms
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)
open Cert.Rms (rs)
open scoped BigOperators

namespace Cert.Kernel13Ideal.Own

open Cert.Kernel13Ideal Cert.Kernel13Ideal.Gen

variable (m : (ℓ : Loc nD τ sig) → Buf (Elt Ideal) ℓ)

/-- The input. -/
abbrev X (c : Dev nD) : FVec Ideal S8192x1024 .f32 := m ((c : Thread nD τ).loc main_arg0)
/-- The target. -/
abbrev T (c : Dev nD) : FVec Ideal S8192x1024 .f32 := m ((c : Thread nD τ).loc main_arg1)
/-- The gain. -/
abbrev G (c : Dev nD) : FVec Ideal S1024 .f32 := m ((c : Thread nD τ).loc main_arg2)

/-- `f32`'s `1/1024` is that number. -/
theorem lit_inv : Ideal.ofBits .f32 0x3A800000#32 = (((1024 : ℝ)⁻¹ : ℝ) : EReal) := by
  simp [Ideal.ofBits, Ideal.ieee]
  norm_num [← EReal.coe_mul]

/-- `f32`'s `1/2048` is that number. -/
theorem lit_inv2 : Ideal.ofBits .f32 0x3A000000#32 = (((2048 : ℝ)⁻¹ : ℝ) : EReal) := by
  simp [Ideal.ofBits, Ideal.ieee]
  norm_num [← EReal.coe_mul]

/-- `f32`'s `1/2` is that number. -/
theorem lit_half : Ideal.ofBits .f32 0x3F000000#32 = ((1 / 2 : ℝ) : EReal) := by
  simp [Ideal.ofBits, Ideal.ieee]
  norm_num [← EReal.coe_mul]

/-- `f32`'s `2` is that number. -/
theorem lit_two : Ideal.ofBits .f32 0x40000000#32 = ((2 : ℝ) : EReal) := by
  simp [Ideal.ofBits, Ideal.ieee]
  norm_num [← EReal.coe_mul]

/-- Dividing by 1024 is multiplying by its inverse. -/
theorem div_1024 (s : EReal) : Ideal.div s (Ideal.ofBits .f32 0x44800000#32) = s * (((1024 : ℝ)⁻¹ : ℝ) : EReal) := by
  rw [Cert.Alg.lit_1024]
  unfold Ideal.div
  rw [if_neg (by norm_num), EReal.coe_inv]

/-- The error's factor as the chain rule spells it. -/
theorem factor (e : EReal) : Ideal.div (Ideal.ofBits .f32 0x3F000000#32) (Ideal.ofBits .f32 0x44800000#32) * (Ideal.ofBits .f32 0x40000000#32 * e)
    = e * Ideal.ofBits .f32 0x3A800000#32 := by
  rw [div_1024, lit_half, lit_two, lit_inv, ← mul_assoc, ← EReal.coe_mul, ← EReal.coe_mul, mul_comm]
  congr 2
  norm_num

/-- The error of one entry. -/
def err (x : Fin 1024 → EReal) (g t : EReal) (k : Fin 1024) : EReal := x k * rs x * g - t

/-- Every window's block at a grid point, decided over the grid. -/
theorem idx : ∀ t : Fin cfg0.N, win0_0.index t = ![t.val, 0]
    ∧ win0_1.index t = ![t.val, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

/-- The normalised row. -/
theorem pay6_at (v0 : Vec Ideal S512x1024 .f32) (i : Fin 512) (k : Fin 1024) :
    k0_pay6 v0 (ix2 i k) = v0 (ix2 i k) * rs (fun n => v0 (ix2 i n)) := by
  pointwise [k0_pay6, k0_pay5, rs]

/-- The error. -/
theorem pay7_at (v0 : Vec Ideal S512x1024 .f32) (v11 : Vec Ideal S1x1024 .f32) (v15 : Vec Ideal S512x1024 .f32) (i : Fin 512) (k : Fin 1024) :
    k0_pay7 v0 v11 v15 (ix2 i k) = err (fun n => v0 (ix2 i n)) (v11 (ix2 0 k)) (v15 (ix2 i k)) k := by
  pointwise [k0_pay7]
  rw [pay6_at]
  rfl

/-- The gradient of the normalised rows. -/
theorem pay8_at (v0 : Vec Ideal S512x1024 .f32) (v11 : Vec Ideal S1x1024 .f32) (v15 : Vec Ideal S512x1024 .f32) (i : Fin 512) (k : Fin 1024) :
    k0_pay8 v0 v11 v15 (ix2 i k) = err (fun n => v0 (ix2 i n)) (v11 (ix2 0 k)) (v15 (ix2 i k)) k * Ideal.ofBits .f32 0x3A800000#32 := by
  pointwise [k0_pay8]
  rw [pay7_at]

/-- The body's gradient of the input, in the form the chain rule spells. -/
theorem pay9_at (v0 : Vec Ideal S512x1024 .f32) (v11 : Vec Ideal S1x1024 .f32) (v15 : Vec Ideal S512x1024 .f32) (v19 : Vec Ideal S1x1024 .f32) (i : Fin 512) (k : Fin 1024) :
    k0_pay9 v0 v11 v15 v19 (ix2 i k) =
      rs (fun n => v0 (ix2 i n)) * (k0_pay8 v0 v11 v15 (ix2 i k) * v19 (ix2 0 k) - v0 (ix2 i k) * rs (fun n => v0 (ix2 i n))
        * Ideal.div (∑ n, k0_pay8 v0 v11 v15 (ix2 i n) * v19 (ix2 0 n) * (v0 (ix2 i n) * rs (fun n => v0 (ix2 i n)))) (Ideal.ofBits .f32 0x44800000#32)) := by
  pointwise [k0_pay9, k0_pay6, k0_pay5]
  rfl

/-- The half that the block before is handed. -/
theorem pay10_at (v0 : Vec Ideal S512x1024 .f32) (v11 : Vec Ideal S1x1024 .f32) (v15 : Vec Ideal S512x1024 .f32) (v19 : Vec Ideal S1x1024 .f32) (i : Fin 512) (k : Fin 1024) :
    (k0_pay10 v0 v11 v15 v19 : FVec Ideal S512x1024 .bf16) (ix2 i k) = (Ideal.ofBits .f32 0x3F000000#32 * (k0_pay9 v0 v11 v15 v19 : FVec Ideal S512x1024 .f32) (ix2 i k) : EReal) := by
  pointwise [k0_pay10]

open Cert.Reference13Ideal.Read

/-- The reference's error. -/
theorem ref_err (x0 x1 : FVec Ideal Cert.Reference13Ideal.S8192x1024 .f32) (x2 : FVec Ideal Cert.Reference13Ideal.S1024 .f32) (i : Fin 8192) (k : Fin 1024) :
    val_main_v16 (F := Ideal) x0 x1 x2 (ix2 i k) = err (fun n => x0 (ix2 i n)) (x2 (ix1 k)) (x1 (ix2 i k)) k := by
  pointwise [val_main_v16, val_main_v15, val_main_v14, val_main_v13, val_main_v12, val_main_v11, val_main_v7, val_main_v6, val_main_v5, val_main_v4, val_main_v3, val_main_v2, val_main_v1, val_main_v0, val_main_cst, val_main_cst_0, val_main_cst_1, err, rs]

/-- The reference's gradient of the normalised rows. -/
theorem ref_dy (x0 x1 : FVec Ideal Cert.Reference13Ideal.S8192x1024 .f32) (x2 : FVec Ideal Cert.Reference13Ideal.S1024 .f32) (i : Fin 8192) (k : Fin 1024) :
    val_main_v30 (F := Ideal) x0 x1 x2 (ix2 i k) = err (fun n => x0 (ix2 i n)) (x2 (ix1 k)) (x1 (ix2 i k)) k * Ideal.ofBits .f32 0x3A800000#32 := by
  rw [← factor, ← ref_err]
  pointwise [val_main_v30, val_main_v29, val_main_v28, val_main_v27, val_main_v26, val_main_v25, val_main_v19, val_main_v18, val_main_cst_3, val_main_cst_8, val_main_cst_9, val_main_cst_10]

/-- The reference's gradient of the input. -/
theorem ref_dx (x0 x1 : FVec Ideal Cert.Reference13Ideal.S8192x1024 .f32) (x2 : FVec Ideal Cert.Reference13Ideal.S1024 .f32) (i : Fin 8192) (k : Fin 1024) :
    val_main_v50 (F := Ideal) x0 x1 x2 (ix2 i k) =
      rs (fun n => x0 (ix2 i n)) * (val_main_v30 (F := Ideal) x0 x1 x2 (ix2 i k) * x2 (ix1 k) - x0 (ix2 i k) * rs (fun n => x0 (ix2 i n))
        * Ideal.div (∑ n, val_main_v30 (F := Ideal) x0 x1 x2 (ix2 i n) * x2 (ix1 n) * (x0 (ix2 i n) * rs (fun n => x0 (ix2 i n)))) (Ideal.ofBits .f32 0x44800000#32)) := by
  have h := Cert.Alg.rms_bwd (fun n => x0 (ix2 i n)) (fun n => val_main_v30 (F := Ideal) x0 x1 x2 (ix2 i n) * x2 (ix1 n)) 0 k _ (Cert.Alg.under_root (fun n => x0 (ix2 i n)))
  rw [zero_add, zero_add] at h
  unfold rs
  refine Eq.trans ?_ h.symm
  pointwise [val_main_v50, val_main_v49, val_main_v48, val_main_v47, val_main_v46, val_main_v45, val_main_v44, val_main_v43, val_main_v42, val_main_v41, val_main_v40, val_main_v39, val_main_v38, val_main_v37, val_main_v35, val_main_v34, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  simp only [Fin.sum_univ_one]

/-- The reference's half. -/
theorem ref_half (c : Dev nD) (j) : val_main_v53 (F := Ideal) (X m c) (T m c) (G m c) j = Ideal.ofBits .f32 0x3F000000#32 * val_main_v50 (F := Ideal) (X m c) (T m c) (G m c) j := by
  pointwise [val_main_v53, val_main_v52, val_main_v51, val_main_cst_16]

/-- The reference's gradient of the gain. -/
theorem ref_dgain (x0 x1 : FVec Ideal Cert.Reference13Ideal.S8192x1024 .f32) (x2 : FVec Ideal Cert.Reference13Ideal.S1024 .f32) (z : Fin 1) (k : Fin 1024) :
    val_main_v54 (F := Ideal) x0 x1 x2 (ix2 z k) = ∑ i : Fin 8192, val_main_v30 (F := Ideal) x0 x1 x2 (ix2 i k) * (x0 (ix2 i k) * rs (fun n => x0 (ix2 i n))) := by
  pointwise [val_main_v54, val_main_v36, val_main_v33, val_main_v32, val_main_v31, val_main_v12, val_main_v11, val_main_v7, val_main_v6, val_main_v5, val_main_v4, val_main_v3, val_main_v2, val_main_v1, val_main_v0, val_main_cst, val_main_cst_0, val_main_cst_1, val_main_cst_11, val_main_cst_12, rs]
  simp only [Fin.sum_univ_one]
  exact Finset.sum_congr rfl fun i _ => mul_comm _ _

/-- The reference's loss. -/
theorem ref_loss (x0 x1 : FVec Ideal Cert.Reference13Ideal.S8192x1024 .f32) (x2 : FVec Ideal Cert.Reference13Ideal.S1024 .f32) (j) :
    val_main_v55 (F := Ideal) x0 x1 x2 j = Ideal.ofBits .f32 0x3F000000#32 * ∑ i : Fin 8192, Ideal.div (∑ k : Fin 1024,
      val_main_v16 (F := Ideal) x0 x1 x2 (ix2 i k) * val_main_v16 (F := Ideal) x0 x1 x2 (ix2 i k)) (Ideal.ofBits .f32 0x44800000#32) := by
  pointwise [val_main_v55, val_main_v24, val_main_v23, val_main_v22, val_main_v21, val_main_v20, val_main_v17, val_main_cst_4, val_main_cst_5, val_main_cst_6, val_main_cst_7]

/-- A row of a block at a grid point, in the array. -/
def inArr (t : Fin cfg0.N) (r : Fin 512) : Fin 8192 := ⟨512 * t.val + r.val, by have h : t.val < 16 := lt_of_lt_of_eq t.isLt (show cfg0.N = 16 from N_0); omega⟩

/-- The gain as a row. -/
theorem at0 (c : Dev nD) (j) : (V m c main_v0 : FVec Ideal S1x1024 .f32) j = G m c (ix1 (j 1)) := by
  entry_read
  pointwise

/-- The input's block. -/
theorem x_blk (c : Dev nD) (t : Fin cfg0.N) (r : Fin 512) (n : Fin 1024) :
    (iblk m c 0 t : Vec Ideal S512x1024 .f32) (ix2 r n) = X m c (ix2 (inArr t r) n) := by
  refine Eq.trans (b := (V m c main_arg0 : FVec Ideal S8192x1024 .f32) (ix2 (inArr t r) n)) ?_ (by rw [V_main_arg0])
  blk_point [iblk, idx t]
  simp only [inArr]
  omega

/-- The target's block. -/
theorem t_blk (c : Dev nD) (t : Fin cfg0.N) (r : Fin 512) (n : Fin 1024) :
    (iblk m c 1 t : Vec Ideal S512x1024 .f32) (ix2 r n) = T m c (ix2 (inArr t r) n) := by
  refine Eq.trans (b := (V m c main_arg1 : FVec Ideal S8192x1024 .f32) (ix2 (inArr t r) n)) ?_ (by rw [V_main_arg1])
  blk_point [iblk, idx t]
  simp only [inArr]
  omega

/-- The gain, whole. -/
theorem g_blk (c : Dev nD) (t : Fin cfg0.N) (n : Fin 1024) : (iblk m c 2 t : Vec Ideal S1x1024 .f32) (ix2 0 n) = G m c (ix1 n) := by
  refine Eq.trans (b := (V m c main_v0 : FVec Ideal S1x1024 .f32) (ix2 0 n)) ?_ (at0 m c _)
  blk_point [iblk, idx t]

/-- The error at a block's entry. -/
theorem pay7_blk (c : Dev nD) (t : Fin cfg0.N) (r : Fin 512) (k : Fin 1024) :
    k0_pay7 (iblk m c 0 t) (iblk m c 2 t) (iblk m c 1 t) (ix2 r k) = val_main_v16 (F := Ideal) (X m c) (T m c) (G m c) (ix2 (inArr t r) k) := by
  rw [pay7_at, ref_err]
  simp only [x_blk, t_blk, g_blk]

/-- The gradient of the normalised rows at a block's entry. -/
theorem pay8_blk (c : Dev nD) (t : Fin cfg0.N) (r : Fin 512) (k : Fin 1024) :
    k0_pay8 (iblk m c 0 t) (iblk m c 2 t) (iblk m c 1 t) (ix2 r k) = val_main_v30 (F := Ideal) (X m c) (T m c) (G m c) (ix2 (inArr t r) k) := by
  rw [pay8_at, ref_dy]
  simp only [x_blk, t_blk, g_blk]

/-- The body's gradient of the input at a block's entry. -/
theorem pay9_blk (c : Dev nD) (t : Fin cfg0.N) (r : Fin 512) (k : Fin 1024) :
    k0_pay9 (iblk m c 0 t) (iblk m c 2 t) (iblk m c 1 t) (iblk m c 2 t) (ix2 r k)
      = val_main_v50 (F := Ideal) (X m c) (T m c) (G m c) (ix2 (inArr t r) k) := by
  rw [pay9_at, ref_dx]
  simp only [pay8_blk, x_blk, g_blk]

/-- The first result's block. -/
theorem dx_at (c : Dev nD) (t : Fin cfg0.N) (r : Fin 512) (k : Fin 1024) :
    (outsAt0 m c t.val t.isLt).1 (ix2 r k) = val_main_v50 (F := Ideal) (X m c) (T m c) (G m c) (ix2 (inArr t r) k) := by
  by_cases h : t.val % 16 = 0
  · rw [outsAt0_A m c t h]; frame_out; exact pay9_blk m c t r k
  · rw [outsAt0_B m c t h]; frame_out; exact pay9_blk m c t r k

/-- The second result's block. -/
theorem dxb_at (c : Dev nD) (t : Fin cfg0.N) (r : Fin 512) (k : Fin 1024) :
    (outsAt0 m c t.val t.isLt).2.1 (ix2 r k) = Ideal.ofBits .f32 0x3F000000#32 * val_main_v50 (F := Ideal) (X m c) (T m c) (G m c) (ix2 (inArr t r) k) := by
  by_cases h : t.val % 16 = 0
  · rw [outsAt0_A m c t h]; frame_out; exact (pay10_at _ _ _ _ r k).trans (congrArg _ (pay9_blk m c t r k))
  · rw [outsAt0_B m c t h]; frame_out; exact (pay10_at _ _ _ _ r k).trans (congrArg _ (pay9_blk m c t r k))

/-- A row's part of the gain's gradient. -/
def part (c : Dev nD) (k : Fin 1024) (i : Fin 8192) : EReal :=
  (val_main_v30 (F := Ideal) (X m c) (T m c) (G m c) : FVec Ideal S8192x1024 .f32) (ix2 i k) * (X m c (ix2 i k) * rs (fun n => X m c (ix2 i n)))

/-- A block's part of the gain's gradient. -/
theorem part_at (c : Dev nD) (t : Fin cfg0.N) (acc : Vec Ideal S1x1024 .f32) (z : Fin 1) (k : Fin 1024) :
    k0_pay3 (k0_pay6 (iblk m c 0 t)) (k0_pay8 (iblk m c 0 t) (iblk m c 2 t) (iblk m c 1 t)) acc (ix2 z k)
      = acc (ix2 z k) + ∑ r : Fin 512, part m c k (inArr t r) := by
  pointwise [k0_pay3]
  simp only [pay6_at, pay8_blk, x_blk]
  rfl

/-- The gain's gradient starts at zero. -/
theorem start_zero (j : S1x1024.Idx) : k0_pay1 (F := Ideal) j = 0 := by pointwise! [k0_pay1]

/-- At the first point the gain's gradient is the block's part. -/
theorem gain_first (c : Dev nD) (t : Fin cfg0.N) (h : t.val % 16 = 0) (z : Fin 1) (k : Fin 1024) :
    (outsAt0 m c t.val t.isLt).2.2.1 (ix2 z k) = 0 + ∑ r : Fin 512, part m c k (inArr t r) := by
  rw [outsAt0_A m c t h]
  frame_out
  rw [part_at, start_zero]

/-- At every other point it is what the point before left and the block's part. -/
theorem gain_next (c : Dev nD) (t : Fin cfg0.N) (h : ¬t.val % 16 = 0) (z : Fin 1) (k : Fin 1024) :
    (outsAt0 m c t.val t.isLt).2.2.1 (ix2 z k) = (outsAt0 m c (t.val - 1) (Nat.lt_of_le_of_lt (Nat.sub_le _ _) t.isLt)).2.2.1 (ix2 z k)
      + ∑ r : Fin 512, part m c k (inArr t r) := by
  rw [outsAt0_B m c t h]
  frame_out
  rw [part_at]

/-- A row's squared error. -/
def sq (c : Dev nD) (i : Fin 8192) : EReal :=
  ∑ k : Fin 1024, (val_main_v16 (F := Ideal) (X m c) (T m c) (G m c) : FVec Ideal S8192x1024 .f32) (ix2 i k)
    * (val_main_v16 (F := Ideal) (X m c) (T m c) (G m c) : FVec Ideal S8192x1024 .f32) (ix2 i k)

/-- A row's part of the loss. -/
def lpart (c : Dev nD) (i : Fin 8192) : EReal := sq m c i * (((2048 : ℝ)⁻¹ : ℝ) : EReal)

/-- The loss added by a block, over the entries of the block. -/
theorem pay4_at (v16 : FVec Ideal S512x1024 .f32) (acc : Vec Ideal S1x128 .f32) (j : S1x128.Idx) :
    k0_pay4 v16 acc j = acc j + Ideal.ofBits .f32 0x3A000000#32 * ∑ r : Fin 512, ∑ k : Fin 1024, v16 (ix2 r k) * v16 (ix2 r k) := by
  pointwise [k0_pay4]

/-- A block's part of the loss. -/
theorem lpart_at (c : Dev nD) (t : Fin cfg0.N) (acc : Vec Ideal S1x128 .f32) (j : S1x128.Idx) :
    k0_pay4 (k0_pay7 (iblk m c 0 t) (iblk m c 2 t) (iblk m c 1 t)) acc j = acc j + ∑ r : Fin 512, lpart m c (inArr t r) := by
  rw [pay4_at, lit_inv2]
  simp only [pay7_blk]
  unfold lpart
  rw [Cert.Alg.sum_mul_real _ _ (by positivity), mul_comm]
  rfl

/-- The loss starts at zero. -/
theorem loss_zero (j : S1x128.Idx) : k0_pay2 (F := Ideal) j = 0 := by pointwise! [k0_pay2]

/-- At the first point the loss is the block's part. -/
theorem loss_first (c : Dev nD) (t : Fin cfg0.N) (h : t.val % 16 = 0) (j : S1x128.Idx) :
    (outsAt0 m c t.val t.isLt).2.2.2 j = 0 + ∑ r : Fin 512, lpart m c (inArr t r) := by
  rw [outsAt0_A m c t h]
  frame_out
  rw [lpart_at, loss_zero]

/-- At every other point it is what the point before left and the block's part. -/
theorem loss_next (c : Dev nD) (t : Fin cfg0.N) (h : ¬t.val % 16 = 0) (j : S1x128.Idx) :
    (outsAt0 m c t.val t.isLt).2.2.2 j = (outsAt0 m c (t.val - 1) (Nat.lt_of_le_of_lt (Nat.sub_le _ _) t.isLt)).2.2.2 j
      + ∑ r : Fin 512, lpart m c (inArr t r) := by
  rw [outsAt0_B m c t h]
  frame_out
  rw [lpart_at]

/-- The rows' parts add up to the reference's loss. -/
theorem loss_sum (c : Dev nD) (j) : ∑ i : Fin 8192, lpart m c i = val_main_v55 (F := Ideal) (X m c) (T m c) (G m c) j := by
  rw [ref_loss]
  simp only [div_1024]
  rw [Cert.Alg.sum_mul_real _ _ (by positivity), lit_half, mul_comm, mul_assoc, ← EReal.coe_mul]
  unfold lpart
  rw [Cert.Alg.sum_mul_real _ _ (by positivity)]
  unfold sq
  congr 2
  norm_num

/-- The gradient of the input, whole. -/
theorem final3 (c : Dev nD) : (dats m 0 c).arrAt 3 cfg0.N = val_main_v50 (F := Ideal) (X m c) (T m c) (G m c) := by
  refine (dats m 0 c).arrAt_eq_of_covers 3 _ (by decide +kernel) fun t hf y => ?_
  blk_simp
  rw [after0_3]
  refine (congrArg _ (eq_ix2 y)).trans ((dx_at m c t (y 0) (y 1)).trans (congrArg _ ?_))
  blk_ext [idx t, inArr]

/-- Its half, whole. -/
theorem final4 (c : Dev nD) : (dats m 0 c).arrAt 4 cfg0.N = val_main_v53 (F := Ideal) (X m c) (T m c) (G m c) := by
  refine (dats m 0 c).arrAt_eq_of_covers 4 _ (by decide +kernel) fun t hf y => ?_
  blk_simp
  rw [after0_4, ref_half]
  refine (congrArg _ (eq_ix2 y)).trans ((dxb_at m c t (y 0) (y 1)).trans (congrArg (fun j => Ideal.ofBits .f32 0x3F000000#32 * val_main_v50 (F := Ideal) (X m c) (T m c) (G m c) j) ?_))
  blk_ext [idx t, inArr]

/-- The gradient of the gain, whole. -/
theorem final5 (c : Dev nD) : (dats m 0 c).arrAt 5 cfg0.N = val_main_v54 (F := Ideal) (X m c) (T m c) (G m c) := by
  refine (dats m 0 c).arrAt_eq_of_covers 5 _ (by decide +kernel) fun t hf y => ?_
  have hm : t.val % 16 = 15 := (flush0_5 t).mp hf
  blk_simp
  rw [after0_5, Pipeline.eq_sum_fin_of_reset_step_apply_of_flush (fun n h => (outsAt0 m c n h).2.2.1) 16 (fun _ => 0) _
    (fun t h j => (congrArg _ (eq_ix2 j)).trans (gain_first m c t h (j 0) (j 1)))
    (fun t h j => ((congrArg _ (eq_ix2 j)).trans (gain_next m c t h (j 0) (j 1))).trans (congrArg₂ (· + ·) (congrArg _ (eq_ix2 j).symm) rfl)) t hm _, zero_add]
  have e : ((win0_5.blk t).view.emb y : S1x1024.Idx) = ix2 (y 0) (y 1) := by
    blk_ext [idx t]
  refine Eq.trans ?_ ((congrArg _ e).trans (ref_dgain _ _ _ (y 0) (y 1))).symm
  have hN : t.val < 16 := lt_of_lt_of_eq t.isLt (show cfg0.N = 16 from N_0)
  refine Fin.sum_mul_add_congr fun s r hl => ?_
  refine (congrArg (part m c (y 1)) (Fin.ext ?_)).trans (b := part m c (y 1) ⟨_, hl⟩) rfl
  simp only [inArr]
  omega

/-- The loss, whole. -/
theorem final6 (c : Dev nD) : (dats m 0 c).arrAt 6 cfg0.N = val_main_v55 (F := Ideal) (X m c) (T m c) (G m c) := by
  refine (dats m 0 c).arrAt_eq_of_covers 6 _ (by decide +kernel) fun t hf y => ?_
  have hm : t.val % 16 = 15 := (flush0_6 t).mp hf
  blk_simp
  rw [after0_6, Pipeline.eq_sum_fin_of_reset_step_apply_of_flush (fun n h => (outsAt0 m c n h).2.2.2) 16 (fun _ => 0) _
    (fun t h j => loss_first m c t h j) (fun t h j => loss_next m c t h j) t hm _, zero_add]
  refine Eq.trans ?_ (loss_sum m c _)
  have hN : t.val < 16 := lt_of_lt_of_eq t.isLt (show cfg0.N = 16 from N_0)
  refine Fin.sum_mul_add_congr fun s r hl => ?_
  refine (congrArg (lpart m c) (Fin.ext ?_)).trans (b := lpart m c ⟨_, hl⟩) rfl
  simp only [inArr]
  omega

end Cert.Kernel13Ideal.Own

end
-- ==== Proof.Adamw.lean ====
/- The optimiser's call (`_adamw`): every entry of a weight and of its two moments is stepped alone, so the blocks of rows are the
   plain step. The kernel multiplies by the inverses of the two bias corrections, named exactly, where the plain step divides. -/
module

public import proofs.«01_k».proof.Proof.Gen.Kernel14Ideal.Value
public import proofs.«01_k».proof.Proof.Gen.Reference14Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Own

open Cert.Kernel14Ideal Cert.Kernel14Ideal.Gen
open Cert.Reference14Ideal.Read

/-- The first moment's bias correction as the plain step's float. -/
theorem lit_c1 : Ideal.ofBits .f32 0x3F26BD02#32 = ((5463681 / 8388608 : ℝ) : EReal) := by
  simp [Ideal.ofBits, Ideal.ieee, -EReal.coe_mul]
  norm_num

/-- The second moment's bias correction as the plain step's float. -/
theorem lit_c2 : Ideal.ofBits .f32 0x3C231ACC#32 = ((2672307 / 268435456 : ℝ) : EReal) := by
  simp [Ideal.ofBits, Ideal.ieee, -EReal.coe_mul]
  norm_num

/-- The kernel's first constant is the inverse of the first correction. -/
theorem inv_c1 : Named.named (F := Ideal) κ "inv_c1" (φ := .f32) 0x3FC48605#32 = (((5463681 / 8388608)⁻¹ : ℝ) : EReal) :=
  IdealRules.named_const.ideal_named_scalar _ _ _ _ rfl

/-- The kernel's second constant is the inverse of the second correction. -/
theorem inv_c2 : Named.named (F := Ideal) κ "inv_c2" (φ := .f32) 0x42C8E6D3#32 = (((2672307 / 268435456)⁻¹ : ℝ) : EReal) :=
  IdealRules.named_const.ideal_named_scalar _ _ _ _ rfl

/-- Multiplying by the first named inverse is dividing by the correction. -/
theorem mul_c1 (x : EReal) : x * (((5463681 / 8388608)⁻¹ : ℝ) : EReal) = Ideal.div x ((5463681 / 8388608 : ℝ) : EReal) := by
  rw [Ideal.div_coe (by norm_num), one_div]

/-- Multiplying by the second named inverse is dividing by the correction. -/
theorem mul_c2 (x : EReal) : x * (((2672307 / 268435456)⁻¹ : ℝ) : EReal) = Ideal.div x ((2672307 / 268435456 : ℝ) : EReal) := by
  rw [Ideal.div_coe (by norm_num), one_div]

/-- The step of the weight. -/
theorem step_eq (w g m v : FVec Ideal S2752x1024 .f32) :
    Cert.Kernel14Ideal.Value.G4 (F := Ideal) g m v w = val_main_v23 (F := Ideal) w g m v := by
  funext i
  simp only [Cert.Kernel14Ideal.Value.G4, inv_c1, inv_c2, Ideal.mulf_def, mul_c1, mul_c2, ← lit_c1, ← lit_c2]
  rfl

/-- The new first moment. -/
theorem first_eq (g m : FVec Ideal S2752x1024 .f32) :
    Cert.Kernel14Ideal.Value.G5 (F := Ideal) g m = val_main_v4 (F := Ideal) g m := by
  funext i
  rfl

/-- The new second moment. -/
theorem second_eq (g v : FVec Ideal S2752x1024 .f32) :
    Cert.Kernel14Ideal.Value.G6 (F := Ideal) g v = val_main_v10 (F := Ideal) g v := by
  funext i
  rfl

end Cert.Kernel14Ideal.Own

end
-- ==== Proof.AdamwRest.lean ====
/- The optimiser's call (`_adamw`) for the other weights: the same step in their shapes. -/
module

public import proofs.«01_k».proof.Proof.Adamw
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read

@[expose] public section

set_option maxRecDepth 16384

noncomputable section

open Idealize.ShloMosaic Idealize.ShloMosaic.TcCoe Idealize.SL.Sem
open Idealize.ShloMosaic.Pipeline (Dat)
open scoped BigOperators

namespace Cert.Kernel16Ideal.Own

open Cert.Kernel16Ideal Cert.Kernel16Ideal.Gen
open Cert.Reference16Ideal.Read
open Cert.Kernel14Ideal.Own (mul_c1 mul_c2 lit_c1 lit_c2)

/-- The kernel's first constant is the inverse of the first correction. -/
theorem inv_c1 : Named.named (F := Ideal) κ "inv_c1" (φ := .f32) 0x3FC48605#32 = (((5463681 / 8388608)⁻¹ : ℝ) : EReal) :=
  IdealRules.named_const.ideal_named_scalar _ _ _ _ rfl

/-- The kernel's second constant is the inverse of the second correction. -/
theorem inv_c2 : Named.named (F := Ideal) κ "inv_c2" (φ := .f32) 0x42C8E6D3#32 = (((2672307 / 268435456)⁻¹ : ℝ) : EReal) :=
  IdealRules.named_const.ideal_named_scalar _ _ _ _ rfl

/-- The step of the weight. -/
theorem step_eq (w g m v : FVec Ideal S1376x1024 .f32) :
    Cert.Kernel16Ideal.Value.G4 (F := Ideal) g m v w = val_main_v23 (F := Ideal) w g m v := by
  funext i
  simp only [Cert.Kernel16Ideal.Value.G4, inv_c1, inv_c2, Ideal.mulf_def, mul_c1, mul_c2, ← lit_c1, ← lit_c2]
  rfl

/-- The new first moment. -/
theorem first_eq (g m : FVec Ideal S1376x1024 .f32) :
    Cert.Kernel16Ideal.Value.G5 (F := Ideal) g m = val_main_v4 (F := Ideal) g m := by
  funext i
  rfl

/-- The new second moment. -/
theorem second_eq (g v : FVec Ideal S1376x1024 .f32) :
    Cert.Kernel16Ideal.Value.G6 (F := Ideal) g v = val_main_v10 (F := Ideal) g v := by
  funext i
  rfl

end Cert.Kernel16Ideal.Own

namespace Cert.Kernel17Ideal.Own

open Cert.Kernel17Ideal Cert.Kernel17Ideal.Gen
open Cert.Reference17Ideal.Read
open Cert.Kernel14Ideal.Own (mul_c1 mul_c2 lit_c1 lit_c2)

/-- The kernel's first constant is the inverse of the first correction. -/
theorem inv_c1 : Named.named (F := Ideal) κ "inv_c1" (φ := .f32) 0x3FC48605#32 = (((5463681 / 8388608)⁻¹ : ℝ) : EReal) :=
  IdealRules.named_const.ideal_named_scalar _ _ _ _ rfl

/-- The kernel's second constant is the inverse of the second correction. -/
theorem inv_c2 : Named.named (F := Ideal) κ "inv_c2" (φ := .f32) 0x42C8E6D3#32 = (((2672307 / 268435456)⁻¹ : ℝ) : EReal) :=
  IdealRules.named_const.ideal_named_scalar _ _ _ _ rfl

/-- The step of the weight. -/
theorem step_eq (w g m v : FVec Ideal S896x1024 .f32) :
    Cert.Kernel17Ideal.Value.G4 (F := Ideal) g m v w = val_main_v23 (F := Ideal) w g m v := by
  funext i
  simp only [Cert.Kernel17Ideal.Value.G4, inv_c1, inv_c2, Ideal.mulf_def, mul_c1, mul_c2, ← lit_c1, ← lit_c2]
  rfl

/-- The new first moment. -/
theorem first_eq (g m : FVec Ideal S896x1024 .f32) :
    Cert.Kernel17Ideal.Value.G5 (F := Ideal) g m = val_main_v4 (F := Ideal) g m := by
  funext i
  rfl

/-- The new second moment. -/
theorem second_eq (g v : FVec Ideal S896x1024 .f32) :
    Cert.Kernel17Ideal.Value.G6 (F := Ideal) g v = val_main_v10 (F := Ideal) g v := by
  funext i
  rfl

end Cert.Kernel17Ideal.Own

namespace Cert.Kernel18Ideal.Own

open Cert.Kernel18Ideal Cert.Kernel18Ideal.Gen
open Cert.Reference18Ideal.Read
open Cert.Kernel14Ideal.Own (mul_c1 mul_c2 lit_c1 lit_c2)

/-- The kernel's first constant is the inverse of the first correction. -/
theorem inv_c1 : Named.named (F := Ideal) κ "inv_c1" (φ := .f32) 0x3FC48605#32 = (((5463681 / 8388608)⁻¹ : ℝ) : EReal) :=
  IdealRules.named_const.ideal_named_scalar _ _ _ _ rfl

/-- The kernel's second constant is the inverse of the second correction. -/
theorem inv_c2 : Named.named (F := Ideal) κ "inv_c2" (φ := .f32) 0x42C8E6D3#32 = (((2672307 / 268435456)⁻¹ : ℝ) : EReal) :=
  IdealRules.named_const.ideal_named_scalar _ _ _ _ rfl

/-- The step of the weight. -/
theorem step_eq (w g m v : FVec Ideal S512x1024 .f32) :
    Cert.Kernel18Ideal.Value.G4 (F := Ideal) g m v w = val_main_v23 (F := Ideal) w g m v := by
  funext i
  simp only [Cert.Kernel18Ideal.Value.G4, inv_c1, inv_c2, Ideal.mulf_def, mul_c1, mul_c2, ← lit_c1, ← lit_c2]
  rfl

/-- The new first moment. -/
theorem first_eq (g m : FVec Ideal S512x1024 .f32) :
    Cert.Kernel18Ideal.Value.G5 (F := Ideal) g m = val_main_v4 (F := Ideal) g m := by
  funext i
  rfl

/-- The new second moment. -/
theorem second_eq (g v : FVec Ideal S512x1024 .f32) :
    Cert.Kernel18Ideal.Value.G6 (F := Ideal) g v = val_main_v10 (F := Ideal) g v := by
  funext i
  rfl

end Cert.Kernel18Ideal.Own

namespace Cert.Kernel19Ideal.Own

open Cert.Kernel19Ideal Cert.Kernel19Ideal.Gen
open Cert.Reference19Ideal.Read
open Cert.Kernel14Ideal.Own (mul_c1 mul_c2 lit_c1 lit_c2)

/-- The kernel's first constant is the inverse of the first correction. -/
theorem inv_c1 : Named.named (F := Ideal) κ "inv_c1" (φ := .f32) 0x3FC48605#32 = (((5463681 / 8388608)⁻¹ : ℝ) : EReal) :=
  IdealRules.named_const.ideal_named_scalar _ _ _ _ rfl

/-- The kernel's second constant is the inverse of the second correction. -/
theorem inv_c2 : Named.named (F := Ideal) κ "inv_c2" (φ := .f32) 0x42C8E6D3#32 = (((2672307 / 268435456)⁻¹ : ℝ) : EReal) :=
  IdealRules.named_const.ideal_named_scalar _ _ _ _ rfl

/-- The step of the weight. -/
theorem step_eq (w g m v : FVec Ideal S304x1024 .f32) :
    Cert.Kernel19Ideal.Value.G4 (F := Ideal) g m v w = val_main_v23 (F := Ideal) w g m v := by
  funext i
  simp only [Cert.Kernel19Ideal.Value.G4, inv_c1, inv_c2, Ideal.mulf_def, mul_c1, mul_c2, ← lit_c1, ← lit_c2]
  rfl

/-- The new first moment. -/
theorem first_eq (g m : FVec Ideal S304x1024 .f32) :
    Cert.Kernel19Ideal.Value.G5 (F := Ideal) g m = val_main_v4 (F := Ideal) g m := by
  funext i
  rfl

/-- The new second moment. -/
theorem second_eq (g v : FVec Ideal S304x1024 .f32) :
    Cert.Kernel19Ideal.Value.G6 (F := Ideal) g v = val_main_v10 (F := Ideal) g v := by
  funext i
  rfl

end Cert.Kernel19Ideal.Own

end
-- ==== Proof.SumEight.lean ====
/- The sum of the eight devices' parts (`_sum8`): the slabs added one by one, a block of rows at a time, are the plain sum. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Own

open Cert.Kernel15Ideal Cert.Kernel15Ideal.Gen

variable (m : (ℓ : Loc nD τ sig) → Buf (Elt Ideal) ℓ)

/-- Every window's block at a grid point, decided over the grid. -/
theorem idx : ∀ t : Fin cfg0.N, win0_0.index t = ![0, t.val, 0] ∧ win0_1.index t = ![t.val, 0] :=
  (by decide +kernel : ∀ t : Fin grid0.N, _)

/-- The body's store at an entry: the eight slabs' entries added from the first on. -/
theorem pay_at (a b c d e f g h : Vec Ideal S1x8x1024 .f32) (j : S8x1024.Idx) :
    k0_pay1 a b c d e f g h j = a (ix3 0 (j 0) (j 1)) + b (ix3 0 (j 0) (j 1)) + c (ix3 0 (j 0) (j 1)) + d (ix3 0 (j 0) (j 1))
      + e (ix3 0 (j 0) (j 1)) + f (ix3 0 (j 0) (j 1)) + g (ix3 0 (j 0) (j 1)) + h (ix3 0 (j 0) (j 1)) := by
  pointwise [k0_pay1]

/-- The reference's entry. -/
theorem ref_at (x : FVec Ideal Cert.Reference15Ideal.S8x40x1024 .f32) (j : Cert.Reference15Ideal.S40x1024.Idx) :
    Cert.Reference15Ideal.Read.val_main_v0 (F := Ideal) x j = ∑ k : Fin 8, x (ix3 k (j 0) (j 1)) := by
  pointwise [Cert.Reference15Ideal.Read.val_main_v0, Cert.Reference15Ideal.Read.val_main_cst]

/-- The result array after the run is the reference's. -/
theorem final (c : Dev nD) : (dats m 0 c).arrAt 1 cfg0.N
    = Cert.Reference15Ideal.Read.val_main_v0 (F := Ideal) (m ((c : Thread nD τ).loc main_arg0)) := by
  refine (dats m 0 c).arrAt_eq_of_covers 1 _ (by decide +kernel) fun t hf y => ?_
  blk_simp
  rw [after0_1]
  unfold out0_1
  frame_out
  rw [pay_at, ref_at]
  simp only [Fin.sum_univ_eight]
  blk_point [iblk, idx t]

end Cert.Kernel15Ideal.Own

end
-- ==== Proof.FfnAlg.lean ====
/- Facts about the gated feed-forward unit over the extended reals, free of any program: the padded layout goes through sums and
   through entrywise functions that keep zero, a normalised row is real whatever the row is, and on real numbers the unit and
   its gradient in the two forms they are written in agree. -/
module

public import proofs.«01_k».proof.Proof.Alg
public import proofs.«01_k».proof.Proof.Rms
public import Idealize.ShloMosaic.Lib.Pipeline.ValueKit
public import Idealize.ShloMosaic.PureOps.Ideal.Laws

@[expose] public section

noncomputable section

open Idealize.ShloMosaic
open scoped BigOperators

namespace Cert.Alg

/-- A number that is neither infinity. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem IsReal.sum {n : Nat} (f : Fin n → EReal) (h : ∀ k, IsReal (f k)) : IsReal (∑ k, f k) := by
  choose r hr using h
  refine ⟨∑ k, r k, ?_⟩
  have e : ∀ s : Finset (Fin n), ∑ k ∈ s, f k = ((∑ k ∈ s, r k : ℝ) : EReal) := fun s => by
    induction s using Finset.induction_on with
    | empty => simp
    | insert a s ha ih => rw [Finset.sum_insert ha, Finset.sum_insert ha, ih, hr, EReal.coe_add]
  exact e _

/-- A number whose absolute value is below infinity is real. -/
theorem isReal_of_abs_lt {x : EReal} (h : max x (-x) < ⊤) : IsReal x := by
  induction x with
  | bot => simp at h
  | coe r => exact ⟨r, rfl⟩
  | top => simp at h

/-- The padded layout goes through a function of three entries that is zero at zeros. -/
theorem padded_app (F : EReal → EReal → EReal → EReal) (hF : F 0 0 0 = 0) (f g h : Fin 2752 → EReal) (k : Fin 2816) :
    F (padded f k) (padded g k) (padded h k) = padded (fun j => F (f j) (g j) (h j)) k := by
  unfold padded
  split
  · rfl
  · split
    · exact hF
    · split
      · rfl
      · exact hF

/-- A sum against padded columns is the padded row of sums. -/
theorem dot_padded {n : Nat} (h : Fin n → EReal) (w : Fin n → Fin 2752 → EReal) (k : Fin 2816) :
    ∑ i, h i * padded (fun j => w i j) k = padded (fun j => ∑ i, h i * w i j) k := by
  unfold padded
  split
  · rfl
  · split
    · simp
    · split
      · rfl
      · simp

/-- An entry of a normalised row times a real gain is real, whatever the row is. -/
theorem isReal_normed (x : Fin 1024 → EReal) (g : EReal) (hg : IsReal g) (k : Fin 1024) : IsReal (x k * Cert.Rms.rs x * g) := by
  refine IsReal.mul ?_ hg
  unfold Cert.Rms.rs
  rcases under_root x with h | ⟨p, hp, h⟩
  · rw [h]
    exact ⟨0, by rw [show Ideal.rsqrt ⊤ = 0 from rfl, mul_zero, EReal.coe_zero]⟩
  · have hx : IsReal (x k) := by
      by_contra hn
      have hsq : x k * x k = ⊤ := by
        generalize x k = y at hn
        induction y with
        | bot => rfl
        | coe r => exact absurd ⟨r, rfl⟩ hn
        | top => rfl
      have hs : ∑ j, x j * x j = ⊤ := by
        have := Finset.single_le_sum (f := fun j => x j * x j) (fun j _ => sq_nonneg' (x j)) (Finset.mem_univ k)
        simp only [hsq] at this
        exact top_le_iff.mp this
      obtain ⟨e, he, hl⟩ := lit_eps
      rw [hs, lit_1024, hl] at h
      unfold Ideal.div at h
      rw [if_neg (by norm_num), ← EReal.coe_inv, EReal.top_mul_coe_of_pos (by norm_num), EReal.top_add_coe] at h
      exact EReal.top_ne_coe p h
    refine hx.mul ?_
    rw [h]
    refine ⟨(Real.sqrt p)⁻¹, ?_⟩
    show (if p < 0 then ⊥ else if p = 0 then ⊤ else (((Real.sqrt p)⁻¹ : ℝ) : EReal)) = _
    rw [if_neg (not_lt.mpr hp.le), if_neg hp.ne']

/-- `f32`'s `0.5` is the number 1/2. -/
theorem lit_half : Ideal.ofBits .f32 0x3F000000#32 = ((1 / 2 : ℝ) : EReal) := by
  simp [Ideal.ofBits, Ideal.ieee]
  norm_num [← EReal.coe_mul]

/-- `f32`'s `1` is the number 1. -/
theorem lit_one : Ideal.ofBits .f32 0x3F800000#32 = ((1 : ℝ) : EReal) := by
  simp [Ideal.ofBits, Ideal.ieee]
  norm_num [← EReal.coe_mul]

/-- The logistic function through the hyperbolic tangent. -/
def sigT (g : EReal) : EReal := Ideal.ofBits .f32 0x3F000000#32 * Ideal.tanh (Ideal.ofBits .f32 0x3F000000#32 * g) + Ideal.ofBits .f32 0x3F000000#32
/-- The logistic function through the exponential. -/
def sigE (g : EReal) : EReal := Ideal.div (Ideal.ofBits .f32 0x3F800000#32) (Ideal.ofBits .f32 0x3F800000#32 + Ideal.exp (-g))

/-- The logistic function at a real, through the exponential. -/
theorem sigE_coe (r : ℝ) : sigE (r : EReal) = (((1 + Real.exp (-r))⁻¹ : ℝ) : EReal) := by
  have hp : 0 < 1 + Real.exp (-r) := by positivity
  unfold sigE Ideal.div
  rw [lit_one, ← EReal.coe_neg, show Ideal.exp ((-r : ℝ) : EReal) = ((Real.exp (-r) : ℝ) : EReal) from rfl, ← EReal.coe_add,
    if_neg (by exact_mod_cast hp.ne'), ← EReal.coe_inv, ← EReal.coe_mul, one_mul]

/-- The two forms agree on the reals. -/
theorem sigT_coe (r : ℝ) : sigT (r : EReal) = (((1 + Real.exp (-r))⁻¹ : ℝ) : EReal) := by
  unfold sigT
  rw [lit_half, ← EReal.coe_mul, show Ideal.tanh ((1 / 2 * r : ℝ) : EReal) = ((Real.tanh (1 / 2 * r) : ℝ) : EReal) from rfl, ← EReal.coe_mul,
    ← EReal.coe_add]
  congr 1
  rw [Real.tanh_eq_sinh_div_cosh, Real.sinh_eq, Real.cosh_eq]
  have e : Real.exp (-r) = Real.exp (-(1 / 2 * r)) * Real.exp (-(1 / 2 * r)) := by rw [← Real.exp_add]; ring_nf
  have i : Real.exp (1 / 2 * r) = (Real.exp (-(1 / 2 * r)))⁻¹ := by rw [Real.exp_neg, inv_inv]
  rw [e, i]
  have hb : 0 < Real.exp (-(1 / 2 * r)) := Real.exp_pos _
  generalize Real.exp (-(1 / 2 * r)) = b at hb
  field_simp
  ring

/-- The gate's derivative. -/
def gateT (g u : EReal) : EReal := u * (sigT g + g * sigT g - g * sigT g * sigT g)

/-- The gate's gradient in the closed form is the chain rule's, on reals. -/
theorem gate_grad {d g u : EReal} (hd : IsReal d) (hg : IsReal g) (hu : IsReal u) :
    d * gateT g u = d * u * sigE g + g * (d * u) * (sigE g * (Ideal.ofBits .f32 0x3F800000#32 - sigE g)) := by
  obtain ⟨d, rfl⟩ := hd
  obtain ⟨g, rfl⟩ := hg
  obtain ⟨u, rfl⟩ := hu
  unfold gateT
  rw [sigT_coe, sigE_coe, lit_one]
  generalize (1 + Real.exp (-g))⁻¹ = s
  simp only [← EReal.coe_mul, ← EReal.coe_add, ← EReal.coe_sub]
  congr 1
  ring

/-- The other factor's gradient, on reals. -/
theorem up_grad {d g : EReal} (hg : IsReal g) : d * (g * sigT g) = g * sigE g * d := by
  obtain ⟨g, rfl⟩ := hg
  rw [sigT_coe, sigE_coe, mul_comm]

/-- The unit itself, on reals. -/
theorem unit_eq {g u : EReal} (hg : IsReal g) : g * sigT g * u = g * sigE g * u := by
  obtain ⟨g, rfl⟩ := hg
  rw [sigT_coe, sigE_coe]

end Cert.Alg

end
-- ==== Proof.FfnRun.lean ====
/- The feed-forward layer's two calls, run one after the other: what the four result arrays hold when the program ends, each as
   its region's blocks put together. -/
module

public import proofs.«01_k».proof.Proof.Gen.Kernel4Ideal.Frame
public import Idealize.ShloMosaic.Lib.Pipeline.ValueKit
public import Idealize.ShloMosaic.Lib.Claim

@[expose] public section

set_option maxRecDepth 16384

noncomputable section

namespace Cert.Kernel4Ideal.Own

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- An output of the first call is what the first region left: the second neither writes it nor is the host between them. -/
theorem end_main_v27_0 (c : Dev nD) : W4 m ρ c (Proc.devRef .tc main_v27_0) = (dat0 (V1 m ρ) c).arrAt 4 cfg0.N :=
  (W4_of m ρ c main_v27_0 (by decide)).trans ((W3_of m ρ c main_v27_0 (by decide)).trans (W2_arr m ρ c 4))

/-- The hidden rows, likewise. -/
theorem end_main_v27_3 (c : Dev nD) : W4 m ρ c (Proc.devRef .tc main_v27_3) = (dat0 (V1 m ρ) c).arrAt 7 cfg0.N :=
  (W4_of m ρ c main_v27_3 (by decide)).trans ((W3_of m ρ c main_v27_3 (by decide)).trans (W2_arr m ρ c 7))

/-- The second call's first output. -/
theorem end_main_v29_0 (c : Dev nD) : W4 m ρ c (Proc.devRef .tc main_v29_0) = (dat1 (V3 m ρ) c).arrAt 4 cfg1.N := W4_arr m ρ c 4

/-- The second call's second output. -/
theorem end_main_v29_1 (c : Dev nD) : W4 m ρ c (Proc.devRef .tc main_v29_1) = (dat1 (V3 m ρ) c).arrAt 5 cfg1.N := W4_arr m ρ c 5

set_option maxHeartbeats 1000000 in
set_option backward.isDefEq.respectTransparency.types false in
/-- The run of the two calls, with the result arrays named. -/
theorem run : θ_run defs (onTc (τ := τ) (main (F := Ideal))) ⟨m, fun _ => 0, ρ⟩ (fun r => (∀ c : Dev nD,
      (r.2.mem ((c.tc : Thread nD τ).loc main_v27_0) : Buf (Elt Ideal) ((c.tc : Thread nD τ).loc main_v27_0)) = (dat0 (V1 m ρ) c).arrAt 4 cfg0.N
      ∧ (r.2.mem ((c.tc : Thread nD τ).loc main_v27_3) : Buf (Elt Ideal) ((c.tc : Thread nD τ).loc main_v27_3)) = (dat0 (V1 m ρ) c).arrAt 7 cfg0.N
      ∧ (r.2.mem ((c.tc : Thread nD τ).loc main_v29_0) : Buf (Elt Ideal) ((c.tc : Thread nD τ).loc main_v29_0)) = (dat1 (V3 m ρ) c).arrAt 4 cfg1.N
      ∧ (r.2.mem ((c.tc : Thread nD τ).loc main_v29_1) : Buf (Elt Ideal) ((c.tc : Thread nD τ).loc main_v29_1)) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v27_0 (by decide))).trans (end_main_v27_0 m ρ c),
       (h c _ (mem_uc main_v27_3 (by decide))).trans (end_main_v27_3 m ρ c),
       (h c _ (mem_uc main_v29_0 (by decide))).trans (end_main_v29_0 m ρ c),
       (h c _ (mem_uc main_v29_1 (by decide))).trans (end_main_v29_1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩), funext fun g => hz g (.inr (no_unscoped g.2))⟩)

end Cert.Kernel4Ideal.Own

end
-- ==== Proof.FfnIn.lean ====
/- The feed-forward layer's first call and its gradient's (`_ffn_in`, `_ffn_mid_bwd`): what the host lays out for them, and what one
   block of rows of each holds, by the padded rows of the unit. -/
module

public import proofs.«01_k».proof.Proof.FfnAlg
public import proofs.«01_k».proof.Proof.FfnRun
public import proofs.«01_k».proof.Proof.Pad
public import proofs.«01_k».proof.Proof.Rms
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat)
open Cert.Rms (rs)
open Cert.Alg (padded sigT gateT)
open scoped BigOperators

namespace Cert.Kernel4Ideal.Own

open Cert.Kernel4Ideal Cert.Kernel4Ideal.Gen

variable (m : (ℓ : Loc nD τ sig) → Buf (Elt Ideal) ℓ) (ρ : Dev nD → PrngReg)

/-- The input. -/
abbrev X (c : Dev nD) : FVec Ideal S8192x1024 .f32 := m ((c : Thread nD τ).loc main_arg0)
/-- The gain. -/
abbrev G (c : Dev nD) : FVec Ideal S1024 .f32 := m ((c : Thread nD τ).loc main_arg1)
/-- The two input weights side by side. -/
abbrev WI (c : Dev nD) : FVec Ideal S1024x5504 .f32 := m ((c : Thread nD τ).loc main_arg2)
/-- The output weight. -/
abbrev WO (c : Dev nD) : FVec Ideal S2752x1024 .f32 := m ((c : Thread nD τ).loc main_arg3)
/-- The output's gradient. -/
abbrev DY (c : Dev nD) : FVec Ideal S8192x1024 .f32 := m ((c : Thread nD τ).loc main_arg4)

/-- The buffers when the first call starts. -/
abbrev V (c : Dev nD) (b : Ref sig .tc) : Buf (Elt Ideal) ((c : Thread nD τ).loc b) := StableHlo.after hostOps0 (fun b => m (c, b)) b

/-- What the host leaves in `v3`. -/
abbrev B3 (c : Dev nD) : FVec Ideal S32x1024 .bf16 := V m c main_v3
/-- What the host leaves in `v5`. -/
abbrev B5 (c : Dev nD) : FVec Ideal S1376x1024 .bf16 := V m c main_v5
/-- What the host leaves in `v7`. -/
abbrev B7 (c : Dev nD) : FVec Ideal S1376x1024 .bf16 := V m c main_v7
/-- What the host leaves in `v8`. -/
abbrev B8 (c : Dev nD) : FVec Ideal S2816x1024 .bf16 := V m c main_v8
/-- What the host leaves in `v10`. -/
abbrev B10 (c : Dev nD) : FVec Ideal S1376x1024 .bf16 := V m c main_v10
/-- What the host leaves in `v12`. -/
abbrev B12 (c : Dev nD) : FVec Ideal S1376x1024 .bf16 := V m c main_v12
/-- What the host leaves in `v13`. -/
abbrev B13 (c : Dev nD) : FVec Ideal S2816x1024 .bf16 := V m c main_v13
/-- What the host leaves in `v16`. -/
abbrev B16 (c : Dev nD) : FVec Ideal S32x1024 .bf16 := V m c main_v16
/-- What the host leaves in `v18`. -/
abbrev B18 (c : Dev nD) : FVec Ideal S688x1024 .bf16 := V m c main_v18
/-- What the host leaves in `v20`. -/
abbrev B20 (c : Dev nD) : FVec Ideal S688x1024 .bf16 := V m c main_v20
/-- What the host leaves in `v22`. -/
abbrev B22 (c : Dev nD) : FVec Ideal S688x1024 .bf16 := V m c main_v22
/-- What the host leaves in `v24`. -/
abbrev B24 (c : Dev nD) : FVec Ideal S688x1024 .bf16 := V m c main_v24
/-- What the host leaves in `v25`. -/
abbrev B25 (c : Dev nD) : FVec Ideal S2816x1024 .bf16 := V m c main_v25

set_option maxHeartbeats 1000000 in
/-- `v8` is its pieces laid end to end. -/
theorem laid8 (c : Dev nD) : B8 m c = concatenate S2816x1024 0 [⟨S1376x1024, B5 m c⟩, ⟨S32x1024, B3 m c⟩, ⟨S1376x1024, B7 m c⟩, ⟨S32x1024, B3 m c⟩] concatenates_S1376x1024_S32x1024_S1376x1024_S32x1024_S2816x1024_d0 := by
  unfold B8 B5 B3 B7 V
  rw [← List.take_append_drop 9 (hostOps0 (F := Ideal)), Cert.Pad.after_two]
  generalize StableHlo.after (List.take 9 (hostOps0 (F := Ideal))) _ = σ
  simp only [hostOps0, List.drop]
  after_results
  rfl

set_option maxHeartbeats 1000000 in
/-- `v13` is its pieces laid end to end. -/
theorem laid13 (c : Dev nD) : B13 m c = concatenate S2816x1024 0 [⟨S1376x1024, B10 m c⟩, ⟨S32x1024, B3 m c⟩, ⟨S1376x1024, B12 m c⟩, ⟨S32x1024, B3 m c⟩] concatenates_S1376x1024_S32x1024_S1376x1024_S32x1024_S2816x1024_d0 := by
  unfold B13 B10 B3 B12 V
  rw [← List.take_append_drop 14 (hostOps0 (F := Ideal)), Cert.Pad.after_two]
  generalize StableHlo.after (List.take 14 (hostOps0 (F := Ideal))) _ = σ
  simp only [hostOps0, List.drop]
  after_results
  rfl

set_option maxHeartbeats 1000000 in
/-- `v25` is its pieces laid end to end. -/
theorem laid25 (c : Dev nD) : B25 m c = concatenate S2816x1024 0 [⟨S688x1024, B18 m c⟩, ⟨S688x1024, B20 m c⟩, ⟨S32x1024, B16 m c⟩, ⟨S688x1024, B22 m c⟩, ⟨S688x1024, B24 m c⟩, ⟨S32x1024, B16 m c⟩] concatenates_S688x1024_S688x1024_S32x1024_S688x1024_S688x1024_S32x1024_S2816x1024_d0 := by
  unfold B25 B18 B20 B16 B22 B24 V
  rw [← List.take_append_drop 27 (hostOps0 (F := Ideal)), Cert.Pad.after_two]
  generalize StableHlo.after (List.take 27 (hostOps0 (F := Ideal))) _ = σ
  simp only [hostOps0, List.drop]
  after_results
  rfl

/-- The zero rows after a half. -/
theorem at3 (c : Dev nD) (j) : B3 m c j = 0 := by
  unfold B3
  entry_read
  pointwise

/-- The zero rows after a half. -/
theorem at16 (c : Dev nD) (j) : B16 m c j = 0 := by
  unfold B16
  entry_read
  pointwise

/-- A quarter of the input weights, transposed. -/
theorem at5 (c : Dev nD) (j) : B5 m c j = WI m c (ix2 (j 1) ⟨0 + (j 0).val, by have := (j 0).isLt; simp at this; omega⟩) := by
  unfold B5
  entry_read
  pointwise

/-- A quarter of the input weights, transposed. -/
theorem at7 (c : Dev nD) (j) : B7 m c j = WI m c (ix2 (j 1) ⟨1376 + (j 0).val, by have := (j 0).isLt; simp at this; omega⟩) := by
  unfold B7
  entry_read
  pointwise

/-- A quarter of the input weights, transposed. -/
theorem at10 (c : Dev nD) (j) : B10 m c j = WI m c (ix2 (j 1) ⟨2752 + (j 0).val, by have := (j 0).isLt; simp at this; omega⟩) := by
  unfold B10
  entry_read
  pointwise

/-- A quarter of the input weights, transposed. -/
theorem at12 (c : Dev nD) (j) : B12 m c j = WI m c (ix2 (j 1) ⟨4128 + (j 0).val, by have := (j 0).isLt; simp at this; omega⟩) := by
  unfold B12
  entry_read
  pointwise

/-- A quarter of the output weight. -/
theorem at18 (c : Dev nD) (j) : B18 m c j = WO m c (ix2 ⟨0 + (j 0).val, by have := (j 0).isLt; simp at this; omega⟩ (j 1)) := by
  unfold B18
  entry_read
  pointwise

/-- A quarter of the output weight. -/
theorem at20 (c : Dev nD) (j) : B20 m c j = WO m c (ix2 ⟨688 + (j 0).val, by have := (j 0).isLt; simp at this; omega⟩ (j 1)) := by
  unfold B20
  entry_read
  pointwise

/-- A quarter of the output weight. -/
theorem at22 (c : Dev nD) (j) : B22 m c j = WO m c (ix2 ⟨1376 + (j 0).val, by have := (j 0).isLt; simp at this; omega⟩ (j 1)) := by
  unfold B22
  entry_read
  pointwise

/-- A quarter of the output weight. -/
theorem at24 (c : Dev nD) (j) : B24 m c j = WO m c (ix2 ⟨2064 + (j 0).val, by have := (j 0).isLt; simp at this; omega⟩ (j 1)) := by
  unfold B24
  entry_read
  pointwise

/-- A row of the gate weight as the kernel reads it. -/
theorem row8 (c : Dev nD) (i : Fin 1024) (k : Fin 2816) : B8 m c (ix2 k i) = padded (fun n => WI m c (ix2 i ⟨n.val, by omega⟩)) k := by
  rw [laid8]
  exact Cert.Pad.four_rows concatenates_S1376x1024_S32x1024_S1376x1024_S32x1024_S2816x1024_d0 _ _ _ _ i k
    (fun n => (at5 m c _).trans (congrArg (WI m c) (congrArg (ix2 i) (Fin.ext (by simp <;> omega))))) (fun n => at3 m c _)
    (fun n => (at7 m c _).trans (congrArg (WI m c) (congrArg (ix2 i) (Fin.ext (by simp <;> omega)))))

/-- A row of the other weight as the kernel reads it. -/
theorem row13 (c : Dev nD) (i : Fin 1024) (k : Fin 2816) : B13 m c (ix2 k i) = padded (fun n => WI m c (ix2 i ⟨2752 + n.val, by omega⟩)) k := by
  rw [laid13]
  exact Cert.Pad.four_rows concatenates_S1376x1024_S32x1024_S1376x1024_S32x1024_S2816x1024_d0 _ _ _ _ i k
    (fun n => (at10 m c _).trans (congrArg (WI m c) (congrArg (ix2 i) (Fin.ext (by simp <;> omega))))) (fun n => at3 m c _)
    (fun n => (at12 m c _).trans (congrArg (WI m c) (congrArg (ix2 i) (Fin.ext (by simp <;> omega)))))

/-- A row of the output weight as the kernel reads it. -/
theorem row25 (c : Dev nD) (i : Fin 1024) (k : Fin 2816) : B25 m c (ix2 k i) = padded (fun n => WO m c (ix2 n i)) k := by
  rw [laid25]
  exact Cert.Pad.six_rows concatenates_S688x1024_S688x1024_S32x1024_S688x1024_S688x1024_S32x1024_S2816x1024_d0 _ _ _ _ _ _ i k (fun n => (at18 m c _).trans (congrArg (WO m c) (congrArg (fun r => ix2 r i) (Fin.ext (by simp <;> omega)))))
    (fun n => (at20 m c _).trans (congrArg (WO m c) (congrArg (fun r => ix2 r i) (Fin.ext (by simp <;> omega))))) (fun n => at16 m c _)
    (fun n => (at22 m c _).trans (congrArg (WO m c) (congrArg (fun r => ix2 r i) (Fin.ext (by simp <;> omega)))))
    (fun n => (at24 m c _).trans (congrArg (WO m c) (congrArg (fun r => ix2 r i) (Fin.ext (by simp <;> omega)))))

/-- The gain as a row. -/
theorem at26 (c : Dev nD) (j) : (V m c main_v26 : FVec Ideal S1x1024 .f32) j = G m c (ix1 (j 1)) := by
  entry_read
  pointwise

/-- The input is as launched. -/
theorem at0 (c : Dev nD) : V m c main_arg0 = X m c := by
  entry_read
  rfl

/-- Every window's block at a grid point of the first call, decided over the grid. -/
theorem idx0 : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Every window's block at a grid point of the second call, decided over the grid. -/
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![t.val, 0] :=
  (by decide +kernel : ∀ t : Fin grid1.N, _)

/-- A row of a block of the first call at a grid point, in the array. -/
def inArr (t : Fin cfg0.N) (r : Fin 256) : Fin 8192 := ⟨256 * t.val + r.val, by have h : t.val < 32 := lt_of_lt_of_eq t.isLt (show cfg0.N = 32 from N_0); omega⟩

/-- A row of a block of the second call at a grid point, in the array. -/
def inArr' (t : Fin cfg1.N) (r : Fin 256) : Fin 8192 := ⟨256 * t.val + r.val, by have h : t.val < 32 := lt_of_lt_of_eq t.isLt (show cfg1.N = 32 from N_1); omega⟩

section Blocks

variable (U : (c : Dev nD) → (b : Ref sig .tc) → Buf (Elt Ideal) ((c : Thread nD τ).loc b))

/-- The input's block. -/
theorem blk0_0 (c : Dev nD) (t : Fin cfg0.N) (r : Fin 256) (n : Fin 1024) :
    (iblk0 U c 0 t : Vec Ideal S256x1024 .f32) (ix2 r n) = (U c main_arg0 : FVec Ideal S8192x1024 .f32) (ix2 (inArr t r) n) := by
  blk_point [iblk0, idx0 t]
  simp only [inArr]
  omega

/-- The gain, whole. -/
theorem blk0_1 (c : Dev nD) (t : Fin cfg0.N) (r : Fin 1) (n : Fin 1024) :
    (iblk0 U c 1 t : Vec Ideal S1x1024 .f32) (ix2 r n) = (U c main_v26 : FVec Ideal S1x1024 .f32) (ix2 r n) := by
  blk_point [iblk0, idx0 t]

/-- The gate weight, whole. -/
theorem blk0_2 (c : Dev nD) (t : Fin cfg0.N) (r : Fin 2816) (n : Fin 1024) :
    (iblk0 U c 2 t : Vec Ideal S2816x1024 .bf16) (ix2 r n) = (U c main_v8 : FVec Ideal S2816x1024 .bf16) (ix2 r n) := by
  blk_point [iblk0, idx0 t]

/-- The other weight, whole. -/
theorem blk0_3 (c : Dev nD) (t : Fin cfg0.N) (r : Fin 2816) (n : Fin 1024) :
    (iblk0 U c 3 t : Vec Ideal S2816x1024 .bf16) (ix2 r n) = (U c main_v13 : FVec Ideal S2816x1024 .bf16) (ix2 r n) := by
  blk_point [iblk0, idx0 t]

/-- The output gradient's block. -/
theorem blk1_0 (c : Dev nD) (t : Fin cfg1.N) (r : Fin 256) (n : Fin 1024) :
    (iblk1 U c 0 t : Vec Ideal S256x1024 .bf16) (ix2 r n) = (U c main_v28 : FVec Ideal S8192x1024 .bf16) (ix2 (inArr' t r) n) := by
  blk_point [iblk1, idx1 t]
  simp only [inArr']
  omega

/-- The output weight, whole. -/
theorem blk1_1 (c : Dev nD) (t : Fin cfg1.N) (r : Fin 2816) (n : Fin 1024) :
    (iblk1 U c 1 t : Vec Ideal S2816x1024 .bf16) (ix2 r n) = (U c main_v25 : FVec Ideal S2816x1024 .bf16) (ix2 r n) := by
  blk_point [iblk1, idx1 t]

/-- The block of the gate's derivative. -/
theorem blk1_2 (c : Dev nD) (t : Fin cfg1.N) (r : Fin 256) (n : Fin 2816) :
    (iblk1 U c 2 t : Vec Ideal S256x2816 .bf16) (ix2 r n) = (U c main_v27_1 : FVec Ideal S8192x2816 .bf16) (ix2 (inArr' t r) n) := by
  blk_point [iblk1, idx1 t]
  simp only [inArr']
  omega

/-- The block of the other factor's derivative. -/
theorem blk1_3 (c : Dev nD) (t : Fin cfg1.N) (r : Fin 256) (n : Fin 2816) :
    (iblk1 U c 3 t : Vec Ideal S256x2816 .bf16) (ix2 r n) = (U c main_v27_2 : FVec Ideal S8192x2816 .bf16) (ix2 (inArr' t r) n) := by
  blk_point [iblk1, idx1 t]
  simp only [inArr']
  omega

end Blocks

/-- The normalised rows the first body stores. -/
theorem pay3_at (x : Vec Ideal S256x1024 .f32) (g : Vec Ideal S1x1024 .f32) (i : Fin 256) (k : Fin 1024) :
    k0_pay3 x g (ix2 i k) = x (ix2 i k) * rs (fun n => x (ix2 i n)) * g (ix2 0 k) := by
  pointwise [k0_pay3, rs]

/-- The gate's product. -/
theorem pay4_at (x : Vec Ideal S256x1024 .f32) (g : Vec Ideal S1x1024 .f32) (w : Vec Ideal S2816x1024 .bf16) (i : Fin 256) (n : Fin 2816) :
    k0_pay4 x g w (ix2 i n) = ∑ k : Fin 1024, k0_pay3 x g (ix2 i k) * w (ix2 n k) := by
  pointwise [k0_pay4]

/-- The other product. -/
theorem pay5_at (x : Vec Ideal S256x1024 .f32) (g : Vec Ideal S1x1024 .f32) (w : Vec Ideal S2816x1024 .bf16) (i : Fin 256) (n : Fin 2816) :
    k0_pay5 x g w (ix2 i n) = ∑ k : Fin 1024, k0_pay3 x g (ix2 i k) * w (ix2 n k) := by
  pointwise [k0_pay5]

/-- The logistic function of the gate. -/
theorem pay6_at (x : Vec Ideal S256x1024 .f32) (g : Vec Ideal S1x1024 .f32) (w : Vec Ideal S2816x1024 .bf16) (i : Fin 256) (n : Fin 2816) :
    k0_pay6 x g w (ix2 i n) = sigT (k0_pay4 x g w (ix2 i n)) := rfl

/-- The gate. -/
theorem pay1_at (x : Vec Ideal S256x1024 .f32) (g : Vec Ideal S1x1024 .f32) (w : Vec Ideal S2816x1024 .bf16) (i : Fin 256) (n : Fin 2816) :
    k0_pay1 (k0_pay7 x g w) (ix2 i n) = k0_pay4 x g w (ix2 i n) * sigT (k0_pay4 x g w (ix2 i n)) := rfl

/-- The gate's derivative. -/
theorem pay8_at (x : Vec Ideal S256x1024 .f32) (g : Vec Ideal S1x1024 .f32) (w w' : Vec Ideal S2816x1024 .bf16) (i : Fin 256) (n : Fin 2816) :
    k0_pay8 x g w w' (ix2 i n) = gateT (k0_pay4 x g w (ix2 i n)) (k0_pay5 x g w' (ix2 i n)) := rfl

/-- The unit. -/
theorem pay2_at (x : Vec Ideal S256x1024 .f32) (g : Vec Ideal S1x1024 .f32) (w w' : Vec Ideal S2816x1024 .bf16) (i : Fin 256) (n : Fin 2816) :
    k0_pay2 (k0_pay5 x g w') (k0_pay7 x g w) (ix2 i n)
      = k0_pay4 x g w (ix2 i n) * sigT (k0_pay4 x g w (ix2 i n)) * k0_pay5 x g w' (ix2 i n) := rfl

/-- What comes back through the output weight. -/
theorem qay1_at (x : Vec Ideal S256x1024 .bf16) (w : Vec Ideal S2816x1024 .bf16) (i : Fin 256) (n : Fin 2816) :
    k1_pay1 x w (ix2 i n) = ∑ k : Fin 1024, x (ix2 i k) * w (ix2 n k) := by
  pointwise [k1_pay1]

/-- The gate's gradient. -/
theorem qay2_at (x : Vec Ideal S256x1024 .bf16) (w : Vec Ideal S2816x1024 .bf16) (a : Vec Ideal S256x2816 .bf16) (i : Fin 256) (n : Fin 2816) :
    k1_pay2 x w a (ix2 i n) = k1_pay1 x w (ix2 i n) * a (ix2 i n) := by
  pointwise [k1_pay2]

/-- The other factor's gradient. -/
theorem qay3_at (x : Vec Ideal S256x1024 .bf16) (w : Vec Ideal S2816x1024 .bf16) (a : Vec Ideal S256x2816 .bf16) (i : Fin 256) (n : Fin 2816) :
    k1_pay3 x w a (ix2 i n) = k1_pay1 x w (ix2 i n) * a (ix2 i n) := by
  pointwise [k1_pay3]

end Cert.Kernel4Ideal.Own

end
-- ==== Proof.FfnRef.lean ====
/- The feed-forward unit's reference at an entry: the normalised rows, the two products, what comes back through the output weight,
   and the three results in the padded layout. -/
module

public import proofs.«01_k».proof.Proof.Gen.Reference4Ideal.Read
public import proofs.«01_k».proof.Proof.FfnAlg
public import proofs.«01_k».proof.Proof.Pad
public import proofs.«01_k».proof.Proof.Rms
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Cert.Rms (rs)
open Cert.Alg (padded sigE)
open scoped BigOperators

namespace Cert.Reference4Ideal.Own

open Cert.Reference4Ideal Cert.Reference4Ideal.Gen Cert.Reference4Ideal.Read

variable (x : FVec Ideal S8192x1024 .f32) (g : FVec Ideal S1024 .f32) (wi : FVec Ideal S1024x5504 .f32) (wo : FVec Ideal S2752x1024 .f32)
  (dy : FVec Ideal S8192x1024 .f32)

/-- A normalised entry. -/
def hh (i : Fin 8192) (k : Fin 1024) : EReal := x (ix2 i k) * rs (fun n => x (ix2 i n)) * g (ix1 k)
/-- The gate before the logistic function. -/
def gg (i : Fin 8192) (j : Fin 2752) : EReal := ∑ k : Fin 1024, hh x g i k * wi (ix2 k ⟨j.val, by omega⟩)
/-- The other factor. -/
def uu (i : Fin 8192) (j : Fin 2752) : EReal := ∑ k : Fin 1024, hh x g i k * wi (ix2 k ⟨2752 + j.val, by omega⟩)
/-- What comes back through the output weight. -/
def dd (i : Fin 8192) (j : Fin 2752) : EReal := ∑ k : Fin 1024, dy (ix2 i k) * wo (ix2 j k)

/-- The normalised rows. -/
theorem ref_h (i : Fin 8192) (k : Fin 1024) : val_main_v12 (F := Ideal) x g (ix2 i k) = hh x g i k := by
  unfold hh
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, rs]

/-- The first result. -/
theorem ref_h' (i : Fin 8192) (k : Fin 1024) : val_main_v23 (F := Ideal) x g (ix2 i k) = hh x g i k := ref_h x g i k

/-- The product with both weights. -/
theorem ref_p (i : Fin 8192) (n : Fin 5504) : val_main_v13 (F := Ideal) x g wi (ix2 i n) = ∑ k : Fin 1024, hh x g i k * wi (ix2 k n) := by
  pointwise [val_main_v13]
  simp only [ref_h]

/-- The gate's half. -/
theorem ref_g (i : Fin 8192) (j : Fin 2752) : val_main_v14 (F := Ideal) x g wi (ix2 i j) = gg x g wi i j := by
  refine Eq.trans (b := val_main_v13 (F := Ideal) x g wi (ix2 i ⟨j.val, by omega⟩)) ?_ (ref_p x g wi i _)
  pointwise [val_main_v14]

/-- The other half. -/
theorem ref_u (i : Fin 8192) (j : Fin 2752) : val_main_v15 (F := Ideal) x g wi (ix2 i j) = uu x g wi i j := by
  refine Eq.trans (b := val_main_v13 (F := Ideal) x g wi (ix2 i ⟨2752 + j.val, by omega⟩)) ?_ (ref_p x g wi i _)
  pointwise [val_main_v15]

/-- What comes back through the output weight. -/
theorem ref_d (i : Fin 8192) (j : Fin 2752) : val_main_v19 (F := Ideal) wo dy (ix2 i j) = dd wo dy i j := by
  unfold dd
  pointwise [val_main_v19]

/-- The logistic function of the gate. -/
theorem ref_s (i : Fin 8192) (j : Fin 2752) : val_main_v16_2 (F := Ideal) x g wi (ix2 i j) = sigE (gg x g wi i j) := by
  rw [← ref_g]
  rfl

/-- The same, the second time the reference takes it. -/
theorem ref_s' (i : Fin 8192) (j : Fin 2752) : val_main_call2_v5 (F := Ideal) x g wi (ix2 i j) = sigE (gg x g wi i j) := by
  rw [← ref_g]
  rfl

/-- The unit. -/
theorem ref_a (i : Fin 8192) (j : Fin 2752) :
    val_main_v25 (F := Ideal) x g wi (ix2 i j) = gg x g wi i j * sigE (gg x g wi i j) * uu x g wi i j := by
  rw [← ref_s', ← ref_g, ← ref_u]
  rfl

/-- The gate's gradient. -/
theorem ref_dg (i : Fin 8192) (j : Fin 2752) :
    val_main_v22 (F := Ideal) x g wi wo dy (ix2 i j) = dd wo dy i j * uu x g wi i j * sigE (gg x g wi i j)
      + gg x g wi i j * (dd wo dy i j * uu x g wi i j)
        * (sigE (gg x g wi i j) * (Ideal.ofBits .f32 0x3F800000#32 - sigE (gg x g wi i j))) := by
  rw [← ref_s, ← ref_g, ← ref_u, ← ref_d]
  rfl

/-- The other factor's gradient. -/
theorem ref_du (i : Fin 8192) (j : Fin 2752) :
    val_main_v20 (F := Ideal) x g wi wo dy (ix2 i j) = gg x g wi i j * sigE (gg x g wi i j) * dd wo dy i j := by
  rw [← ref_s, ← ref_g, ← ref_d]
  rfl

/-- The first half of the unit. -/
theorem half_v27 (i : Fin 8192) (n : Fin 1376) : val_main_v27 (F := Ideal) x g wi (ix2 i n) = val_main_v25 (F := Ideal) x g wi (ix2 i ⟨n.val, by omega⟩) := by
  pointwise [val_main_v27]

/-- The second half of the unit. -/
theorem half_v28 (i : Fin 8192) (n : Fin 1376) : val_main_v28 (F := Ideal) x g wi (ix2 i n) = val_main_v25 (F := Ideal) x g wi (ix2 i ⟨1376 + n.val, by omega⟩) := by
  pointwise [val_main_v28]

/-- The zeros after a half. -/
theorem zero_v26 (i : Fin 8192) (n : Fin 32) : val_main_v26 (F := Ideal) (ix2 i n) = 0 := by
  pointwise [val_main_v26, val_main_cst_2]

/-- The result of the unit, by its padded rows. -/
theorem ref_v30 (i : Fin 8192) (k : Fin 2816) : val_main_v30 (F := Ideal) x g wi (ix2 i k) = padded (fun j => val_main_v25 (F := Ideal) x g wi (ix2 i j)) k :=
  Cert.Pad.four_cols concatenates_S8192x1376_S8192x32_S8192x1376_S8192x32_S8192x2816_d1 _ _ _ (fun j => val_main_v25 (F := Ideal) x g wi (ix2 i j)) i k
    (fun n => half_v27 x g wi i n) (fun n => zero_v26 i n) (fun n => half_v28 x g wi i n)

/-- The first half of the gate's gradient. -/
theorem half_v32 (i : Fin 8192) (n : Fin 1376) : val_main_v32 (F := Ideal) x g wi wo dy (ix2 i n) = val_main_v22 (F := Ideal) x g wi wo dy (ix2 i ⟨n.val, by omega⟩) := by
  pointwise [val_main_v32]

/-- The second half of the gate's gradient. -/
theorem half_v33 (i : Fin 8192) (n : Fin 1376) : val_main_v33 (F := Ideal) x g wi wo dy (ix2 i n) = val_main_v22 (F := Ideal) x g wi wo dy (ix2 i ⟨1376 + n.val, by omega⟩) := by
  pointwise [val_main_v33]

/-- The zeros after a half. -/
theorem zero_v31 (i : Fin 8192) (n : Fin 32) : val_main_v31 (F := Ideal) (ix2 i n) = 0 := by
  pointwise [val_main_v31, val_main_cst_3]

/-- The result of the gate's gradient, by its padded rows. -/
theorem ref_v35 (i : Fin 8192) (k : Fin 2816) : val_main_v35 (F := Ideal) x g wi wo dy (ix2 i k) = padded (fun j => val_main_v22 (F := Ideal) x g wi wo dy (ix2 i j)) k :=
  Cert.Pad.four_cols concatenates_S8192x1376_S8192x32_S8192x1376_S8192x32_S8192x2816_d1 _ _ _ (fun j => val_main_v22 (F := Ideal) x g wi wo dy (ix2 i j)) i k
    (fun n => half_v32 x g wi wo dy i n) (fun n => zero_v31 i n) (fun n => half_v33 x g wi wo dy i n)

/-- The first half of the other factor's gradient. -/
theorem half_v37 (i : Fin 8192) (n : Fin 1376) : val_main_v37 (F := Ideal) x g wi wo dy (ix2 i n) = val_main_v20 (F := Ideal) x g wi wo dy (ix2 i ⟨n.val, by omega⟩) := by
  pointwise [val_main_v37]

/-- The second half of the other factor's gradient. -/
theorem half_v38 (i : Fin 8192) (n : Fin 1376) : val_main_v38 (F := Ideal) x g wi wo dy (ix2 i n) = val_main_v20 (F := Ideal) x g wi wo dy (ix2 i ⟨1376 + n.val, by omega⟩) := by
  pointwise [val_main_v38]

/-- The zeros after a half. -/
theorem zero_v36 (i : Fin 8192) (n : Fin 32) : val_main_v36 (F := Ideal) (ix2 i n) = 0 := by
  pointwise [val_main_v36, val_main_cst_4]

/-- The result of the other factor's gradient, by its padded rows. -/
theorem ref_v40 (i : Fin 8192) (k : Fin 2816) : val_main_v40 (F := Ideal) x g wi wo dy (ix2 i k) = padded (fun j => val_main_v20 (F := Ideal) x g wi wo dy (ix2 i j)) k :=
  Cert.Pad.four_cols concatenates_S8192x1376_S8192x32_S8192x1376_S8192x32_S8192x2816_d1 _ _ _ (fun j => val_main_v20 (F := Ideal) x g wi wo dy (ix2 i j)) i k
    (fun n => half_v37 x g wi wo dy i n) (fun n => zero_v36 i n) (fun n => half_v38 x g wi wo dy i n)

end Cert.Reference4Ideal.Own

end
-- ==== Proof.FfnBlk.lean ====
/- What one block of rows of the feed-forward layer's first call stores, by the padded rows of the unit as the reference names them. -/
module

public import proofs.«01_k».proof.Proof.FfnIn
public import proofs.«01_k».proof.Proof.FfnRef

@[expose] public section

set_option maxRecDepth 65536

noncomputable section

open Idealize.ShloMosaic Idealize.ShloMosaic.TcCoe Idealize.SL.Sem
open Idealize.ShloMosaic.Pipeline (Dat)
open Cert.Alg (padded sigT sigE gateT IsReal)
open scoped BigOperators

namespace Cert.Kernel4Ideal.Own

open Cert.Kernel4Ideal Cert.Kernel4Ideal.Gen

variable (m : (ℓ : Loc nD τ sig) → Buf (Elt Ideal) ℓ) (ρ : Dev nD → PrngReg)

/-- A normalised entry. -/
abbrev hk (c : Dev nD) (i : Fin 8192) (k : Fin 1024) : EReal := Cert.Reference4Ideal.Own.hh (X m c) (G m c) i k
/-- The gate before the logistic function. -/
abbrev gk (c : Dev nD) (i : Fin 8192) (j : Fin 2752) : EReal := Cert.Reference4Ideal.Own.gg (X m c) (G m c) (WI m c) i j
/-- The other factor. -/
abbrev uk (c : Dev nD) (i : Fin 8192) (j : Fin 2752) : EReal := Cert.Reference4Ideal.Own.uu (X m c) (G m c) (WI m c) i j
/-- What comes back through the output weight. -/
abbrev dk (c : Dev nD) (i : Fin 8192) (j : Fin 2752) : EReal := Cert.Reference4Ideal.Own.dd (WO m c) (DY m c) i j

/-! ## The first call -/

/-- The input's block, as launched. -/
theorem in0 (c : Dev nD) (t : Fin cfg0.N) (r : Fin 256) (n : Fin 1024) :
    (iblk0 (V m) c 0 t : Vec Ideal S256x1024 .f32) (ix2 r n) = X m c (ix2 (inArr t r) n) :=
  (blk0_0 (V m) c t r n).trans (congrFun (at0 m c) _)

/-- The gain's row, as launched. -/
theorem in1 (c : Dev nD) (t : Fin cfg0.N) (n : Fin 1024) : (iblk0 (V m) c 1 t : Vec Ideal S1x1024 .f32) (ix2 0 n) = G m c (ix1 n) :=
  (blk0_1 (V m) c t 0 n).trans (at26 m c _)

/-- The gate weight's padded rows. -/
theorem in2 (c : Dev nD) (t : Fin cfg0.N) (n : Fin 2816) (k : Fin 1024) :
    (iblk0 (V m) c 2 t : Vec Ideal S2816x1024 .bf16) (ix2 n k) = padded (fun n => WI m c (ix2 k ⟨n.val, by omega⟩)) n :=
  (blk0_2 (V m) c t n k).trans (row8 m c k n)

/-- The other weight's padded rows. -/
theorem in3 (c : Dev nD) (t : Fin cfg0.N) (n : Fin 2816) (k : Fin 1024) :
    (iblk0 (V m) c 3 t : Vec Ideal S2816x1024 .bf16) (ix2 n k) = padded (fun n => WI m c (ix2 k ⟨2752 + n.val, by omega⟩)) n :=
  (blk0_3 (V m) c t n k).trans (row13 m c k n)

/-- The normalised rows of a block. -/
theorem h_blk (c : Dev nD) (t : Fin cfg0.N) (r : Fin 256) (k : Fin 1024) :
    k0_pay3 (iblk0 (V m) c 0 t) (iblk0 (V m) c 1 t) (ix2 r k) = hk m c (inArr t r) k := by
  rw [pay3_at]
  simp only [in0, in1]
  rfl

/-- The gate's product in a block. -/
theorem g_blk (c : Dev nD) (t : Fin cfg0.N) (r : Fin 256) (n : Fin 2816) :
    k0_pay4 (iblk0 (V m) c 0 t) (iblk0 (V m) c 1 t) (iblk0 (V m) c 2 t) (ix2 r n) = padded (fun j => gk m c (inArr t r) j) n := by
  rw [pay4_at]
  simp only [h_blk, in2]
  exact Cert.Alg.dot_padded (fun k => hk m c (inArr t r) k) (fun k j => WI m c (ix2 k ⟨j.val, by omega⟩)) n

/-- The other product in a block. -/
theorem u_blk (c : Dev nD) (t : Fin cfg0.N) (r : Fin 256) (n : Fin 2816) :
    k0_pay5 (iblk0 (V m) c 0 t) (iblk0 (V m) c 1 t) (iblk0 (V m) c 3 t) (ix2 r n) = padded (fun j => uk m c (inArr t r) j) n := by
  rw [pay5_at]
  simp only [h_blk, in3]
  exact Cert.Alg.dot_padded (fun k => hk m c (inArr t r) k) (fun k j => WI m c (ix2 k ⟨2752 + j.val, by omega⟩)) n

/-- The gate in a block. -/
theorem s_blk (c : Dev nD) (t : Fin cfg0.N) (r : Fin 256) (n : Fin 2816) :
    k0_pay1 (k0_pay7 (iblk0 (V m) c 0 t) (iblk0 (V m) c 1 t) (iblk0 (V m) c 2 t)) (ix2 r n)
      = padded (fun j => gk m c (inArr t r) j * sigT (gk m c (inArr t r) j)) n := by
  rw [pay1_at, g_blk]
  exact Cert.Alg.padded_app (fun g _ _ => g * sigT g) (zero_mul _) (fun j => gk m c (inArr t r) j) (fun j => gk m c (inArr t r) j)
    (fun j => gk m c (inArr t r) j) n

/-- The gate's derivative in a block. -/
theorem d_blk (c : Dev nD) (t : Fin cfg0.N) (r : Fin 256) (n : Fin 2816) :
    k0_pay8 (iblk0 (V m) c 0 t) (iblk0 (V m) c 1 t) (iblk0 (V m) c 2 t) (iblk0 (V m) c 3 t) (ix2 r n)
      = padded (fun j => gateT (gk m c (inArr t r) j) (uk m c (inArr t r) j)) n := by
  rw [pay8_at, g_blk, u_blk]
  exact Cert.Alg.padded_app (fun g u _ => gateT g u) (zero_mul _) (fun j => gk m c (inArr t r) j) (fun j => uk m c (inArr t r) j)
    (fun j => gk m c (inArr t r) j) n

/-- The unit in a block. -/
theorem a_blk (c : Dev nD) (t : Fin cfg0.N) (r : Fin 256) (n : Fin 2816) :
    k0_pay2 (k0_pay5 (iblk0 (V m) c 0 t) (iblk0 (V m) c 1 t) (iblk0 (V m) c 3 t)) (k0_pay7 (iblk0 (V m) c 0 t) (iblk0 (V m) c 1 t) (iblk0 (V m) c 2 t))
        (ix2 r n)
      = padded (fun j => gk m c (inArr t r) j * sigT (gk m c (inArr t r) j) * uk m c (inArr t r) j) n := by
  rw [pay2_at, g_blk, u_blk]
  exact Cert.Alg.padded_app (fun g u _ => g * sigT g * u) (mul_zero _) (fun j => gk m c (inArr t r) j) (fun j => uk m c (inArr t r) j)
    (fun j => gk m c (inArr t r) j) n

/-- The normalised rows, whole. -/
def H (c : Dev nD) : FVec Ideal S8192x1024 .bf16 := fun i => hk m c (i 0) (i 1)
/-- The gate's derivative, whole. -/
def DG (c : Dev nD) : FVec Ideal S8192x2816 .bf16 := fun i => padded (fun j => gateT (gk m c (i 0) j) (uk m c (i 0) j)) (i 1)
/-- The gate, whole. -/
def S (c : Dev nD) : FVec Ideal S8192x2816 .bf16 := fun i => padded (fun j => gk m c (i 0) j * sigT (gk m c (i 0) j)) (i 1)
/-- The unit, whole. -/
def A (c : Dev nD) : FVec Ideal S8192x2816 .bf16 := fun i => padded (fun j => gk m c (i 0) j * sigT (gk m c (i 0) j) * uk m c (i 0) j) (i 1)

section Stores

variable (U : (c : Dev nD) → (b : Ref sig .tc) → Buf (Elt Ideal) ((c : Thread nD τ).loc b))

/-- What the first body stores in window 4. -/
theorem stored4 (c : Dev nD) (t : Fin cfg0.N) (y : S256x1024.Idx) : (outsAt0 U c t).1 y = k0_pay3 (iblk0 U c 0 t) (iblk0 U c 1 t) y := by
  unfold outsAt0
  dsimp only
  unfold out0_A_4
  frame_out

/-- What the first body stores in window 5. -/
theorem stored5 (c : Dev nD) (t : Fin cfg0.N) (y : S256x2816.Idx) : (outsAt0 U c t).2.1 y = k0_pay8 (iblk0 U c 0 t) (iblk0 U c 1 t) (iblk0 U c 2 t) (iblk0 U c 3 t) y := by
  unfold outsAt0
  dsimp only
  unfold out0_A_5
  frame_out

/-- What the first body stores in window 6. -/
theorem stored6 (c : Dev nD) (t : Fin cfg0.N) (y : S256x2816.Idx) : (outsAt0 U c t).2.2.1 y = k0_pay1 (k0_pay7 (iblk0 U c 0 t) (iblk0 U c 1 t) (iblk0 U c 2 t)) y := by
  unfold outsAt0
  dsimp only
  unfold out0_A_6
  frame_out

/-- What the first body stores in window 7. -/
theorem stored7 (c : Dev nD) (t : Fin cfg0.N) (y : S256x2816.Idx) : (outsAt0 U c t).2.2.2 y = k0_pay2 (k0_pay5 (iblk0 U c 0 t) (iblk0 U c 1 t) (iblk0 U c 3 t)) (k0_pay7 (iblk0 U c 0 t) (iblk0 U c 1 t) (iblk0 U c 2 t)) y := by
  unfold outsAt0
  dsimp only
  unfold out0_A_7
  frame_out

end Stores

end Cert.Kernel4Ideal.Own

end
-- ==== Proof.FfnVal.lean ====
/- The feed-forward layer's first call and its gradient's, run one after the other, leave the reference's four results: where the
   gain, the weights and the output's gradient are finite the unit is real, and there its two forms agree. -/
module

public import proofs.«01_k».proof.Proof.FfnBlk

@[expose] public section

set_option maxRecDepth 65536

noncomputable section

open Idealize.ShloMosaic Idealize.ShloMosaic.TcCoe Idealize.SL.Sem
open Idealize.ShloMosaic.Pipeline (Dat)
open Cert.Alg (padded sigT sigE gateT IsReal)
open scoped BigOperators

namespace Cert.Kernel4Ideal.Own

open Cert.Kernel4Ideal Cert.Kernel4Ideal.Gen

variable (m : (ℓ : Loc nD τ sig) → Buf (Elt Ideal) ℓ) (ρ : Dev nD → PrngReg)

/-- The first output of the first call. -/
theorem arr0_4 (c : Dev nD) : (dat0 (V m) c).arrAt 4 cfg0.N = H m c := by
  refine (dat0 (V m) c).arrAt_eq_of_covers 4 _ (by decide +kernel) fun t hf y => ?_
  blk_simp
  rw [after0_4]
  refine (stored4 (V m) c t y).trans ?_
  refine (congrArg _ (eq_ix2 y)).trans ((h_blk m c t (y 0) (y 1)).trans (congrArg (fun i => H m c i) (?_ : ix2 (inArr t (y 0)) (y 1) = _)))
  blk_ext [idx0 t, inArr]

/-- What a step stores in window 5, by rows of the whole. -/
theorem row0_5 (c : Dev nD) (t : Fin cfg0.N) (y : S256x2816.Idx) : (outsAt0 (V m) c t).2.1 y = DG m c (ix2 (inArr t (y 0)) (y 1)) := by
  obtain ⟨r, n, rfl⟩ : ∃ r n, y = ix2 r n := ⟨y 0, y 1, eq_ix2 y⟩
  rw [stored5, d_blk]
  rfl
/-- Where an entry of window 5's block lies in the whole. -/
theorem emb0_5 (t : Fin cfg0.N) (y : S256x2816.Idx) : (win0_5.blk t).view.emb y = ix2 (inArr t (y 0)) (y 1) := by
  blk_ext [idx0 t, inArr]
/-- Its second output. -/
theorem arr0_5 (c : Dev nD) : (dat0 (V m) c).arrAt 5 cfg0.N = DG m c := by
  refine (dat0 (V m) c).arrAt_eq_of_covers 5 _ (by decide +kernel) fun t hf y => ?_
  blk_simp
  rw [after0_5]
  exact (row0_5 m c t y).trans (congrArg (DG m c) (emb0_5 t y)).symm

/-- What a step stores in window 6, by rows of the whole. -/
theorem row0_6 (c : Dev nD) (t : Fin cfg0.N) (y : S256x2816.Idx) : (outsAt0 (V m) c t).2.2.1 y = S m c (ix2 (inArr t (y 0)) (y 1)) := by
  obtain ⟨r, n, rfl⟩ : ∃ r n, y = ix2 r n := ⟨y 0, y 1, eq_ix2 y⟩
  rw [stored6, s_blk]
  rfl
/-- Where an entry of window 6's block lies in the whole. -/
theorem emb0_6 (t : Fin cfg0.N) (y : S256x2816.Idx) : (win0_6.blk t).view.emb y = ix2 (inArr t (y 0)) (y 1) := by
  blk_ext [idx0 t, inArr]
/-- Its third output. -/
theorem arr0_6 (c : Dev nD) : (dat0 (V m) c).arrAt 6 cfg0.N = S m c := by
  refine (dat0 (V m) c).arrAt_eq_of_covers 6 _ (by decide +kernel) fun t hf y => ?_
  blk_simp
  rw [after0_6]
  exact (row0_6 m c t y).trans (congrArg (S m c) (emb0_6 t y)).symm

/-- What a step stores in window 7, by rows of the whole. -/
theorem row0_7 (c : Dev nD) (t : Fin cfg0.N) (y : S256x2816.Idx) : (outsAt0 (V m) c t).2.2.2 y = A m c (ix2 (inArr t (y 0)) (y 1)) := by
  obtain ⟨r, n, rfl⟩ : ∃ r n, y = ix2 r n := ⟨y 0, y 1, eq_ix2 y⟩
  rw [stored7, a_blk]
  rfl
/-- Where an entry of window 7's block lies in the whole. -/
theorem emb0_7 (t : Fin cfg0.N) (y : S256x2816.Idx) : (win0_7.blk t).view.emb y = ix2 (inArr t (y 0)) (y 1) := by
  blk_ext [idx0 t, inArr]
/-- Its fourth output. -/
theorem arr0_7 (c : Dev nD) : (dat0 (V m) c).arrAt 7 cfg0.N = A m c := by
  refine (dat0 (V m) c).arrAt_eq_of_covers 7 _ (by decide +kernel) fun t hf y => ?_
  blk_simp
  rw [after0_7]
  exact (row0_7 m c t y).trans (congrArg (A m c) (emb0_7 t y)).symm

/-! ## The second call -/

/-- The output's gradient reaches the second call as launched. -/
theorem got28 (c : Dev nD) (j) : (V3 m ρ c main_v28 : FVec Ideal S8192x1024 .bf16) j = DY m c j := by
  have e : (V3 m ρ c main_v28 : FVec Ideal S8192x1024 .bf16) = (truncf .bf16 (W2 m ρ c (Proc.devRef .tc main_arg4) : FVec Ideal S8192x1024 .f32) bitsLt_bf16_f32 : FVec Ideal S8192x1024 .bf16) := by
    show StableHlo.after hostOps1 (W2 m ρ c) _ = _
    after_results
  rw [e, W2_args m ρ c main_arg4 (by decide)]
  rfl

/-- The output weight reaches it as the host laid it out. -/
theorem got25 (c : Dev nD) : (V3 m ρ c main_v25 : FVec Ideal S2816x1024 .bf16) = B25 m c :=
  (W3_of m ρ c main_v25 (by decide)).trans (W2_of m ρ c main_v25 (by decide))

/-- The gate's derivative reaches it as the first call left it. -/
theorem got27_1 (c : Dev nD) : (V3 m ρ c main_v27_1 : FVec Ideal S8192x2816 .bf16) = DG m c :=
  (W3_of m ρ c main_v27_1 (by decide)).trans ((W2_arr m ρ c 5).trans (arr0_5 m c))

/-- So does the gate. -/
theorem got27_2 (c : Dev nD) : (V3 m ρ c main_v27_2 : FVec Ideal S8192x2816 .bf16) = S m c :=
  (W3_of m ρ c main_v27_2 (by decide)).trans ((W2_arr m ρ c 6).trans (arr0_6 m c))

/-- The output gradient's block. -/
theorem on0 (c : Dev nD) (t : Fin cfg1.N) (r : Fin 256) (n : Fin 1024) :
    (iblk1 (V3 m ρ) c 0 t : Vec Ideal S256x1024 .bf16) (ix2 r n) = DY m c (ix2 (inArr' t r) n) :=
  (blk1_0 (V3 m ρ) c t r n).trans (got28 m ρ c _)

/-- The output weight's padded rows. -/
theorem on1 (c : Dev nD) (t : Fin cfg1.N) (n : Fin 2816) (k : Fin 1024) :
    (iblk1 (V3 m ρ) c 1 t : Vec Ideal S2816x1024 .bf16) (ix2 n k) = padded (fun n => WO m c (ix2 n k)) n :=
  (blk1_1 (V3 m ρ) c t n k).trans ((congrFun (got25 m ρ c) _).trans (row25 m c k n))

/-- The gate's derivative. -/
theorem on2 (c : Dev nD) (t : Fin cfg1.N) (r : Fin 256) (n : Fin 2816) :
    (iblk1 (V3 m ρ) c 2 t : Vec Ideal S256x2816 .bf16) (ix2 r n) = padded (fun j => gateT (gk m c (inArr' t r) j) (uk m c (inArr' t r) j)) n :=
  (blk1_2 (V3 m ρ) c t r n).trans (congrFun (got27_1 m ρ c) _)

/-- The gate. -/
theorem on3 (c : Dev nD) (t : Fin cfg1.N) (r : Fin 256) (n : Fin 2816) :
    (iblk1 (V3 m ρ) c 3 t : Vec Ideal S256x2816 .bf16) (ix2 r n) = padded (fun j => gk m c (inArr' t r) j * sigT (gk m c (inArr' t r) j)) n :=
  (blk1_3 (V3 m ρ) c t r n).trans (congrFun (got27_2 m ρ c) _)

/-- What comes back through the output weight, in a block. -/
theorem back_blk (c : Dev nD) (t : Fin cfg1.N) (r : Fin 256) (n : Fin 2816) :
    k1_pay1 (iblk1 (V3 m ρ) c 0 t) (iblk1 (V3 m ρ) c 1 t) (ix2 r n) = padded (fun j => dk m c (inArr' t r) j) n := by
  rw [qay1_at]
  simp only [on0, on1]
  exact Cert.Alg.dot_padded (fun k => DY m c (ix2 (inArr' t r) k)) (fun k j => WO m c (ix2 j k)) n

/-- The gate's gradient in a block. -/
theorem dg_blk (c : Dev nD) (t : Fin cfg1.N) (r : Fin 256) (n : Fin 2816) :
    k1_pay2 (iblk1 (V3 m ρ) c 0 t) (iblk1 (V3 m ρ) c 1 t) (iblk1 (V3 m ρ) c 2 t) (ix2 r n)
      = padded (fun j => dk m c (inArr' t r) j * gateT (gk m c (inArr' t r) j) (uk m c (inArr' t r) j)) n := by
  rw [qay2_at, back_blk, on2]
  exact Cert.Alg.padded_app (fun d e _ => d * e) (zero_mul _) (fun j => dk m c (inArr' t r) j)
    (fun j => gateT (gk m c (inArr' t r) j) (uk m c (inArr' t r) j)) (fun j => dk m c (inArr' t r) j) n

/-- The other factor's gradient in a block. -/
theorem du_blk (c : Dev nD) (t : Fin cfg1.N) (r : Fin 256) (n : Fin 2816) :
    k1_pay3 (iblk1 (V3 m ρ) c 0 t) (iblk1 (V3 m ρ) c 1 t) (iblk1 (V3 m ρ) c 3 t) (ix2 r n)
      = padded (fun j => dk m c (inArr' t r) j * (gk m c (inArr' t r) j * sigT (gk m c (inArr' t r) j))) n := by
  rw [qay3_at, back_blk, on3]
  exact Cert.Alg.padded_app (fun d e _ => d * e) (zero_mul _) (fun j => dk m c (inArr' t r) j)
    (fun j => gk m c (inArr' t r) j * sigT (gk m c (inArr' t r) j)) (fun j => dk m c (inArr' t r) j) n

/-- The gate's gradient, whole. -/
def E (c : Dev nD) : FVec Ideal S8192x2816 .bf16 := fun i => padded (fun j => dk m c (i 0) j * gateT (gk m c (i 0) j) (uk m c (i 0) j)) (i 1)
/-- The other factor's gradient, whole. -/
def O (c : Dev nD) : FVec Ideal S8192x2816 .bf16 := fun i => padded (fun j => dk m c (i 0) j * (gk m c (i 0) j * sigT (gk m c (i 0) j))) (i 1)

/-- The first output of the second call. -/
theorem arr1_4 (c : Dev nD) : (dat1 (V3 m ρ) c).arrAt 4 cfg1.N = E m c := by
  refine (dat1 (V3 m ρ) c).arrAt_eq_of_covers 4 _ (by decide +kernel) fun t hf y => ?_
  blk_simp
  rw [after1_4]
  unfold out1_4
  frame_out
  refine (congrArg _ (eq_ix2 y)).trans ((dg_blk m ρ c t (y 0) (y 1)).trans (congrArg (fun i => E m c i) (?_ : ix2 (inArr' t (y 0)) (y 1) = _)))
  blk_ext [idx1 t, inArr']

/-- Its second output. -/
theorem arr1_5 (c : Dev nD) : (dat1 (V3 m ρ) c).arrAt 5 cfg1.N = O m c := by
  refine (dat1 (V3 m ρ) c).arrAt_eq_of_covers 5 _ (by decide +kernel) fun t hf y => ?_
  blk_simp
  rw [after1_5]
  unfold out1_5
  frame_out
  refine (congrArg _ (eq_ix2 y)).trans ((du_blk m ρ c t (y 0) (y 1)).trans (congrArg (fun i => O m c i) (?_ : ix2 (inArr' t (y 0)) (y 1) = _)))
  blk_ext [idx1 t, inArr']

/-! ## Against the reference -/

open Cert.Reference4Ideal.Own in
/-- The normalised rows are the reference's. -/
theorem final_h (c : Dev nD) : (dat0 (V1 m ρ) c).arrAt 4 cfg0.N = Cert.Reference4Ideal.Read.val_main_v23 (F := Ideal) (X m c) (G m c) := by
  refine (arr0_4 m c).trans (funext fun i => ?_)
  rw [eq_ix2 i]
  exact (ref_h' (X m c) (G m c) (i 0) (i 1)).symm

variable {m}

/-- The gate is real. -/
theorem real_g (c : Dev nD) (hg : ∀ k, IsReal (G m c (ix1 k))) (hw : ∀ k j, IsReal (WI m c (ix2 k j))) (i j) : IsReal (gk m c i j) :=
  IsReal.sum _ fun k => (Cert.Alg.isReal_normed (fun n => X m c (ix2 i n)) _ (hg k) k).mul (hw _ _)

/-- The other factor is real. -/
theorem real_u (c : Dev nD) (hg : ∀ k, IsReal (G m c (ix1 k))) (hw : ∀ k j, IsReal (WI m c (ix2 k j))) (i j) : IsReal (uk m c i j) :=
  IsReal.sum _ fun k => (Cert.Alg.isReal_normed (fun n => X m c (ix2 i n)) _ (hg k) k).mul (hw _ _)

/-- What comes back is real. -/
theorem real_d (c : Dev nD) (hw : ∀ j k, IsReal (WO m c (ix2 j k))) (hd : ∀ i k, IsReal (DY m c (ix2 i k))) (i j) : IsReal (dk m c i j) :=
  IsReal.sum _ fun k => (hd _ _).mul (hw _ _)

open Cert.Reference4Ideal.Own in
/-- The unit is the reference's. -/
theorem final_a (c : Dev nD) (hg : ∀ k, IsReal (G m c (ix1 k))) (hw : ∀ k j, IsReal (WI m c (ix2 k j))) :
    (dat0 (V1 m ρ) c).arrAt 7 cfg0.N = Cert.Reference4Ideal.Read.val_main_v30 (F := Ideal) (X m c) (G m c) (WI m c) := by
  refine (arr0_7 m c).trans (funext fun i => ?_)
  rw [eq_ix2 i]
  refine Eq.trans ?_ (ref_v30 (X m c) (G m c) (WI m c) (i 0) (i 1)).symm
  refine congrArg (fun f => padded f (i 1)) (funext fun j => ?_)
  exact (Cert.Alg.unit_eq (real_g c hg hw _ _)).trans (ref_a (X m c) (G m c) (WI m c) (i 0) j).symm

open Cert.Reference4Ideal.Own in
/-- The gate's gradient is the reference's. -/
theorem final_dg (c : Dev nD) (hg : ∀ k, IsReal (G m c (ix1 k))) (hw : ∀ k j, IsReal (WI m c (ix2 k j))) (ho : ∀ j k, IsReal (WO m c (ix2 j k)))
    (hd : ∀ i k, IsReal (DY m c (ix2 i k))) :
    (dat1 (V3 m ρ) c).arrAt 4 cfg1.N = Cert.Reference4Ideal.Read.val_main_v35 (F := Ideal) (X m c) (G m c) (WI m c) (WO m c) (DY m c) := by
  refine (arr1_4 m ρ c).trans (funext fun i => ?_)
  rw [eq_ix2 i]
  refine Eq.trans ?_ (ref_v35 (X m c) (G m c) (WI m c) (WO m c) (DY m c) (i 0) (i 1)).symm
  refine congrArg (fun f => padded f (i 1)) (funext fun j => ?_)
  exact (Cert.Alg.gate_grad (real_d c ho hd _ _) (real_g c hg hw _ _) (real_u c hg hw _ _)).trans (ref_dg (X m c) (G m c) (WI m c) (WO m c) (DY m c) (i 0) j).symm

open Cert.Reference4Ideal.Own in
/-- The other factor's gradient is the reference's. -/
theorem final_du (c : Dev nD) (hg : ∀ k, IsReal (G m c (ix1 k))) (hw : ∀ k j, IsReal (WI m c (ix2 k j))) :
    (dat1 (V3 m ρ) c).arrAt 5 cfg1.N = Cert.Reference4Ideal.Read.val_main_v40 (F := Ideal) (X m c) (G m c) (WI m c) (WO m c) (DY m c) := by
  refine (arr1_5 m ρ c).trans (funext fun i => ?_)
  rw [eq_ix2 i]
  refine Eq.trans ?_ (ref_v40 (X m c) (G m c) (WI m c) (WO m c) (DY m c) (i 0) (i 1)).symm
  refine congrArg (fun f => padded f (i 1)) (funext fun j => ?_)
  exact (Cert.Alg.up_grad (real_g c hg hw _ _)).trans (ref_du (X m c) (G m c) (WI m c) (WO m c) (DY m c) (i 0) j).symm

end Cert.Kernel4Ideal.Own

end
-- ==== Proof.FfnPre.lean ====
/- What the precondition says: no entry of the gain, of the two weights or of the output's gradient is infinite. -/
module

public import proofs.«01_k».proof.Pre_finite
public import proofs.«01_k».proof.Proof.FfnAlg
public import Idealize.ShloMosaic.Lib.Pipeline.ValueKit
public import Idealize.ShloMosaic.Lib.Claim

@[expose] public section

set_option maxRecDepth 65536

noncomputable section

open Idealize.ShloMosaic Idealize.ShloMosaic.TcCoe
open Cert.Alg (IsReal isReal_of_abs_lt)

namespace Cert.Pre_finite.Own

open Cert.Pre_finite

/-- The function's side conditions hold. -/
instance facts : Cert.Pre_finite.Facts where
  bcast_S1024_S1x1024_1 := by decide
  transposes_S1024x5504_S5504x1024_1_0 := by decide
  concatenates_S1x1024_S5504x1024_S2752x1024_S8192x1024_S16449x1024_d0 := by decide
  bcast_S_S16449x1024 := by decide

variable (x : FVec Ideal S8192x1024 .f32) (g : FVec Ideal S1024 .f32) (wi : FVec Ideal S1024x5504 .f32) (wo : FVec Ideal S2752x1024 .f32)
  (dy : FVec Ideal S8192x1024 .f32)

/-- The gain as a row. -/
def gRow : FVec Ideal S1x1024 .f32 := broadcastInDim S1x1024 ![1] Facts.bcast_S1024_S1x1024_1 g
/-- The input weights transposed. -/
def wRows : FVec Ideal S5504x1024 .f32 := transpose S5504x1024 [1, 0] wi Facts.transposes_S1024x5504_S5504x1024_1_0
/-- The rows the function looks at, one below the other. -/
def rows : FVec Ideal S16449x1024 .f32 :=
  concatenate S16449x1024 0 [⟨S1x1024, gRow g⟩, ⟨S5504x1024, wRows wi⟩, ⟨S2752x1024, wo⟩, ⟨S8192x1024, dy⟩]
    Facts.concatenates_S1x1024_S5504x1024_S2752x1024_S8192x1024_S16449x1024_d0

theorem gRow_at (k : Fin 1024) : gRow g (ix2 0 k) = g (ix1 k) := by
  pointwise [gRow]

theorem wRows_at (j : Fin 5504) (k : Fin 1024) : wRows wi (ix2 j k) = wi (ix2 k j) := by
  pointwise [wRows]

theorem rows_g (k : Fin 1024) : rows g wi wo dy (ix2 ⟨0, by omega⟩ k) = gRow g (ix2 0 k) := by
  pointwise [rows]

theorem rows_wi (j : Fin 5504) (k : Fin 1024) : rows g wi wo dy (ix2 ⟨1 + j.val, by omega⟩ k) = wRows wi (ix2 j k) := by
  pointwise [rows]

theorem rows_wo (j : Fin 2752) (k : Fin 1024) : rows g wi wo dy (ix2 ⟨5505 + j.val, by omega⟩ k) = wo (ix2 j k) := by
  pointwise [rows]
  rw [dif_neg (by omega), dif_neg (by omega), dif_pos (by omega)]
  exact congrArg wo (congrArg (fun r => ix2 r k) (Fin.ext (by simp <;> omega)))

theorem rows_dy (j : Fin 8192) (k : Fin 1024) : rows g wi wo dy (ix2 ⟨8257 + j.val, by omega⟩ k) = dy (ix2 j k) := by
  pointwise [rows]
  rw [dif_neg (by omega), dif_neg (by omega), dif_neg (by omega)]
  exact congrArg dy (congrArg (fun r => ix2 r k) (Fin.ext (by simp <;> omega)))

/-- `f32`'s infinity. -/
theorem lit_inf : Ideal.ofBits .f32 0x7F800000#32 = ⊤ := by
  simp [Ideal.ofBits, Ideal.ieee]

/-- An entry the function calls finite is real. -/
theorem isReal_rows (h : fn (F := Ideal) x g wi wo dy = fun _ => 1#1) (i : S16449x1024.Idx) : IsReal (rows g wi wo dy i) := by
  have e : Ideal.cmp .olt (max (rows g wi wo dy i) (-(rows g wi wo dy i))) (Ideal.ofBits .f32 0x7F800000#32) = 1#1 := congrFun h i
  rw [lit_inf] at e
  refine isReal_of_abs_lt ?_
  by_contra hn
  have e' : Ideal.cmp .olt (max (rows g wi wo dy i) (-(rows g wi wo dy i))) ⊤ = BitVec.ofBool (decide (max (rows g wi wo dy i) (-(rows g wi wo dy i)) < ⊤)) := rfl
  rw [e', decide_eq_false hn] at e
  exact absurd e (by decide)

variable {x g wi wo dy}

theorem isReal_g (h : fn (F := Ideal) x g wi wo dy = fun _ => 1#1) (k : Fin 1024) : IsReal (g (ix1 k)) := by
  rw [← gRow_at g k, ← rows_g g wi wo dy]
  exact isReal_rows x g wi wo dy h _

theorem isReal_wi (h : fn (F := Ideal) x g wi wo dy = fun _ => 1#1) (k : Fin 1024) (j : Fin 5504) : IsReal (wi (ix2 k j)) := by
  rw [← wRows_at wi j k, ← rows_wi g wi wo dy]
  exact isReal_rows x g wi wo dy h _

theorem isReal_wo (h : fn (F := Ideal) x g wi wo dy = fun _ => 1#1) (j : Fin 2752) (k : Fin 1024) : IsReal (wo (ix2 j k)) := by
  rw [← rows_wo g wi wo dy]
  exact isReal_rows x g wi wo dy h _

theorem isReal_dy (h : fn (F := Ideal) x g wi wo dy = fun _ => 1#1) (j : Fin 8192) (k : Fin 1024) : IsReal (dy (ix2 j k)) := by
  rw [← rows_dy g wi wo dy]
  exact isReal_rows x g wi wo dy h _

end Cert.Pre_finite.Own

end
-- ==== Proof.BzStep.lean ====
module

public import proofs.«01_k».proof.Proof.Gen.Kernel20Ideal.Frame.Runs
public import Idealize.ShloMosaic.Lib.Claim

@[expose] public section

noncomputable section

namespace Cert.Kernel20Ideal.Own

open Cert.Kernel20Ideal Cert.Kernel20Ideal.Gen
open Idealize.ShloMosaic

variable {F : FTy → Type} [FloatOps F]

/-- The gradient that reaches the mixed rows of a block: the incoming gradient times the gate. -/
def dz (x0 : Vec F S256x1024 .f32) (x1 : Vec F S256x1792 .f32) : FVec F S256x256 .f32 :=
  k0_pay119 (k0_pay100 (View.ld (Val := Elt F) x1 (Rect.unit (s := S256x1792) ![0, 1280] S256x256.size inb_S256x1792_S256x256_0_1280)))
    (View.ld (Val := Elt F) x0 (Rect.unit (s := S256x1024) ![0, 768] S256x256.size inb_S256x1024_S256x256_0_768))

/-- What a point adds to the sum over the chunks: its first chunk, then its second. -/
def step (x0 : Vec F S256x1024 .f32) (x1 : Vec F S256x1792 .f32) (a : Vec F S128x256 .f32) : Vec F S128x256 .f32 :=
  k0_pay132 (dz x0 x1) (k0_pay124 (dz x0 x1) a)

end Cert.Kernel20Ideal.Own

end
-- ==== Proof.BzA.lean ====
module

public import proofs.«01_k».proof.Proof.BzStep
public import Idealize.ShloMosaic.Lib.VecWindow
public import Idealize.ShloMosaic.Lib.Claim

@[expose] public section

set_option maxRecDepth 16384

noncomputable section

namespace Cert.Kernel20Ideal.Own

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the first point, which clears the sums and the carried buffers: it ends, keeps what its nineteen inputs hold, and leaves the sum over the chunks with this point's two added and something in each other output and scratch buffer. -/
theorem bzA (c : Dev nD) (i : grid0.Coords) (arg1 : Memref sig .tc .vmem S256x1024 .f32) (harg1 : arg1.IsWhole) (arg2 : Memref sig .tc .vmem S256x1792 .f32) (harg2 : arg2.IsWhole) (arg3 : Memref sig .tc .vmem S16x512 .f32) (harg3 : arg3.IsWhole) (arg4 : Memref sig .tc .vmem S16x256 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S4x128x128 .bf16) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x1792 .bf16) (harg20 : arg20.IsWhole) (arg21 : Memref sig .tc .vmem S4x512 .f32) (harg21 : arg21.IsWhole) (arg22 : Memref sig .tc .vmem S1x512 .f32) (harg22 : arg22.IsWhole) (arg23 : Memref sig .tc .vmem S512x1024 .f32) (harg23 : arg23.IsWhole) (arg24 : Memref sig .tc .vmem S1x1024 .f32) (harg24 : arg24.IsWhole) (arg25 : Memref sig .tc .vmem S1x512 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S4x128x128 .f32) (harg29 : arg29.IsWhole) (arg30 : Memref sig .tc .vmem S128x256 .f32) (harg30 : arg30.IsWhole) (arg31 : Memref sig .tc .vmem S8x512 .f32) (harg31 : arg31.IsWhole) (arg32 : Memref sig .tc .vmem S16x512 .f32) (harg32 : arg32.IsWhole) (arg33 : Memref sig .tc .vmem S16x256 .f32) (harg33 : arg33.IsWhole) (hc0 : cond0_0 i) (hc1 : ¬cond0_1 i) (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (f29 : arg30.view.ty.Contents (Elt F)) (E : Set ℕ) (K : PUnit → sProp 𝕄) :
    iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (arg30.view.loc (c : Thread nD τ) ↦[arg30.view.set]{fullShare} f29) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, ⌜arg30.view.read (Elt F) f = step (arg1.view.read (Elt F) f0) (arg2.view.read (Elt F) f1) (k0_pay15 (F := F))⌝ ∗ (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_bwd_eq_skeleton]; unfold cc0_mix_bwd_skel
  iintro ⟨H0, H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, H29, ⟨%f30, H30⟩, ⟨%f31, H31⟩, ⟨%f32, H32⟩, Hk⟩
  sl_exec_parts (disch := first | sl_exact hc0 | sl_exact hc1)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; isplitr; swap; (iexact H29); ipureintro
    dsimp only [bzA.sl.H29_3]
    rw [View.read_writes_full]
    unfold bzA.sl.r_61 bzA.sl.v747 bzA.sl.H29_2
    rw [View.readCov_full]
    try unfold bzA.sl.v637
    unfold bzA.sl.r_55 bzA.sl.r_43 bzA.sl.H29_1
    rw [View.readCov_full]
    rfl
  isplitl [H30]
  · iexists _; iexact H30
  isplitl [H31]
  · iexists _; iexact H31
  iexists _; iexact H32

end Cert.Kernel20Ideal.Own

end
-- ==== Proof.BzB.lean ====
module

public import proofs.«01_k».proof.Proof.BzStep
public import Idealize.ShloMosaic.Lib.VecWindow
public import Idealize.ShloMosaic.Lib.Claim

@[expose] public section

set_option maxRecDepth 16384

noncomputable section

namespace Cert.Kernel20Ideal.Own

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a point between, which adds to what the points before left: it ends, keeps what its nineteen inputs hold, and leaves the sum over the chunks with this point's two added and something in each other output and scratch buffer. -/
theorem bzB (c : Dev nD) (i : grid0.Coords) (arg1 : Memref sig .tc .vmem S256x1024 .f32) (harg1 : arg1.IsWhole) (arg2 : Memref sig .tc .vmem S256x1792 .f32) (harg2 : arg2.IsWhole) (arg3 : Memref sig .tc .vmem S16x512 .f32) (harg3 : arg3.IsWhole) (arg4 : Memref sig .tc .vmem S16x256 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S4x128x128 .bf16) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x1792 .bf16) (harg20 : arg20.IsWhole) (arg21 : Memref sig .tc .vmem S4x512 .f32) (harg21 : arg21.IsWhole) (arg22 : Memref sig .tc .vmem S1x512 .f32) (harg22 : arg22.IsWhole) (arg23 : Memref sig .tc .vmem S512x1024 .f32) (harg23 : arg23.IsWhole) (arg24 : Memref sig .tc .vmem S1x1024 .f32) (harg24 : arg24.IsWhole) (arg25 : Memref sig .tc .vmem S1x512 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S4x128x128 .f32) (harg29 : arg29.IsWhole) (arg30 : Memref sig .tc .vmem S128x256 .f32) (harg30 : arg30.IsWhole) (arg31 : Memref sig .tc .vmem S8x512 .f32) (harg31 : arg31.IsWhole) (arg32 : Memref sig .tc .vmem S16x512 .f32) (harg32 : arg32.IsWhole) (arg33 : Memref sig .tc .vmem S16x256 .f32) (harg33 : arg33.IsWhole) (hc0 : ¬cond0_0 i) (hc1 : ¬cond0_1 i) (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (f29 : arg30.view.ty.Contents (Elt F)) (E : Set ℕ) (K : PUnit → sProp 𝕄) :
    iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (arg30.view.loc (c : Thread nD τ) ↦[arg30.view.set]{fullShare} f29) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, ⌜arg30.view.read (Elt F) f = step (arg1.view.read (Elt F) f0) (arg2.view.read (Elt F) f1) (arg30.view.read (Elt F) f29)⌝ ∗ (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_bwd_eq_skeleton]; unfold cc0_mix_bwd_skel
  iintro ⟨H0, H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, H29, ⟨%f30, H30⟩, ⟨%f31, H31⟩, ⟨%f32, H32⟩, Hk⟩
  sl_exec_parts (disch := first | sl_exact hc0 | sl_exact hc1)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; isplitr; swap; (iexact H29); ipureintro
    dsimp only [bzB.sl.H29_2]
    rw [View.read_writes_full]
    unfold bzB.sl.r_61 bzB.sl.v747 bzB.sl.H29_1
    rw [View.readCov_full]
    unfold bzB.sl.r_55 bzB.sl.r_43
    rw [View.readAt_full]
    rfl
  isplitl [H30]
  · iexists _; iexact H30
  isplitl [H31]
  · iexists _; iexact H31
  iexists _; iexact H32

end Cert.Kernel20Ideal.Own

end
-- ==== Proof.BzC.lean ====
module

public import proofs.«01_k».proof.Proof.BzStep
public import Idealize.ShloMosaic.Lib.VecWindow
public import Idealize.ShloMosaic.Lib.Claim

@[expose] public section

set_option maxRecDepth 16384

noncomputable section

namespace Cert.Kernel20Ideal.Own

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at the last point: it ends, keeps what its nineteen inputs hold, and leaves the sum over the chunks with this point's two added and something in each other output and scratch buffer. -/
theorem bzC (c : Dev nD) (i : grid0.Coords) (arg1 : Memref sig .tc .vmem S256x1024 .f32) (harg1 : arg1.IsWhole) (arg2 : Memref sig .tc .vmem S256x1792 .f32) (harg2 : arg2.IsWhole) (arg3 : Memref sig .tc .vmem S16x512 .f32) (harg3 : arg3.IsWhole) (arg4 : Memref sig .tc .vmem S16x256 .f32) (harg4 : arg4.IsWhole) (arg5 : Memref sig .tc .vmem S256x512 .f32) (harg5 : arg5.IsWhole) (arg6 : Memref sig .tc .vmem S16x512 .f32) (harg6 : arg6.IsWhole) (arg7 : Memref sig .tc .vmem S4x512 .f32) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S1x256 .f32) (harg15 : arg15.IsWhole) (arg16 : Memref sig .tc .vmem S1x256 .f32) (harg16 : arg16.IsWhole) (arg17 : Memref sig .tc .vmem S4x128x128 .bf16) (harg17 : arg17.IsWhole) (arg18 : Memref sig .tc .vmem S4x128x128 .bf16) (harg18 : arg18.IsWhole) (arg19 : Memref sig .tc .vmem S128x256 .f32) (harg19 : arg19.IsWhole) (arg20 : Memref sig .tc .vmem S256x1792 .bf16) (harg20 : arg20.IsWhole) (arg21 : Memref sig .tc .vmem S4x512 .f32) (harg21 : arg21.IsWhole) (arg22 : Memref sig .tc .vmem S1x512 .f32) (harg22 : arg22.IsWhole) (arg23 : Memref sig .tc .vmem S512x1024 .f32) (harg23 : arg23.IsWhole) (arg24 : Memref sig .tc .vmem S1x1024 .f32) (harg24 : arg24.IsWhole) (arg25 : Memref sig .tc .vmem S1x512 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x256 .f32) (harg28 : arg28.IsWhole) (arg29 : Memref sig .tc .vmem S4x128x128 .f32) (harg29 : arg29.IsWhole) (arg30 : Memref sig .tc .vmem S128x256 .f32) (harg30 : arg30.IsWhole) (arg31 : Memref sig .tc .vmem S8x512 .f32) (harg31 : arg31.IsWhole) (arg32 : Memref sig .tc .vmem S16x512 .f32) (harg32 : arg32.IsWhole) (arg33 : Memref sig .tc .vmem S16x256 .f32) (harg33 : arg33.IsWhole) (hc0 : ¬cond0_0 i) (hc1 : cond0_1 i) (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (f29 : arg30.view.ty.Contents (Elt F)) (E : Set ℕ) (K : PUnit → sProp 𝕄) :
    iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (arg30.view.loc (c : Thread nD τ) ↦[arg30.view.set]{fullShare} f29) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, ⌜arg30.view.read (Elt F) f = step (arg1.view.read (Elt F) f0) (arg2.view.read (Elt F) f1) (arg30.view.read (Elt F) f29)⌝ ∗ (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩))
      ⊢ wp frame (wpE (defs₀ (F := F)) Variants.none c none) E (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mix_bwd_eq_skeleton]; unfold cc0_mix_bwd_skel
  iintro ⟨H0, H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, H29, ⟨%f30, H30⟩, ⟨%f31, H31⟩, ⟨%f32, H32⟩, Hk⟩
  sl_exec_parts (disch := first | sl_exact hc0 | sl_exact hc1)
  sl_step
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexists _; iexact H19
  isplitl [H20]
  · iexists _; iexact H20
  isplitl [H21]
  · iexists _; iexact H21
  isplitl [H22]
  · iexists _; iexact H22
  isplitl [H23]
  · iexists _; iexact H23
  isplitl [H24]
  · iexists _; iexact H24
  isplitl [H25]
  · iexists _; iexact H25
  isplitl [H26]
  · iexists _; iexact H26
  isplitl [H27]
  · iexists _; iexact H27
  isplitl [H28]
  · iexists _; iexact H28
  isplitl [H29]
  · iexists _; isplitr; swap; (iexact H29); ipureintro
    dsimp only [bzC.sl.H29_2]
    rw [View.read_writes_full]
    unfold bzC.sl.r_61 bzC.sl.v747 bzC.sl.H29_1
    rw [View.readCov_full]
    unfold bzC.sl.r_55 bzC.sl.r_43
    rw [View.readAt_full]
    rfl
  isplitl [H30]
  · iexists _; iexact H30
  isplitl [H31]
  · iexists _; iexact H31
  iexists _; iexact H32

end Cert.Kernel20Ideal.Own

end
-- ==== Proof.BzFrame.lean ====
module

public import proofs.«01_k».proof.Proof.BzA
public import proofs.«01_k».proof.Proof.BzB
public import proofs.«01_k».proof.Proof.BzC
public import Idealize.ShloMosaic.Lib.Claim

@[expose] public section

set_option maxRecDepth 16384

noncomputable section

namespace Cert.Kernel20Ideal.Own

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the sum over the chunks holds after the point at a position. -/
def sumAt (c : Dev nD) : (n : ℕ) → n < cfg0.N → Vec F S128x256 .f32
  | 0, hn => step (iblk m c 0 ⟨0, hn⟩) (iblk m c 1 ⟨0, hn⟩) (k0_pay15 (F := F))
  | n + 1, hn => step (iblk m c 0 ⟨n + 1, hn⟩) (iblk m c 1 ⟨n + 1, hn⟩) (sumAt c n (Nat.lt_of_succ_lt hn))

/-- At the first point it starts from zero. -/
theorem sum_first (c : Dev nD) (t : Fin cfg0.N) (h : t.val % 32 = 0) :
    step (iblk m c 0 t) (iblk m c 1 t) (k0_pay15 (F := F)) = sumAt m c t.val t.isLt := by
  have hN : t.val < 32 := lt_of_lt_of_eq t.isLt (show cfg0.N = 32 from N_0)
  obtain ⟨n, hn⟩ := t
  cases n with
  | zero => exact rfl
  | succ n => dsimp only at h hN; omega

/-- At any other it goes on from what the point before left. -/
theorem sum_next (c : Dev nD) (t : Fin cfg0.N) (h : ¬t.val % 32 = 0) :
    step (iblk m c 0 t) (iblk m c 1 t) (sumAt m c (t.val - 1) (Nat.lt_of_le_of_lt (Nat.sub_le _ _) t.isLt)) = sumAt m c t.val t.isLt := by
  obtain ⟨n, hn⟩ := t
  cases n with
  | zero => exact absurd (Nat.zero_mod _) h
  | succ n => exact rfl

/-- The results nothing is said of here: all but the last. -/
def free : Fin 30 → Bool := fun w => decide (19 ≤ w.val ∧ w.val < 29)

/-- The proof data: every input's buffer holds its block throughout, the results' contents stay unnamed, and the scratch
    buffers are at anything before every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Dat.unnamed (cfg := cfg0) ⟨19, h⟩ t
    | ⟨20, h⟩ => Dat.unnamed (cfg := cfg0) ⟨20, h⟩ t
    | ⟨21, h⟩ => Dat.unnamed (cfg := cfg0) ⟨21, h⟩ t
    | ⟨22, h⟩ => Dat.unnamed (cfg := cfg0) ⟨22, h⟩ t
    | ⟨23, h⟩ => Dat.unnamed (cfg := cfg0) ⟨23, h⟩ t
    | ⟨24, h⟩ => Dat.unnamed (cfg := cfg0) ⟨24, h⟩ t
    | ⟨25, h⟩ => Dat.unnamed (cfg := cfg0) ⟨25, h⟩ t
    | ⟨26, h⟩ => Dat.unnamed (cfg := cfg0) ⟨26, h⟩ t
    | ⟨27, h⟩ => Dat.unnamed (cfg := cfg0) ⟨27, h⟩ t
    | ⟨28, h⟩ => Dat.unnamed (cfg := cfg0) ⟨28, h⟩ t
    | ⟨29, _⟩ => sumAt m c t.val t.isLt
    | ⟨_ + 30, h⟩ => absurd h (Nat.not_lt.2 (Nat.le_add_left _ _))
  Φ _ := Pipeline.ΦA spec0 c
  q w := Pipeline.shareOf spec0 w
  owed _ := 0

/-- The arrays are what the region finds. -/
theorem entry (c : Dev nD) (w : Fin cfg0.W) : (dats m 0 c).A w = V m c (Pipeline.arrRef spec0 w) := by
  dsimp only [dats]

/-- Input 0's buffer holds its block when the body runs. -/
theorem found0 (c : Dev nD) (t : Fin cfg0.N) (d) : (dats m 0 c).before 0 t d = (dats m 0 c).after 0 t :=
  before0_0_of m (dats m 0 c) (entry m c 0) (fun _ => by dsimp only [dats]) t d
/-- Input 1's buffer holds its block when the body runs. -/
theorem found1 (c : Dev nD) (t : Fin cfg0.N) (d) : (dats m 0 c).before 1 t d = (dats m 0 c).after 1 t :=
  before0_1_of m (dats m 0 c) (entry m c 1) (fun _ => by dsimp only [dats]) t d
/-- Input 2's buffer holds its block when the body runs. -/
theorem found2 (c : Dev nD) (t : Fin cfg0.N) (d) : (dats m 0 c).before 2 t d = (dats m 0 c).after 2 t :=
  before0_2_of m (dats m 0 c) (entry m c 2) (fun _ => by dsimp only [dats]) t d
/-- Input 3's buffer holds its block when the body runs. -/
theorem found3 (c : Dev nD) (t : Fin cfg0.N) (d) : (dats m 0 c).before 3 t d = (dats m 0 c).after 3 t :=
  before0_3_of m (dats m 0 c) (entry m c 3) (fun _ => by dsimp only [dats]) t d
/-- Input 4's buffer holds its block when the body runs. -/
theorem found4 (c : Dev nD) (t : Fin cfg0.N) (d) : (dats m 0 c).before 4 t d = (dats m 0 c).after 4 t :=
  before0_4_of m (dats m 0 c) (entry m c 4) (fun _ => by dsimp only [dats]) t d
/-- Input 5's buffer holds its block when the body runs. -/
theorem found5 (c : Dev nD) (t : Fin cfg0.N) (d) : (dats m 0 c).before 5 t d = (dats m 0 c).after 5 t :=
  before0_5_of m (dats m 0 c) (entry m c 5) (fun _ => by dsimp only [dats]) t d
/-- Input 6's buffer holds its block when the body runs. -/
theorem found6 (c : Dev nD) (t : Fin cfg0.N) (d) : (dats m 0 c).before 6 t d = (dats m 0 c).after 6 t :=
  before0_6_of m (dats m 0 c) (entry m c 6) (fun _ => by dsimp only [dats]) t d
/-- Input 7's buffer holds its block when the body runs. -/
theorem found7 (c : Dev nD) (t : Fin cfg0.N) (d) : (dats m 0 c).before 7 t d = (dats m 0 c).after 7 t :=
  before0_7_of m (dats m 0 c) (entry m c 7) (fun _ => by dsimp only [dats]) t d
/-- Input 8's buffer holds its block when the body runs. -/
theorem found8 (c : Dev nD) (t : Fin cfg0.N) (d) : (dats m 0 c).before 8 t d = (dats m 0 c).after 8 t :=
  before0_8_of m (dats m 0 c) (entry m c 8) (fun _ => by dsimp only [dats]) t d
/-- Input 9's buffer holds its block when the body runs. -/
theorem found9 (c : Dev nD) (t : Fin cfg0.N) (d) : (dats m 0 c).before 9 t d = (dats m 0 c).after 9 t :=
  before0_9_of m (dats m 0 c) (entry m c 9) (fun _ => by dsimp only [dats]) t d
/-- Input 10's buffer holds its block when the body runs. -/
theorem found10 (c : Dev nD) (t : Fin cfg0.N) (d) : (dats m 0 c).before 10 t d = (dats m 0 c).after 10 t :=
  before0_10_of m (dats m 0 c) (entry m c 10) (fun _ => by dsimp only [dats]) t d
/-- Input 11's buffer holds its block when the body runs. -/
theorem found11 (c : Dev nD) (t : Fin cfg0.N) (d) : (dats m 0 c).before 11 t d = (dats m 0 c).after 11 t :=
  before0_11_of m (dats m 0 c) (entry m c 11) (fun _ => by dsimp only [dats]) t d
/-- Input 12's buffer holds its block when the body runs. -/
theorem found12 (c : Dev nD) (t : Fin cfg0.N) (d) : (dats m 0 c).before 12 t d = (dats m 0 c).after 12 t :=
  before0_12_of m (dats m 0 c) (entry m c 12) (fun _ => by dsimp only [dats]) t d
/-- Input 13's buffer holds its block when the body runs. -/
theorem found13 (c : Dev nD) (t : Fin cfg0.N) (d) : (dats m 0 c).before 13 t d = (dats m 0 c).after 13 t :=
  before0_13_of m (dats m 0 c) (entry m c 13) (fun _ => by dsimp only [dats]) t d
/-- Input 14's buffer holds its block when the body runs. -/
theorem found14 (c : Dev nD) (t : Fin cfg0.N) (d) : (dats m 0 c).before 14 t d = (dats m 0 c).after 14 t :=
  before0_14_of m (dats m 0 c) (entry m c 14) (fun _ => by dsimp only [dats]) t d
/-- Input 15's buffer holds its block when the body runs. -/
theorem found15 (c : Dev nD) (t : Fin cfg0.N) (d) : (dats m 0 c).before 15 t d = (dats m 0 c).after 15 t :=
  before0_15_of m (dats m 0 c) (entry m c 15) (fun _ => by dsimp only [dats]) t d
/-- Input 16's buffer holds its block when the body runs. -/
theorem found16 (c : Dev nD) (t : Fin cfg0.N) (d) : (dats m 0 c).before 16 t d = (dats m 0 c).after 16 t :=
  before0_16_of m (dats m 0 c) (entry m c 16) (fun _ => by dsimp only [dats]) t d
/-- Input 17's buffer holds its block when the body runs. -/
theorem found17 (c : Dev nD) (t : Fin cfg0.N) (d) : (dats m 0 c).before 17 t d = (dats m 0 c).after 17 t :=
  before0_17_of m (dats m 0 c) (entry m c 17) (fun _ => by dsimp only [dats]) t d
/-- Input 18's buffer holds its block when the body runs. -/
theorem found18 (c : Dev nD) (t : Fin cfg0.N) (d) : (dats m 0 c).before 18 t d = (dats m 0 c).after 18 t :=
  before0_18_of m (dats m 0 c) (entry m c 18) (fun _ => by dsimp only [dats]) t d

/-- What the body leaves of the sum over the chunks. -/
theorem after29 (c : Dev nD) (t : Fin cfg0.N) : (dats m 0 c).after 29 t = sumAt m c t.val t.isLt := by dsimp only [dats]
/-- After the first point the sum's buffer holds what the point before left. -/
theorem found29 (c : Dev nD) (t : Fin cfg0.N) (h0 : ¬t.val % 32 = 0) (d) :
    (dats m 0 c).before 29 t d = sumAt m c (t.val - 1) (Nat.lt_of_le_of_lt (Nat.sub_le _ _) t.isLt) := by
  have hN : t.val < 32 := lt_of_lt_of_eq t.isLt (show cfg0.N = 32 from N_0)
  rw [Dat.before_out_kept _ 29 rfl t (by omega) (Bool.eq_false_iff.mpr fun h => by have := (flush0_29 _).mp h; dsimp only at this; omega)
    (fun _ => rfl) (fun _ _ => rfl)]
  dsimp only [dats]

set_option maxHeartbeats 2000000 in
/-- A body that keeps its nineteen inputs and fills its other buffers with something, restated over what the buffers read. -/
theorem kept_inputs (c : Dev nD) (arg1 : Memref sig .tc .vmem S256x1024 .f32) (arg2 : Memref sig .tc .vmem S256x1792 .f32) (arg3 : Memref sig .tc .vmem S16x512 .f32) (arg4 : Memref sig .tc .vmem S16x256 .f32) (arg5 : Memref sig .tc .vmem S256x512 .f32) (arg6 : Memref sig .tc .vmem S16x512 .f32) (arg7 : Memref sig .tc .vmem S4x512 .f32) (arg8 : Memref sig .tc .vmem S1x512 .f32) (arg9 : Memref sig .tc .vmem S512x1024 .bf16) (arg10 : Memref sig .tc .vmem S1024x512 .bf16) (arg11 : Memref sig .tc .vmem S1x1024 .f32) (arg12 : Memref sig .tc .vmem S1x512 .f32) (arg13 : Memref sig .tc .vmem S256x256 .bf16) (arg14 : Memref sig .tc .vmem S256x256 .bf16) (arg15 : Memref sig .tc .vmem S1x256 .f32) (arg16 : Memref sig .tc .vmem S1x256 .f32) (arg17 : Memref sig .tc .vmem S4x128x128 .bf16) (arg18 : Memref sig .tc .vmem S4x128x128 .bf16) (arg19 : Memref sig .tc .vmem S128x256 .f32) (arg20 : Memref sig .tc .vmem S256x1792 .bf16) (arg21 : Memref sig .tc .vmem S4x512 .f32) (arg22 : Memref sig .tc .vmem S1x512 .f32) (arg23 : Memref sig .tc .vmem S512x1024 .f32) (arg24 : Memref sig .tc .vmem S1x1024 .f32) (arg25 : Memref sig .tc .vmem S1x512 .f32) (arg26 : Memref sig .tc .vmem S256x256 .f32) (arg27 : Memref sig .tc .vmem S1x256 .f32) (arg28 : Memref sig .tc .vmem S1x256 .f32) (arg29 : Memref sig .tc .vmem S4x128x128 .f32) (arg30 : Memref sig .tc .vmem S128x256 .f32) (arg31 : Memref sig .tc .vmem S8x512 .f32) (arg32 : Memref sig .tc .vmem S16x512 .f32) (arg33 : Memref sig .tc .vmem S16x256 .f32) (body : (PUnit → sProp 𝕄) → sProp 𝕄)
    (G : Vec F S256x1024 .f32 → Vec F S256x1792 .f32 → Vec F S128x256 .f32 → Vec F S128x256 .f32)
    (hrun : ∀ (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) (f7 : arg8.view.ty.Contents (Elt F)) (f8 : arg9.view.ty.Contents (Elt F)) (f9 : arg10.view.ty.Contents (Elt F)) (f10 : arg11.view.ty.Contents (Elt F)) (f11 : arg12.view.ty.Contents (Elt F)) (f12 : arg13.view.ty.Contents (Elt F)) (f13 : arg14.view.ty.Contents (Elt F)) (f14 : arg15.view.ty.Contents (Elt F)) (f15 : arg16.view.ty.Contents (Elt F)) (f16 : arg17.view.ty.Contents (Elt F)) (f17 : arg18.view.ty.Contents (Elt F)) (f18 : arg19.view.ty.Contents (Elt F)) (f29 : arg30.view.ty.Contents (Elt F)) (K : PUnit → sProp 𝕄), iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (arg30.view.loc (c : Thread nD τ) ↦[arg30.view.set]{fullShare} f29) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (iprop((arg1.view.loc (c : Thread nD τ) ↦[arg1.view.set]{fullShare} f0) ∗ (arg2.view.loc (c : Thread nD τ) ↦[arg2.view.set]{fullShare} f1) ∗ (arg3.view.loc (c : Thread nD τ) ↦[arg3.view.set]{fullShare} f2) ∗ (arg4.view.loc (c : Thread nD τ) ↦[arg4.view.set]{fullShare} f3) ∗ (arg5.view.loc (c : Thread nD τ) ↦[arg5.view.set]{fullShare} f4) ∗ (arg6.view.loc (c : Thread nD τ) ↦[arg6.view.set]{fullShare} f5) ∗ (arg7.view.loc (c : Thread nD τ) ↦[arg7.view.set]{fullShare} f6) ∗ (arg8.view.loc (c : Thread nD τ) ↦[arg8.view.set]{fullShare} f7) ∗ (arg9.view.loc (c : Thread nD τ) ↦[arg9.view.set]{fullShare} f8) ∗ (arg10.view.loc (c : Thread nD τ) ↦[arg10.view.set]{fullShare} f9) ∗ (arg11.view.loc (c : Thread nD τ) ↦[arg11.view.set]{fullShare} f10) ∗ (arg12.view.loc (c : Thread nD τ) ↦[arg12.view.set]{fullShare} f11) ∗ (arg13.view.loc (c : Thread nD τ) ↦[arg13.view.set]{fullShare} f12) ∗ (arg14.view.loc (c : Thread nD τ) ↦[arg14.view.set]{fullShare} f13) ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, ⌜arg30.view.read (Elt F) f = G (arg1.view.read (Elt F) f0) (arg2.view.read (Elt F) f1) (arg30.view.read (Elt F) f29)⌝ ∗ (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f))) -∗ K ⟨⟩)) ⊢ body K)
    {D0 : Type} {b0 : D0 → Vec F S256x1024 .f32} {X0 : Vec F S256x1024 .f32} (e0 : ∀ d, b0 d = X0) {D1 : Type} {b1 : D1 → Vec F S256x1792 .f32} {X1 : Vec F S256x1792 .f32} (e1 : ∀ d, b1 d = X1) {D2 : Type} {b2 : D2 → Vec F S16x512 .f32} {X2 : Vec F S16x512 .f32} (e2 : ∀ d, b2 d = X2) {D3 : Type} {b3 : D3 → Vec F S16x256 .f32} {X3 : Vec F S16x256 .f32} (e3 : ∀ d, b3 d = X3) {D4 : Type} {b4 : D4 → Vec F S256x512 .f32} {X4 : Vec F S256x512 .f32} (e4 : ∀ d, b4 d = X4) {D5 : Type} {b5 : D5 → Vec F S16x512 .f32} {X5 : Vec F S16x512 .f32} (e5 : ∀ d, b5 d = X5) {D6 : Type} {b6 : D6 → Vec F S4x512 .f32} {X6 : Vec F S4x512 .f32} (e6 : ∀ d, b6 d = X6) {D7 : Type} {b7 : D7 → Vec F S1x512 .f32} {X7 : Vec F S1x512 .f32} (e7 : ∀ d, b7 d = X7) {D8 : Type} {b8 : D8 → Vec F S512x1024 .bf16} {X8 : Vec F S512x1024 .bf16} (e8 : ∀ d, b8 d = X8) {D9 : Type} {b9 : D9 → Vec F S1024x512 .bf16} {X9 : Vec F S1024x512 .bf16} (e9 : ∀ d, b9 d = X9) {D10 : Type} {b10 : D10 → Vec F S1x1024 .f32} {X10 : Vec F S1x1024 .f32} (e10 : ∀ d, b10 d = X10) {D11 : Type} {b11 : D11 → Vec F S1x512 .f32} {X11 : Vec F S1x512 .f32} (e11 : ∀ d, b11 d = X11) {D12 : Type} {b12 : D12 → Vec F S256x256 .bf16} {X12 : Vec F S256x256 .bf16} (e12 : ∀ d, b12 d = X12) {D13 : Type} {b13 : D13 → Vec F S256x256 .bf16} {X13 : Vec F S256x256 .bf16} (e13 : ∀ d, b13 d = X13) {D14 : Type} {b14 : D14 → Vec F S1x256 .f32} {X14 : Vec F S1x256 .f32} (e14 : ∀ d, b14 d = X14) {D15 : Type} {b15 : D15 → Vec F S1x256 .f32} {X15 : Vec F S1x256 .f32} (e15 : ∀ d, b15 d = X15) {D16 : Type} {b16 : D16 → Vec F S4x128x128 .bf16} {X16 : Vec F S4x128x128 .bf16} (e16 : ∀ d, b16 d = X16) {D17 : Type} {b17 : D17 → Vec F S4x128x128 .bf16} {X17 : Vec F S4x128x128 .bf16} (e17 : ∀ d, b17 d = X17) {D18 : Type} {b18 : D18 → Vec F S128x256 .f32} {X18 : Vec F S128x256 .f32} (e18 : ∀ d, b18 d = X18) {D29 : Type} {b29 : D29 → Vec F S128x256 .f32} {Y29 : Vec F S128x256 .f32} (e29 : ∀ d, G X0 X1 (b29 d) = Y29) (P R Q : sProp 𝕄) (hP : P = iprop(iprop((∃ d, owns (c : Thread nD τ) arg31 fullShare d) ∗ (∃ d, owns (c : Thread nD τ) arg32 fullShare d) ∗ (∃ d, owns (c : Thread nD τ) arg33 fullShare d)) ∗ R)) :
    iprop(P ∗ Q ∗ (∃ d, owns (c : Thread nD τ) arg1 fullShare (b0 d))
    ∗ (∃ d, owns (c : Thread nD τ) arg2 fullShare (b1 d))
    ∗ (∃ d, owns (c : Thread nD τ) arg3 fullShare (b2 d))
    ∗ (∃ d, owns (c : Thread nD τ) arg4 fullShare (b3 d))
    ∗ (∃ d, owns (c : Thread nD τ) arg5 fullShare (b4 d))
    ∗ (∃ d, owns (c : Thread nD τ) arg6 fullShare (b5 d))
    ∗ (∃ d, owns (c : Thread nD τ) arg7 fullShare (b6 d))
    ∗ (∃ d, owns (c : Thread nD τ) arg8 fullShare (b7 d))
    ∗ (∃ d, owns (c : Thread nD τ) arg9 fullShare (b8 d))
    ∗ (∃ d, owns (c : Thread nD τ) arg10 fullShare (b9 d))
    ∗ (∃ d, owns (c : Thread nD τ) arg11 fullShare (b10 d))
    ∗ (∃ d, owns (c : Thread nD τ) arg12 fullShare (b11 d))
    ∗ (∃ d, owns (c : Thread nD τ) arg13 fullShare (b12 d))
    ∗ (∃ d, owns (c : Thread nD τ) arg14 fullShare (b13 d))
    ∗ (∃ d, owns (c : Thread nD τ) arg15 fullShare (b14 d))
    ∗ (∃ d, owns (c : Thread nD τ) arg16 fullShare (b15 d))
    ∗ (∃ d, owns (c : Thread nD τ) arg17 fullShare (b16 d))
    ∗ (∃ d, owns (c : Thread nD τ) arg18 fullShare (b17 d))
    ∗ (∃ d, owns (c : Thread nD τ) arg19 fullShare (b18 d))
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ (∃ d, owns (c : Thread nD τ) arg30 fullShare (b29 d))) ⊢ body (fun _ => iprop(P ∗ Q ∗ owns (c : Thread nD τ) arg1 fullShare X0
    ∗ owns (c : Thread nD τ) arg2 fullShare X1
    ∗ owns (c : Thread nD τ) arg3 fullShare X2
    ∗ owns (c : Thread nD τ) arg4 fullShare X3
    ∗ owns (c : Thread nD τ) arg5 fullShare X4
    ∗ owns (c : Thread nD τ) arg6 fullShare X5
    ∗ owns (c : Thread nD τ) arg7 fullShare X6
    ∗ owns (c : Thread nD τ) arg8 fullShare X7
    ∗ owns (c : Thread nD τ) arg9 fullShare X8
    ∗ owns (c : Thread nD τ) arg10 fullShare X9
    ∗ owns (c : Thread nD τ) arg11 fullShare X10
    ∗ owns (c : Thread nD τ) arg12 fullShare X11
    ∗ owns (c : Thread nD τ) arg13 fullShare X12
    ∗ owns (c : Thread nD τ) arg14 fullShare X13
    ∗ owns (c : Thread nD τ) arg15 fullShare X14
    ∗ owns (c : Thread nD τ) arg16 fullShare X15
    ∗ owns (c : Thread nD τ) arg17 fullShare X16
    ∗ owns (c : Thread nD τ) arg18 fullShare X17
    ∗ owns (c : Thread nD τ) arg19 fullShare X18
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d)
    ∗ (∃ d, owns (c : Thread nD τ) arg26 fullShare d)
    ∗ (∃ d, owns (c : Thread nD τ) arg27 fullShare d)
    ∗ (∃ d, owns (c : Thread nD τ) arg28 fullShare d)
    ∗ (∃ d, owns (c : Thread nD τ) arg29 fullShare d)
    ∗ owns (c : Thread nD τ) arg30 fullShare Y29)) := by
  subst hP
  unfold owns
  iintro ⟨⟨⟨⟨%d30, %g30, %h30, HS0⟩, ⟨%d31, %g31, %h31, HS1⟩, ⟨%d32, %g32, %h32, HS2⟩⟩, Hg⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%d9, %g9, %h9, H9⟩, ⟨%d10, %g10, %h10, H10⟩, ⟨%d11, %g11, %h11, H11⟩, ⟨%d12, %g12, %h12, H12⟩, ⟨%d13, %g13, %h13, H13⟩, ⟨%d14, %g14, %h14, H14⟩, ⟨%d15, %g15, %h15, H15⟩, ⟨%d16, %g16, %h16, H16⟩, ⟨%d17, %g17, %h17, H17⟩, ⟨%d18, %g18, %h18, H18⟩, ⟨%d19, %g19, %h19, H19⟩, ⟨%d20, %g20, %h20, H20⟩, ⟨%d21, %g21, %h21, H21⟩, ⟨%d22, %g22, %h22, H22⟩, ⟨%d23, %g23, %h23, H23⟩, ⟨%d24, %g24, %h24, H24⟩, ⟨%d25, %g25, %h25, H25⟩, ⟨%d26, %g26, %h26, H26⟩, ⟨%d27, %g27, %h27, H27⟩, ⟨%d28, %g28, %h28, H28⟩, ⟨%d29, %g29, %h29, H29⟩⟩
  iapply (hrun g0 g1 g2 g3 g4 g5 g6 g7 g8 g9 g10 g11 g12 g13 g14 g15 g16 g17 g18 g29 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexact H29
  isplitl [HS0]; · iexists _; iexact HS0
  isplitl [HS1]; · iexists _; iexact HS1
  isplitl [HS2]; · iexists _; iexact HS2
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%k29, %q29, H29⟩, ⟨%e30, HS0⟩, ⟨%e31, HS1⟩, ⟨%e32, HS2⟩⟩
  isplitl [HS0 HS1 HS2 Hg]
  · isplitl [HS0 HS1 HS2]
    · isplitl [HS0]; · iexists _; iexists _; isplitr; swap; (iexact HS0); ipureintro; rfl
      isplitl [HS1]; · iexists _; iexists _; isplitr; swap; (iexact HS1); ipureintro; rfl
      iexists _; iexists _; isplitr; swap; (iexact HS2); ipureintro; rfl
    iexact Hg
  isplitl [Ho]; · iexact Ho
  isplitl [H0]; · iexists _; isplitr; swap; (iexact H0); ipureintro; exact h0.trans (e0 d0)
  isplitl [H1]; · iexists _; isplitr; swap; (iexact H1); ipureintro; exact h1.trans (e1 d1)
  isplitl [H2]; · iexists _; isplitr; swap; (iexact H2); ipureintro; exact h2.trans (e2 d2)
  isplitl [H3]; · iexists _; isplitr; swap; (iexact H3); ipureintro; exact h3.trans (e3 d3)
  isplitl [H4]; · iexists _; isplitr; swap; (iexact H4); ipureintro; exact h4.trans (e4 d4)
  isplitl [H5]; · iexists _; isplitr; swap; (iexact H5); ipureintro; exact h5.trans (e5 d5)
  isplitl [H6]; · iexists _; isplitr; swap; (iexact H6); ipureintro; exact h6.trans (e6 d6)
  isplitl [H7]; · iexists _; isplitr; swap; (iexact H7); ipureintro; exact h7.trans (e7 d7)
  isplitl [H8]; · iexists _; isplitr; swap; (iexact H8); ipureintro; exact h8.trans (e8 d8)
  isplitl [H9]; · iexists _; isplitr; swap; (iexact H9); ipureintro; exact h9.trans (e9 d9)
  isplitl [H10]; · iexists _; isplitr; swap; (iexact H10); ipureintro; exact h10.trans (e10 d10)
  isplitl [H11]; · iexists _; isplitr; swap; (iexact H11); ipureintro; exact h11.trans (e11 d11)
  isplitl [H12]; · iexists _; isplitr; swap; (iexact H12); ipureintro; exact h12.trans (e12 d12)
  isplitl [H13]; · iexists _; isplitr; swap; (iexact H13); ipureintro; exact h13.trans (e13 d13)
  isplitl [H14]; · iexists _; isplitr; swap; (iexact H14); ipureintro; exact h14.trans (e14 d14)
  isplitl [H15]; · iexists _; isplitr; swap; (iexact H15); ipureintro; exact h15.trans (e15 d15)
  isplitl [H16]; · iexists _; isplitr; swap; (iexact H16); ipureintro; exact h16.trans (e16 d16)
  isplitl [H17]; · iexists _; isplitr; swap; (iexact H17); ipureintro; exact h17.trans (e17 d17)
  isplitl [H18]; · iexists _; isplitr; swap; (iexact H18); ipureintro; exact h18.trans (e18 d18)
  isplitl [H19]; · iexists _; iexists _; isplitr; swap; (iexact H19); ipureintro; rfl
  isplitl [H20]; · iexists _; iexists _; isplitr; swap; (iexact H20); ipureintro; rfl
  isplitl [H21]; · iexists _; iexists _; isplitr; swap; (iexact H21); ipureintro; rfl
  isplitl [H22]; · iexists _; iexists _; isplitr; swap; (iexact H22); ipureintro; rfl
  isplitl [H23]; · iexists _; iexists _; isplitr; swap; (iexact H23); ipureintro; rfl
  isplitl [H24]; · iexists _; iexists _; isplitr; swap; (iexact H24); ipureintro; rfl
  isplitl [H25]; · iexists _; iexists _; isplitr; swap; (iexact H25); ipureintro; rfl
  isplitl [H26]; · iexists _; iexists _; isplitr; swap; (iexact H26); ipureintro; rfl
  isplitl [H27]; · iexists _; iexists _; isplitr; swap; (iexact H27); ipureintro; rfl
  isplitl [H28]; · iexists _; iexists _; isplitr; swap; (iexact H28); ipureintro; rfl
  iexists _; isplitr; swap; (iexact H29); ipureintro
  exact q29.trans (by rw [h0, h1, h29, e0, e1]; exact e29 d29)

/-- What the body is handed at a point. -/
def handed (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare ((dats m 0 c).before 29 t d)))

/-- What it hands back. -/
def back (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ owns (c : Thread nD τ) (ms0_29 t) fullShare ((dats m 0 c).after 29 t))

set_option maxHeartbeats 2000000 in
/-- The body at the first point, from that case's run. -/
theorem pointA (c : Dev nD) (t : Fin cfg0.N) (hc0 : cond0_0 (grid0.coords t)) (hc1 : ¬cond0_1 (grid0.coords t)) :
    handed m c t ⊢ wp frame (wpE (defs₀ (F := F)) Variants.none c none) Set.univ (bodyAt0 t) (fun _ => back m c t) := by
  exact kept_inputs c _ _ _ _ _ _ _ _ _ _ _ _ _ _ _ _ _ _ _ _ _ _ _ _ _ _ _ _ _ _ _ _ _ _ (fun x0 x1 _ => step x0 x1 (k0_pay15 (F := F))) (fun f0 f1 f2 f3 f4 f5 f6 f7 f8 f9 f10 f11 f12 f13 f14 f15 f16 f17 f18 f29 K =>
            bzA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 f0 f1 f2 f3 f4 f5 f6 f7 f8 f9 f10 f11 f12 f13 f14 f15 f16 f17 f18 f29 Set.univ K)
            (found0 m c t) (found1 m c t) (found2 m c t) (found3 m c t) (found4 m c t) (found5 m c t) (found6 m c t) (found7 m c t) (found8 m c t) (found9 m c t) (found10 m c t) (found11 m c t) (found12 m c t) (found13 m c t) (found14 m c t) (found15 m c t) (found16 m c t) (found17 m c t) (found18 m c t) (fun _ => (sum_first m c t ((hcond0_0 t).mp hc0)).trans (after29 m c t).symm) _ _ _ (PhiA0_eq c)

set_option maxHeartbeats 2000000 in
/-- The body at the last point, from that case's run. -/
theorem pointC (c : Dev nD) (t : Fin cfg0.N) (hc0 : ¬cond0_0 (grid0.coords t)) (hc1 : cond0_1 (grid0.coords t)) :
    handed m c t ⊢ wp frame (wpE (defs₀ (F := F)) Variants.none c none) Set.univ (bodyAt0 t) (fun _ => back m c t) := by
  exact kept_inputs c _ _ _ _ _ _ _ _ _ _ _ _ _ _ _ _ _ _ _ _ _ _ _ _ _ _ _ _ _ _ _ _ _ _ (fun x0 x1 a => step x0 x1 a) (fun f0 f1 f2 f3 f4 f5 f6 f7 f8 f9 f10 f11 f12 f13 f14 f15 f16 f17 f18 f29 K =>
            bzC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 f0 f1 f2 f3 f4 f5 f6 f7 f8 f9 f10 f11 f12 f13 f14 f15 f16 f17 f18 f29 Set.univ K)
            (found0 m c t) (found1 m c t) (found2 m c t) (found3 m c t) (found4 m c t) (found5 m c t) (found6 m c t) (found7 m c t) (found8 m c t) (found9 m c t) (found10 m c t) (found11 m c t) (found12 m c t) (found13 m c t) (found14 m c t) (found15 m c t) (found16 m c t) (found17 m c t) (found18 m c t) (fun d => ((congrArg (step (iblk m c 0 t) (iblk m c 1 t)) (found29 m c t (fun h => hc0 ((hcond0_0 t).mpr h)) d)).trans (sum_next m c t (fun h => hc0 ((hcond0_0 t).mpr h)))).trans (after29 m c t).symm) _ _ _ (PhiA0_eq c)

set_option maxHeartbeats 2000000 in
/-- The body at any point between, from that case's run. -/
theorem pointB (c : Dev nD) (t : Fin cfg0.N) (hc0 : ¬cond0_0 (grid0.coords t)) (hc1 : ¬cond0_1 (grid0.coords t)) :
    handed m c t ⊢ wp frame (wpE (defs₀ (F := F)) Variants.none c none) Set.univ (bodyAt0 t) (fun _ => back m c t) := by
  exact kept_inputs c _ _ _ _ _ _ _ _ _ _ _ _ _ _ _ _ _ _ _ _ _ _ _ _ _ _ _ _ _ _ _ _ _ _ (fun x0 x1 a => step x0 x1 a) (fun f0 f1 f2 f3 f4 f5 f6 f7 f8 f9 f10 f11 f12 f13 f14 f15 f16 f17 f18 f29 K =>
            bzB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc0 hc1 f0 f1 f2 f3 f4 f5 f6 f7 f8 f9 f10 f11 f12 f13 f14 f15 f16 f17 f18 f29 Set.univ K)
            (found0 m c t) (found1 m c t) (found2 m c t) (found3 m c t) (found4 m c t) (found5 m c t) (found6 m c t) (found7 m c t) (found8 m c t) (found9 m c t) (found10 m c t) (found11 m c t) (found12 m c t) (found13 m c t) (found14 m c t) (found15 m c t) (found16 m c t) (found17 m c t) (found18 m c t) (fun d => ((congrArg (step (iblk m c 0 t) (iblk m c 1 t)) (found29 m c t (fun h => hc0 ((hcond0_0 t).mpr h)) d)).trans (sum_next m c t (fun h => hc0 ((hcond0_0 t).mpr h)))).trans (after29 m c t).symm) _ _ _ (PhiA0_eq c)

/-- The body at any point. -/
theorem point (c : Dev nD) (t : Fin cfg0.N) :
    handed m c t ⊢ wp frame (wpE (defs₀ (F := F)) Variants.none c none) Set.univ (bodyAt0 t) (fun _ => back m c t) := by
  have hN : t.val < 32 := lt_of_lt_of_eq t.isLt (show cfg0.N = 32 from N_0)
  by_cases hc0 : cond0_0 (grid0.coords t)
  · exact pointA m c t hc0 fun h => by
      have h0 := (hcond0_0 t).mp hc0
      have h1 := (hcond0_1 t).mp h
      omega
  · by_cases hc1 : cond0_1 (grid0.coords t)
    · exact pointC m c t hc0 hc1
    · exact pointB m c t hc0 hc1

/-- The body table's row at a point is the body there. -/
theorem row (t : Fin cfg0.N) : defs₀ (F := F) .tc cfg0.body (cfg0.bodyArgs t (cfg0.slots t)) = bodyAt0 t := by
  unfold defs₀; rw [Defs.onTc_tc]

set_option maxHeartbeats 2000000 in
/-- The same as the pipeline asks for it. -/
theorem every_point (c : Dev nD) : BodyObligation (dats (F := F) m 0 c) (defs₀ (F := F)) Variants.none () Set.univ free := fun t => by
  rw [bigSep_W0, bigSep_W0, row]
  exact triple_restated (point m c t) rfl .rfl fun _ => .rfl

-- the launch theorem's implicit arguments are found by unifying its conclusion with this one
set_option backward.isDefEq.respectTransparency.types false in
/-- The whole program ends, with every semaphore at zero, each input array as the region found it, and every buffer outside the pipeline too. -/
theorem run_ends : θ_run defs (onTc (τ := τ) (main (F := F))) (s₀ m ρ)
    (fun r => (Pipeline.RDat.FramePost (cfgs 0) (fun c => (dats m 0 c).toRForget free) (V m)) r ∧ r.2.sem = fun _ => 0) :=
  Pipeline.θ_run_frame_track_forget_shared (Q' := _) cfgs (dats m) (0 : Fin 1) launch₀0 defs₀ Variants.none free m ρ main
    (hbody := fun c => (every_point m c).loose) (hq := fun _ _ _ => rfl)
    (howed := fun _ _ => rfl) (V := V m) (hmain := hmain m Variants.none) (hA := entry m) (hin := fun _ => .rfl) (hout := fun _ => .rfl)

set_option maxHeartbeats 1800000 in
/-- The argument arrays end unchanged. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h.1 c 0 rfl).trans ((entry m c 0).trans (V_main_arg0 m c)),
      (Pipeline.RDat.FramePost.arr_in h.1 c 3 rfl).trans ((entry m c 3).trans (V_main_arg1 m c)),
      (Pipeline.RDat.FramePost.arr_in h.1 c 5 rfl).trans ((entry m c 5).trans (V_main_arg2 m c)),
      (Pipeline.RDat.FramePost.arr_in h.1 c 6 rfl).trans ((entry m c 6).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩) (run_ends m ρ)

/-- The kernel's frame: it ends, its arguments are unchanged and its semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (kept m ρ) ((θ_run defs _ _).mono (fun _ h => h.2) (run_ends m ρ))

/-- With the last result's array at what the points wrote to it. -/
theorem result : θ_run defs (onTc (τ := τ) (main (F := F))) ⟨m, fun _ => 0, ρ⟩ (fun r => (∀ c : Dev nD,
      r.2.mem ((c.tc : Thread nD τ).loc main_v61_10) = (dats m 0 c).arrAt 29 cfg0.N)) :=
  (θ_run defs _ _).mono (fun _ h c => (Pipeline.Dat.toRForget_arrAt_iff (dat := dats m 0 c) (fgt := free) (w := 29) rfl _ _).mp ((h.1 c).1 29)) (run_ends m ρ)

end Cert.Kernel20Ideal.Own

end
-- ==== Proof.BzAlg.lean ====
/- The gradient of the spatial unit's bias (`_mix_bwd`): what a point adds at one entry, and the plain value as a sum over the chunks. -/
module

public import proofs.«01_k».proof.Proof.BzStep
public import proofs.«01_k».proof.Proof.Gen.Reference20Ideal.Read
public import Idealize.ShloMosaic.Lib.Pipeline.ValueKit

@[expose] public section

set_option maxRecDepth 65536

noncomputable section

open Idealize.ShloMosaic Idealize.ShloMosaic.TcCoe Idealize.SL.Sem
open scoped BigOperators

namespace Cert.Kernel20Ideal.Own

open Cert.Kernel20Ideal Cert.Kernel20Ideal.Gen

/-- The half of one plus the tanh. -/
def gate (u : EReal) : EReal := Ideal.ofBits .f32 0x3F000000#32 * (Ideal.ofBits .f32 0x3F800000#32
  + Ideal.tanh (Ideal.ofBits .f32 0x3F4C422A#32 * (u + Ideal.ofBits .f32 0x3D372713#32 * (u * u * u))))

/-- The gradient that reaches an entry of the mixed rows. -/
def term (d u : EReal) : EReal := u * gate u * d

/-- The gate as the body computes it. -/
theorem gelu_at (v : Vec Ideal S256x256 .f32) (i k : Fin 256) : k0_pay100 v (ix2 i k) = v (ix2 i k) * gate (v (ix2 i k)) := by
  unfold gate
  rw [← mul_assoc, mul_comm (v (ix2 i k)) (Ideal.ofBits .f32 0x3F000000#32)]
  pointwise [k0_pay100, k0_pay99, k0_pay98]

/-- The body's gradient at an entry. -/
theorem dz_at (x0 : Vec Ideal S256x1024 .f32) (x1 : Vec Ideal S256x1792 .f32) (i k : Fin 256) :
    dz x0 x1 (ix2 i k) = term (x0 (ix2 i ⟨768 + k.val, by omega⟩)) (x1 (ix2 i ⟨1280 + k.val, by omega⟩)) := by
  unfold term
  rw [mul_comm]
  unfold dz
  have h : ∀ (a : FVec Ideal S256x256 .f32) (b : Vec Ideal S256x256 .f32), k0_pay119 a b (ix2 i k) = b (ix2 i k) * a (ix2 i k) := fun a b => by
    pointwise [k0_pay119]
  rw [h, gelu_at]
  refine congrArg₂ (· * ·) ?_ ?_
  · refine congrArg x0 ?_
    funext a
    match a with
    | ⟨0, _⟩ => exact Fin.ext (by show 0 + 1 * i.val = i.val; omega)
    | ⟨1, _⟩ => exact Fin.ext (by show 768 + 1 * k.val = 768 + k.val; omega)
  · refine congrArg (fun u : EReal => u * gate u) (congrArg x1 ?_)
    funext a
    match a with
    | ⟨0, _⟩ => exact Fin.ext (by show 0 + 1 * i.val = i.val; omega)
    | ⟨1, _⟩ => exact Fin.ext (by show 1280 + 1 * k.val = 1280 + k.val; omega)

/-- What a point adds. -/
theorem step_at (x0 : Vec Ideal S256x1024 .f32) (x1 : Vec Ideal S256x1792 .f32) (a : Vec Ideal S128x256 .f32) (r : Fin 128) (k : Fin 256) :
    step x0 x1 a (ix2 r k) = a (ix2 r k) + dz x0 x1 (ix2 ⟨r.val, by omega⟩ k) + dz x0 x1 (ix2 ⟨128 + r.val, by omega⟩ k) := by
  unfold step
  generalize dz x0 x1 = z
  pointwise [k0_pay132, k0_pay124]

/-- Zero. -/
theorem zero_at (r : Fin 128) (k : Fin 256) : (k0_pay15 (F := Ideal)) (ix2 r k) = 0 := by
  pointwise [k0_pay15]

open Cert.Reference20Ideal.Read

/-- The plain gradient at an entry of the mixed rows. -/
theorem ref_entry (x0 : FVec Ideal Cert.Reference20Ideal.S8192x1024 .f32) (x1 : FVec Ideal Cert.Reference20Ideal.S8192x1792 .f32) (i : Fin 8192) (k : Fin 256) :
    val_main_v58 (F := Ideal) x0 x1 (ix2 i k) = term (x0 (ix2 i ⟨768 + k.val, by omega⟩)) (x1 (ix2 i ⟨1280 + k.val, by omega⟩)) := by
  unfold term gate
  pointwise [val_main_v58, val_main_v57, val_main_v17, val_main_v16, val_main_v15, val_main_v14, val_main_v13, val_main_v12, val_main_v11, val_main_v10, val_main_v9, val_main_v8, val_main_v7, val_main_v6, val_main_v5, val_main_v3, val_main_cst, val_main_cst_0, val_main_cst_1, val_main_cst_2]

/-- The plain gradient of the bias: the sum over the chunks. -/
theorem ref_sum (x0 : FVec Ideal Cert.Reference20Ideal.S8192x1024 .f32) (x1 : FVec Ideal Cert.Reference20Ideal.S8192x1792 .f32) (r : Fin 128) (k : Fin 256) :
    val_main_v63 (F := Ideal) x0 x1 (ix2 r k) = ∑ n : Fin 64, val_main_v58 (F := Ideal) x0 x1 (ix2 ⟨n.val * 128 + r.val, by omega⟩ k) := by
  rw [val_main_v63_apply, val_main_v62_apply, Fin.sum_univ_one, val_main_v61_apply, val_main_v60_apply,
    show (val_main_cst_12 (F := Ideal)) (Shape.Idx.first Cert.Reference20Ideal.Gen.h_S_) = (0 : EReal) from by pointwise [val_main_cst_12],
    show (val_main_cst_11 (F := Ideal)) (Shape.Idx.first Cert.Reference20Ideal.Gen.h_S_) = (0 : EReal) from by pointwise [val_main_cst_11],
    zero_add, zero_add]
  refine Finset.sum_congr rfl fun n _ => ?_
  rw [val_main_v59_apply]
  refine congrArg (val_main_v58 (F := Ideal) x0 x1) ?_
  funext a
  have hn := n.isLt
  have hr := r.isLt
  have hk := k.isLt
  match a with
  | ⟨0, _⟩ => exact Fin.ext (by simp [idx_main_v59, idx_main_v60, idx_main_v61, idx_main_v62, idx_main_v63, ix2]; omega)
  | ⟨1, _⟩ => exact Fin.ext (by simp [idx_main_v59, idx_main_v60, idx_main_v61, idx_main_v62, idx_main_v63, ix2]; omega)

/-- Thirty-two points taken from the last block back, two chunks each, are the sixty-four chunks. -/
theorem sum_chunks (f : Fin 64 → EReal) :
    ∑ s : Fin 32, (f ⟨2 * (31 - s.val), by omega⟩ + f ⟨2 * (31 - s.val) + 1, by omega⟩) = ∑ n : Fin 64, f n := by
  have h : ∑ s : Fin 32, ∑ e : Fin 2, f ⟨s.val * 2 + e.val, by omega⟩ = ∑ n : Fin 64, f n := Fin.sum_mul_add_congr fun s e hl => rfl
  rw [← h, ← Equiv.sum_comp Fin.revPerm]
  refine Finset.sum_congr rfl fun s _ => ?_
  rw [Fin.sum_univ_two]
  refine congrArg₂ (· + ·) (congrArg f (Fin.ext ?_)) (congrArg f (Fin.ext ?_))
  · simp only [Fin.revPerm_apply, Fin.val_rev, Fin.val_zero]; omega
  · simp only [Fin.revPerm_apply, Fin.val_rev, Fin.val_one]; omega

end Cert.Kernel20Ideal.Own

end
-- ==== Proof.BzVal.lean ====
/- The gradient of the spatial unit's bias (`_mix_bwd`): what the whole call leaves in its last result is the plain gradient. -/
module

public import proofs.«01_k».proof.Proof.BzFrame
public import proofs.«01_k».proof.Proof.BzAlg

@[expose] public section

set_option maxRecDepth 65536

noncomputable section

open Idealize.ShloMosaic Idealize.ShloMosaic.TcCoe Idealize.SL.Sem
open Idealize.ShloMosaic.Pipeline (Dat)
open scoped BigOperators

namespace Cert.Kernel20Ideal.Own

open Cert.Kernel20Ideal Cert.Kernel20Ideal.Gen
open Cert.Reference20Ideal.Read

variable (m : (ℓ : Loc nD τ sig) → Buf (Elt Ideal) ℓ)

/-- The incoming gradient. -/
abbrev DY (c : Dev nD) : FVec Ideal S8192x1024 .f32 := m ((c : Thread nD τ).loc main_arg0)
/-- The projected rows. -/
abbrev PR (c : Dev nD) : FVec Ideal S8192x1792 .f32 := m ((c : Thread nD τ).loc main_arg1)

/-- The three windows' blocks at a point: the last rows come first. -/
theorem idx : ∀ t : Fin cfg0.N, win0_0.index t = ![31 - t.val, 0] ∧ win0_1.index t = ![31 - t.val, 0] ∧ win0_29.index t = ![0, 0] :=
  (by decide +kernel : ∀ t : Fin grid0.N, _)

/-- Where a block's row lies in the array. -/
def inArr (t : Fin cfg0.N) (r : Fin 256) : Fin 8192 := ⟨(31 - t.val) * 256 + r.val, by omega⟩

/-- The incoming gradient's block. -/
theorem dy_blk (c : Dev nD) (t : Fin cfg0.N) (r : Fin 256) (n : Fin 1024) :
    (iblk m c 0 t : Vec Ideal S256x1024 .f32) (ix2 r n) = DY m c (ix2 (inArr t r) n) := by
  refine Eq.trans (b := (V m c main_arg0 : FVec Ideal S8192x1024 .f32) (ix2 (inArr t r) n)) ?_ (by rw [V_main_arg0])
  blk_point [iblk, idx t]
  rfl

/-- The projected rows' block. -/
theorem pr_blk (c : Dev nD) (t : Fin cfg0.N) (r : Fin 256) (n : Fin 1792) :
    (iblk m c 1 t : Vec Ideal S256x1792 .f32) (ix2 r n) = PR m c (ix2 (inArr t r) n) := by
  refine Eq.trans (b := (V m c main_arg1 : FVec Ideal S8192x1792 .f32) (ix2 (inArr t r) n)) ?_ (by rw [V_main_arg1])
  blk_point [iblk, idx t]
  rfl

/-- A block's entry is the plain one. -/
theorem dz_blk (c : Dev nD) (t : Fin cfg0.N) (r k : Fin 256) :
    dz (iblk m c 0 t) (iblk m c 1 t) (ix2 r k) = val_main_v58 (F := Ideal) (DY m c) (PR m c) (ix2 (inArr t r) k) := by
  rw [dz_at, ref_entry, dy_blk, pr_blk]

/-- What a point's two chunks add. -/
def part (c : Dev nD) (t : Fin cfg0.N) (r : Fin 128) (k : Fin 256) : EReal :=
  val_main_v58 (F := Ideal) (DY m c) (PR m c) (ix2 (inArr t ⟨r.val, by omega⟩) k)
    + val_main_v58 (F := Ideal) (DY m c) (PR m c) (ix2 (inArr t ⟨128 + r.val, by omega⟩) k)

/-- The step of the sum at an entry. -/
theorem step_part (c : Dev nD) (t : Fin cfg0.N) (a : Vec Ideal S128x256 .f32) (r : Fin 128) (k : Fin 256) :
    (step (iblk m c 0 t) (iblk m c 1 t) a (ix2 r k) : EReal) = a (ix2 r k) + part m c t r k := by
  rw [step_at, dz_blk, dz_blk, add_assoc]
  rfl

/-- The sum at an entry after the first point. -/
theorem at_first (c : Dev nD) (t : Fin cfg0.N) (h : t.val % 32 = 0) (r : Fin 128) (k : Fin 256) :
    (sumAt m c t.val t.isLt (ix2 r k) : EReal) = 0 + part m c t r k := by
  rw [← sum_first m c t h, step_part, zero_at]

/-- The sum at an entry after any other. -/
theorem at_next (c : Dev nD) (t : Fin cfg0.N) (h : ¬t.val % 32 = 0) (r : Fin 128) (k : Fin 256) :
    (sumAt m c t.val t.isLt (ix2 r k) : EReal)
      = sumAt m c (t.val - 1) (Nat.lt_of_le_of_lt (Nat.sub_le _ _) t.isLt) (ix2 r k) + part m c t r k := by
  rw [← sum_next m c t h, step_part]

/-- The sum after the last point. -/
theorem at_last (c : Dev nD) (t : Fin cfg0.N) (hm : t.val % 32 = 31) (j : S128x256.Idx) :
    (sumAt m c t.val t.isLt j : EReal) = val_main_v63 (F := Ideal) (DY m c) (PR m c) j := by
  have hN : t.val < 32 := lt_of_lt_of_eq t.isLt (show cfg0.N = 32 from N_0)
  refine (Pipeline.eq_sum_fin_of_reset_step_apply_of_flush (M := EReal) (fun n h => (sumAt m c n h : S128x256.Idx → EReal)) 32 (fun _ => 0)
    (fun t j => part m c t (j 0) (j 1))
    (fun t h j => (congrArg _ (eq_ix2 j)).trans (at_first m c t h (j 0) (j 1)))
    (fun t h j => ((congrArg _ (eq_ix2 j)).trans (at_next m c t h (j 0) (j 1))).trans (congrArg₂ (· + ·) (congrArg _ (eq_ix2 j).symm) rfl)) t hm j).trans ?_
  refine (zero_add _).trans (Eq.trans ?_ ((congrArg _ (eq_ix2 j)).trans (ref_sum _ _ (j 0) (j 1))).symm)
  refine Eq.trans ?_ (sum_chunks _)
  refine Finset.sum_congr rfl fun s _ => ?_
  unfold part
  have hs := s.isLt
  refine congrArg₂ (· + ·) (congrArg _ (congrArg (ix2 · _) (Fin.ext ?_))) (congrArg _ (congrArg (ix2 · _) (Fin.ext ?_)))
  · show (31 - (32 * (t.val / 32) + s.val)) * 256 + (j 0).val = 2 * (31 - s.val) * 128 + (j 0).val
    omega
  · show (31 - (32 * (t.val / 32) + s.val)) * 256 + (128 + (j 0).val) = (2 * (31 - s.val) + 1) * 128 + (j 0).val
    omega

/-- The whole call's last result is the plain gradient of the bias. -/
theorem final29 (c : Dev nD) : (dats m 0 c).arrAt 29 cfg0.N = val_main_v63 (F := Ideal) (DY m c) (PR m c) := by
  refine (dats m 0 c).arrAt_eq_of_covers 29 _ (by decide +kernel) fun t hf y => ?_
  have hm : t.val % 32 = 31 := (flush0_29 t).mp hf
  blk_simp
  rw [after29]
  have e : ((win0_29.blk t).view.emb y : S128x256.Idx) = y := by blk_ext [idx t]
  exact (at_last m c t hm _).trans (congrArg _ e.symm)

end Cert.Kernel20Ideal.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.MixFrame
public import proofs.«01_k».proof.Proof.KMixFrame
public import proofs.«01_k».proof.Proof.DhRms
public import proofs.«01_k».proof.Proof.MmTn
public import proofs.«01_k».proof.Proof.MixOut
public import proofs.«01_k».proof.Proof.MixDy
public import proofs.«01_k».proof.Proof.MixDwo
public import proofs.«01_k».proof.Proof.MixDwin
public import proofs.«01_k».proof.Proof.FfnOut
public import proofs.«01_k».proof.Proof.MixIn
public import proofs.«01_k».proof.Proof.MixDh
public import proofs.«01_k».proof.Proof.DhRms2
public import proofs.«01_k».proof.Proof.Final
public import proofs.«01_k».proof.Proof.Adamw
public import proofs.«01_k».proof.Proof.AdamwRest
public import proofs.«01_k».proof.Proof.SumEight
public import proofs.«01_k».proof.Proof.FfnVal
public import proofs.«01_k».proof.Proof.FfnPre
public import proofs.«01_k».proof.Proof.FfnRun
public import Idealize.ShloMosaic.Adequacy
public import Idealize.ShloMosaic.Init
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame.Runs
public import proofs.«01_k».proof.Proof.BzKFrame
public import proofs.«01_k».proof.Proof.Gen.Kernel20Ideal
public import proofs.«01_k».proof.Proof.Gen.Kernel20Ideal.Frame.Runs
public import proofs.«01_k».proof.Proof.Gen.Reference20Ideal.Run
public import proofs.«01_k».proof.Proof.Gen.Reference20Ideal.Read
public import proofs.«01_k».proof.Proof.BzVal

@[expose] public section

noncomputable section

namespace Cert.Proof

open Idealize.ShloMosaic Idealize.SL.Sem

/-- The gradient through the feed-forward layer's normalisation, in blocks of rows with the gain's gradient summed across
    the grid, is what differentiating the plain lines gives. -/
theorem dh_rms : Cert.algebraic_Kernel2Ideal_Reference2Ideal (hKernel2Ideal := Cert.Kernel2Ideal.Gen.facts) (hReference2Ideal := Cert.Reference2Ideal.Gen.facts) := by
  intro m g m' g' _ hargs
  refine ⟨_, _, _, Cert.Kernel2Ideal.Value.run_blocks m g, (θ_run _ _ _).mono (fun r h c => ?_) (Cert.Reference2Ideal.Value.run m' g')⟩
  obtain ⟨h0, h1, h2, hk⟩ := h c
  obtain ⟨a0, a1, a2, a3, a4, a5⟩ := hargs c
  refine ⟨h0.trans ?_, h1.trans ?_, h2.trans ?_, hk⟩
  · rw [Cert.Reference2Ideal.Read.val_main_v41_eq, a0, a1, a2, a3, a4, a5]
    exact (Cert.Kernel2Ideal.Own.final7 m c).symm
  · rw [Cert.Reference2Ideal.Read.val_main_v44_eq, a0, a1, a2, a3, a4, a5]
    exact (Cert.Kernel2Ideal.Own.final8 m c).symm
  · rw [Cert.Reference2Ideal.Read.val_main_v45_eq, a0, a1, a2, a3]
    exact (Cert.Kernel2Ideal.Own.final9 m c).symm

/-- The blocked product of a transposed matrix with another, accumulated along the contracted axis, is the weight's gradient. -/
theorem mm_tn : Cert.algebraic_Kernel3Ideal_Reference3Ideal (hKernel3Ideal := Cert.Kernel3Ideal.Gen.facts) (hReference3Ideal := Cert.Reference3Ideal.Gen.facts) := by
  intro m g m' g' _ hargs
  refine ⟨_, Cert.Kernel3Ideal.Value.run_blocks m g, (θ_run _ _ _).mono (fun r h c => ?_) (Cert.Reference3Ideal.Value.run m' g')⟩
  obtain ⟨h0, hk⟩ := h c
  obtain ⟨a0, a1⟩ := hargs c
  refine ⟨h0.trans ?_, hk⟩
  rw [Cert.Reference3Ideal.Read.val_main_v4_eq, a0, a1]
  exact (Cert.Kernel3Ideal.Own.final m c).symm

/-- The plain mixer's gradient ends, with its arguments unchanged. -/
theorem reference_ends : Cert.quiescent_ReferenceIdeal (hReferenceIdeal := Cert.ReferenceIdeal.Gen.facts) := fun m ρ _ =>
  (θ_run _ _ _).mono (fun r h => ⟨fun c => (h c).2.2.2.2.2, sem_eq_zero_of_no_sems (by decide) r.2⟩) (Cert.ReferenceIdeal.Value.run m ρ)

/-- The plain gradient through the normalisation ends, with its arguments unchanged. -/
theorem reference2_ends : Cert.quiescent_Reference2Ideal (hReference2Ideal := Cert.Reference2Ideal.Gen.facts) := fun m ρ _ =>
  (θ_run _ _ _).mono (fun r h => ⟨fun c => (h c).2.2.2, sem_eq_zero_of_no_sems (by decide) r.2⟩) (Cert.Reference2Ideal.Value.run m ρ)

/-- The plain gradient of a weight ends, with its arguments unchanged. -/
theorem reference3_ends : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The feed-forward layer's first call and the gradient through its unit leave what the plain layer and its derivative give,
    where the gain, the weights and the output's gradient are finite. -/
theorem ffn_unit : Cert.algebraic_Kernel4Ideal_Reference4Ideal (hKernel4Ideal := Cert.Kernel4Ideal.Gen.facts) (hReference4Ideal := Cert.Reference4Ideal.Gen.facts) (hPre_finite := Cert.Pre_finite.Own.facts) := by
  intro m g m' g' hpre hargs
  refine ⟨_, _, _, _, (θ_run _ _ _).mono (fun r h => h.1) (Cert.Kernel4Ideal.Own.run m g), (θ_run _ _ _).mono (fun r h c => ?_) (Cert.Reference4Ideal.Value.run m' g')⟩
  obtain ⟨h0, h1, h2, h3, hk⟩ := h c
  obtain ⟨a0, a1, a2, a3, a4⟩ := hargs c
  have hg := Cert.Pre_finite.Own.isReal_g (hpre c)
  have hw := Cert.Pre_finite.Own.isReal_wi (hpre c)
  have ho := Cert.Pre_finite.Own.isReal_wo (hpre c)
  have hd := Cert.Pre_finite.Own.isReal_dy (hpre c)
  refine ⟨h0.trans ?_, h1.trans ?_, h2.trans ?_, h3.trans ?_, hk⟩
  · rw [Cert.Reference4Ideal.Read.val_main_v23_eq, a0, a1]
    exact (Cert.Kernel4Ideal.Own.final_h m g c).symm
  · rw [Cert.Reference4Ideal.Read.val_main_v30_eq, a0, a1, a2]
    exact (Cert.Kernel4Ideal.Own.final_a g c hg hw).symm
  · rw [Cert.Reference4Ideal.Read.val_main_v35_eq, a0, a1, a2, a3, a4]
    exact (Cert.Kernel4Ideal.Own.final_dg g c hg hw ho hd).symm
  · rw [Cert.Reference4Ideal.Read.val_main_v40_eq, a0, a1, a2, a3, a4]
    exact (Cert.Kernel4Ideal.Own.final_du g c hg hw).symm

/-- The plain layer and the gradient through its unit end, with the arguments unchanged. -/
theorem reference4_ends : Cert.quiescent_Reference4Ideal (hReference4Ideal := Cert.Reference4Ideal.Gen.facts) (hPre_finite := Cert.Pre_finite.Own.facts) := fun m ρ _ =>
  (θ_run _ _ _).mono (fun r h => ⟨fun c => (h c).2.2.2.2, sem_eq_zero_of_no_sems (by decide) r.2⟩) (Cert.Reference4Ideal.Value.run m ρ)

/-- The product with the output weight, padded and added to the residual in blocks, is the layer's output. -/
theorem ffn_out : Cert.algebraic_Kernel5Ideal_Reference5Ideal (hKernel5Ideal := Cert.Kernel5Ideal.Gen.facts) (hReference5Ideal := Cert.Reference5Ideal.Gen.facts) := by
  intro m g m' g' _ hargs
  refine ⟨_, Cert.Kernel5Ideal.Value.run_blocks m g, (θ_run _ _ _).mono (fun r h c => ?_) (Cert.Reference5Ideal.Value.run m' g')⟩
  obtain ⟨h0, hk⟩ := h c
  obtain ⟨a0, a1, a2⟩ := hargs c
  refine ⟨h0.trans ?_, hk⟩
  · rw [Cert.Reference5Ideal.Read.val_main_v3_eq, a0, a1, a2]
    exact (Cert.Kernel5Ideal.Own.final m c).symm

/-- The plain layer's output ends, with the arguments unchanged. -/
theorem reference5_ends : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The mixer's output product, added to the residual in blocks, is the mixer's output. -/
theorem mix_out : Cert.algebraic_Kernel6Ideal_Reference6Ideal (hKernel6Ideal := Cert.Kernel6Ideal.Gen.facts) (hReference6Ideal := Cert.Reference6Ideal.Gen.facts) := by
  intro m g m' g' _ hargs
  refine ⟨_, Cert.Kernel6Ideal.Value.run_blocks m g, (θ_run _ _ _).mono (fun r h c => ?_) (Cert.Reference6Ideal.Value.run m' g')⟩
  obtain ⟨h0, hk⟩ := h c
  obtain ⟨a0, a1, a2⟩ := hargs c
  refine ⟨h0.trans ?_, hk⟩
  · rw [Cert.Reference6Ideal.Read.val_main_v1_eq, a0, a1, a2]
    exact (Cert.Kernel6Ideal.Own.final m c).symm

/-- The plain mixer's output ends, with the arguments unchanged. -/
theorem reference6_ends : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- The blocked gradient of the mixer's output product in its rows is the plain one. -/
theorem mix_dy : Cert.algebraic_Kernel7Ideal_Reference7Ideal (hKernel7Ideal := Cert.Kernel7Ideal.Gen.facts) (hReference7Ideal := Cert.Reference7Ideal.Gen.facts) := by
  intro m g m' g' _ hargs
  refine ⟨_, Cert.Kernel7Ideal.Value.run_blocks m g, (θ_run _ _ _).mono (fun r h c => ?_) (Cert.Reference7Ideal.Value.run m' g')⟩
  obtain ⟨h0, hk⟩ := h c
  obtain ⟨a0, a1⟩ := hargs c
  refine ⟨h0.trans ?_, hk⟩
  · rw [Cert.Reference7Ideal.Read.val_main_v2_eq, a0, a1]
    exact (Cert.Kernel7Ideal.Own.final m c).symm

/-- The plain gradient in the rows ends, with the arguments unchanged. -/
theorem reference7_ends : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

/-- The blocked gradient of the mixer's output weight, accumulated along the rows, is the plain one. -/
theorem mix_dwo : Cert.algebraic_Kernel8Ideal_Reference8Ideal (hKernel8Ideal := Cert.Kernel8Ideal.Gen.facts) (hReference8Ideal := Cert.Reference8Ideal.Gen.facts) := by
  intro m g m' g' _ hargs
  refine ⟨_, Cert.Kernel8Ideal.Value.run_blocks m g, (θ_run _ _ _).mono (fun r h c => ?_) (Cert.Reference8Ideal.Value.run m' g')⟩
  obtain ⟨h0, hk⟩ := h c
  obtain ⟨a0, a1⟩ := hargs c
  refine ⟨h0.trans ?_, hk⟩
  · rw [Cert.Reference8Ideal.Read.val_main_v4_eq, a0, a1]
    exact (Cert.Kernel8Ideal.Own.final m c).symm

/-- The plain gradient of the output weight ends, with the arguments unchanged. -/
theorem reference8_ends : Cert.quiescent_Reference8Ideal (hReference8Ideal := Cert.Reference8Ideal.Gen.facts) := fun m ρ _ =>
  (θ_run _ _ _).mono (fun r h => ⟨fun c => (h c).2, sem_eq_zero_of_no_sems (by decide) r.2⟩) (Cert.Reference8Ideal.Value.run m ρ)

/-- The blocked gradient of the mixer's input weight, accumulated along the rows, is the plain one. -/
theorem mix_dwin : Cert.algebraic_Kernel9Ideal_Reference9Ideal (hKernel9Ideal := Cert.Kernel9Ideal.Gen.facts) (hReference9Ideal := Cert.Reference9Ideal.Gen.facts) := by
  intro m g m' g' _ hargs
  refine ⟨_, Cert.Kernel9Ideal.Value.run_blocks m g, (θ_run _ _ _).mono (fun r h c => ?_) (Cert.Reference9Ideal.Value.run m' g')⟩
  obtain ⟨h0, hk⟩ := h c
  obtain ⟨a0, a1⟩ := hargs c
  refine ⟨h0.trans ?_, hk⟩
  · rw [Cert.Reference9Ideal.Read.val_main_v5_eq, a0, a1]
    exact (Cert.Kernel9Ideal.Own.final m c).symm

/-- The plain gradient of the input weight ends, with the arguments unchanged. -/
theorem reference9_ends : Cert.quiescent_Reference9Ideal (hReference9Ideal := Cert.Reference9Ideal.Gen.facts) := fun m ρ _ =>
  (θ_run _ _ _).mono (fun r h => ⟨fun c => (h c).2, sem_eq_zero_of_no_sems (by decide) r.2⟩) (Cert.Reference9Ideal.Value.run m ρ)

/-- The gradient through the mixer's input product and its normalisation, with the gain's gradient summed across the grid, is
    what differentiating the plain lines gives. -/
theorem mix_dh : Cert.algebraic_Kernel10Ideal_Reference10Ideal (hKernel10Ideal := Cert.Kernel10Ideal.Gen.facts) (hReference10Ideal := Cert.Reference10Ideal.Gen.facts) := by
  intro m g m' g' _ hargs
  refine ⟨_, _, _, Cert.Kernel10Ideal.Value.run_blocks m g, (θ_run _ _ _).mono (fun r h c => ?_) (Cert.Reference10Ideal.Value.run m' g')⟩
  obtain ⟨h0, h1, h2, hk⟩ := h c
  obtain ⟨a0, a1, a2, a3, a4⟩ := hargs c
  refine ⟨h0.trans ?_, h1.trans ?_, h2.trans ?_, hk⟩
  · rw [Cert.Reference10Ideal.Read.val_main_v38_eq, a0, a1, a2, a3, a4]
    exact (Cert.Kernel10Ideal.Own.final5 m c).symm
  · rw [Cert.Reference10Ideal.Read.val_main_v41_eq, a0, a1, a2, a3, a4]
    exact (Cert.Kernel10Ideal.Own.final6 m c).symm
  · rw [Cert.Reference10Ideal.Read.val_main_v42_eq, a0, a1, a2]
    exact (Cert.Kernel10Ideal.Own.final7 m c).symm

/-- The plain gradient through the mixer's normalisation ends, with the arguments unchanged. -/
theorem reference10_ends : Cert.quiescent_Reference10Ideal (hReference10Ideal := Cert.Reference10Ideal.Gen.facts) := fun m ρ _ =>
  (θ_run _ _ _).mono (fun r h => ⟨fun c => (h c).2.2.2, sem_eq_zero_of_no_sems (by decide) r.2⟩) (Cert.Reference10Ideal.Value.run m ρ)

/-- The mixer's normalisation and input product, in blocks of rows, are the plain ones. -/
theorem mix_in : Cert.algebraic_Kernel11Ideal_Reference11Ideal (hKernel11Ideal := Cert.Kernel11Ideal.Gen.facts) (hReference11Ideal := Cert.Reference11Ideal.Gen.facts) := by
  intro m g m' g' _ hargs
  refine ⟨_, _, Cert.Kernel11Ideal.Value.run_blocks m g, (θ_run _ _ _).mono (fun r h c => ?_) (Cert.Reference11Ideal.Value.run m' g')⟩
  obtain ⟨h0, h1, hk⟩ := h c
  obtain ⟨a0, a1, a2⟩ := hargs c
  refine ⟨h0.trans ?_, h1.trans ?_, hk⟩
  · rw [Cert.Reference11Ideal.Read.val_main_v13_eq, a0, a1]
    exact (Cert.Kernel11Ideal.Own.final3 m c).symm
  · rw [Cert.Reference11Ideal.Read.val_main_v14_eq, a0, a1, a2]
    exact (Cert.Kernel11Ideal.Own.final4 m c).symm

/-- The plain normalisation and input product end, with the arguments unchanged. -/
theorem reference11_ends : Cert.quiescent_Reference11Ideal (hReference11Ideal := Cert.Reference11Ideal.Gen.facts) := fun m ρ _ =>
  (θ_run _ _ _).mono (fun r h => ⟨fun c => (h c).2.2, sem_eq_zero_of_no_sems (by decide) r.2⟩) (Cert.Reference11Ideal.Value.run m ρ)

/-- The gradient through the feed-forward layer's normalisation with the copy unscaled is what differentiating the plain lines gives. -/
theorem dh_rms2 : Cert.algebraic_Kernel12Ideal_Reference12Ideal (hKernel12Ideal := Cert.Kernel12Ideal.Gen.facts) (hReference12Ideal := Cert.Reference12Ideal.Gen.facts) := by
  intro m g m' g' _ hargs
  refine ⟨_, _, _, Cert.Kernel12Ideal.Value.run_blocks m g, (θ_run _ _ _).mono (fun r h c => ?_) (Cert.Reference12Ideal.Value.run m' g')⟩
  obtain ⟨h0, h1, h2, hk⟩ := h c
  obtain ⟨a0, a1, a2, a3, a4, a5⟩ := hargs c
  refine ⟨h0.trans ?_, h1.trans ?_, h2.trans ?_, hk⟩
  · rw [Cert.Reference12Ideal.Read.val_main_v41_eq, a0, a1, a2, a3, a4, a5]
    exact (Cert.Kernel12Ideal.Own.final7 m c).symm
  · rw [Cert.Reference12Ideal.Read.val_main_v42_eq, a0, a1, a2, a3, a4, a5]
    exact (Cert.Kernel12Ideal.Own.final8 m c).symm
  · rw [Cert.Reference12Ideal.Read.val_main_v43_eq, a0, a1, a2, a3]
    exact (Cert.Kernel12Ideal.Own.final9 m c).symm

/-- The plain gradient through the normalisation ends, with its arguments unchanged. -/
theorem reference12_ends : Cert.quiescent_Reference12Ideal (hReference12Ideal := Cert.Reference12Ideal.Gen.facts) := fun m ρ _ =>
  (θ_run _ _ _).mono (fun r h => ⟨fun c => (h c).2.2.2, sem_eq_zero_of_no_sems (by decide) r.2⟩) (Cert.Reference12Ideal.Value.run m ρ)

/-- The loss summed across the grid, with its gradients, is the plain loss and what differentiating it gives. -/
theorem final_loss : Cert.algebraic_Kernel13Ideal_Reference13Ideal (hKernel13Ideal := Cert.Kernel13Ideal.Gen.facts) (hReference13Ideal := Cert.Reference13Ideal.Gen.facts) := by
  intro m g m' g' _ hargs
  refine ⟨_, _, _, _, Cert.Kernel13Ideal.Value.run_blocks m g, (θ_run _ _ _).mono (fun r h c => ?_) (Cert.Reference13Ideal.Value.run m' g')⟩
  obtain ⟨h0, h1, h2, h3, hk⟩ := h c
  obtain ⟨a0, a1, a2⟩ := hargs c
  refine ⟨h0.trans ?_, h1.trans ?_, h2.trans ?_, h3.trans ?_, hk⟩
  · rw [Cert.Reference13Ideal.Read.val_main_v50_eq, a0, a1, a2]
    exact (Cert.Kernel13Ideal.Own.final3 m c).symm
  · rw [Cert.Reference13Ideal.Read.val_main_v53_eq, a0, a1, a2]
    exact (Cert.Kernel13Ideal.Own.final4 m c).symm
  · rw [Cert.Reference13Ideal.Read.val_main_v54_eq, a0, a1, a2]
    exact (Cert.Kernel13Ideal.Own.final5 m c).symm
  · rw [Cert.Reference13Ideal.Read.val_main_v55_eq, a0, a1, a2]
    exact (Cert.Kernel13Ideal.Own.final6 m c).symm

/-- The plain loss and its gradient end, with the arguments unchanged. -/
theorem reference13_ends : Cert.quiescent_Reference13Ideal (hReference13Ideal := Cert.Reference13Ideal.Gen.facts) := fun m ρ _ =>
  (θ_run _ _ _).mono (fun r h => ⟨fun c => (h c).2.2.2.2, sem_eq_zero_of_no_sems (by decide) r.2⟩) (Cert.Reference13Ideal.Value.run m ρ)

/-- The kernel's two named constants are the inverses of the bias corrections, as the ledger records them. -/
theorem adamw_names : Cert.preserves_Kernel14_Kernel14Ideal :=
  ⟨IdealRules.named_const.statement _ _ _ _ _ rfl, IdealRules.named_const.statement _ _ _ _ _ rfl⟩

/-- The optimiser's step, in blocks of rows, is the plain step of the weight and of its moments. -/
theorem adamw : Cert.algebraic_Kernel14Ideal_Reference14Ideal (hKernel14Ideal := Cert.Kernel14Ideal.Gen.facts) (hReference14Ideal := Cert.Reference14Ideal.Gen.facts) := by
  intro m g m' g' _ hargs
  refine ⟨_, _, _, Cert.Kernel14Ideal.Value.run m g, (θ_run _ _ _).mono (fun r h c => ?_) (Cert.Reference14Ideal.Value.run m' g')⟩
  obtain ⟨h0, h1, h2, hk⟩ := h c
  obtain ⟨a0, a1, a2, a3⟩ := hargs c
  refine ⟨h0.trans ?_, h1.trans ?_, h2.trans ?_, hk⟩
  · rw [Cert.Reference14Ideal.Read.val_main_v23_eq, a0, a1, a2, a3]
    exact (Cert.Kernel14Ideal.Own.step_eq _ _ _ _).symm
  · rw [Cert.Reference14Ideal.Read.val_main_v4_eq, a1, a2]
    exact (Cert.Kernel14Ideal.Own.first_eq _ _).symm
  · rw [Cert.Reference14Ideal.Read.val_main_v10_eq, a1, a3]
    exact (Cert.Kernel14Ideal.Own.second_eq _ _).symm

/-- The plain optimiser step ends, with its arguments unchanged. -/
theorem reference14_ends : Cert.quiescent_Reference14Ideal (hReference14Ideal := Cert.Reference14Ideal.Gen.facts) := fun m ρ _ =>
  (θ_run _ _ _).mono (fun r h => ⟨fun c => (h c).2.2.2, sem_eq_zero_of_no_sems (by decide) r.2⟩) (Cert.Reference14Ideal.Value.run m ρ)

/-- The slabs added one by one are the plain sum. -/
theorem sum_eight : Cert.algebraic_Kernel15Ideal_Reference15Ideal (hKernel15Ideal := Cert.Kernel15Ideal.Gen.facts) (hReference15Ideal := Cert.Reference15Ideal.Gen.facts) := by
  intro m g m' g' _ hargs
  refine ⟨_, Cert.Kernel15Ideal.Value.run_blocks m g, (θ_run _ _ _).mono (fun r h c => ?_) (Cert.Reference15Ideal.Value.run m' g')⟩
  obtain ⟨h0, hk⟩ := h c
  have a0 := hargs c
  refine ⟨h0.trans ?_, hk⟩
  rw [Cert.Reference15Ideal.Read.val_main_v0_eq, a0]
  exact (Cert.Kernel15Ideal.Own.final m c).symm

/-- The plain sum ends, with its argument unchanged. -/
theorem reference15_ends : Cert.quiescent_Reference15Ideal (hReference15Ideal := Cert.Reference15Ideal.Gen.facts) := fun m ρ _ =>
  (θ_run _ _ _).mono (fun r h => ⟨fun c => (h c).2, sem_eq_zero_of_no_sems (by decide) r.2⟩) (Cert.Reference15Ideal.Value.run m ρ)

/-- The same two constants, for the feed-forward output weights. -/
theorem adamw_names16 : Cert.preserves_Kernel16_Kernel16Ideal :=
  ⟨IdealRules.named_const.statement _ _ _ _ _ rfl, IdealRules.named_const.statement _ _ _ _ _ rfl⟩

/-- The optimiser's step of the feed-forward output weights. -/
theorem adamw16 : Cert.algebraic_Kernel16Ideal_Reference16Ideal (hKernel16Ideal := Cert.Kernel16Ideal.Gen.facts) (hReference16Ideal := Cert.Reference16Ideal.Gen.facts) := by
  intro m g m' g' _ hargs
  refine ⟨_, _, _, Cert.Kernel16Ideal.Value.run m g, (θ_run _ _ _).mono (fun r h c => ?_) (Cert.Reference16Ideal.Value.run m' g')⟩
  obtain ⟨h0, h1, h2, hk⟩ := h c
  obtain ⟨a0, a1, a2, a3⟩ := hargs c
  refine ⟨h0.trans ?_, h1.trans ?_, h2.trans ?_, hk⟩
  · rw [Cert.Reference16Ideal.Read.val_main_v23_eq, a0, a1, a2, a3]
    exact (Cert.Kernel16Ideal.Own.step_eq _ _ _ _).symm
  · rw [Cert.Reference16Ideal.Read.val_main_v4_eq, a1, a2]
    exact (Cert.Kernel16Ideal.Own.first_eq _ _).symm
  · rw [Cert.Reference16Ideal.Read.val_main_v10_eq, a1, a3]
    exact (Cert.Kernel16Ideal.Own.second_eq _ _).symm

/-- The plain step of the feed-forward output weights ends, with its arguments unchanged. -/
theorem reference16_ends : Cert.quiescent_Reference16Ideal (hReference16Ideal := Cert.Reference16Ideal.Gen.facts) := fun m ρ _ =>
  (θ_run _ _ _).mono (fun r h => ⟨fun c => (h c).2.2.2, sem_eq_zero_of_no_sems (by decide) r.2⟩) (Cert.Reference16Ideal.Value.run m ρ)

/-- The same two constants, for the mixer's input weights. -/
theorem adamw_names17 : Cert.preserves_Kernel17_Kernel17Ideal :=
  ⟨IdealRules.named_const.statement _ _ _ _ _ rfl, IdealRules.named_const.statement _ _ _ _ _ rfl⟩

/-- The optimiser's step of the mixer's input weights. -/
theorem adamw17 : Cert.algebraic_Kernel17Ideal_Reference17Ideal (hKernel17Ideal := Cert.Kernel17Ideal.Gen.facts) (hReference17Ideal := Cert.Reference17Ideal.Gen.facts) := by
  intro m g m' g' _ hargs
  refine ⟨_, _, _, Cert.Kernel17Ideal.Value.run m g, (θ_run _ _ _).mono (fun r h c => ?_) (Cert.Reference17Ideal.Value.run m' g')⟩
  obtain ⟨h0, h1, h2, hk⟩ := h c
  obtain ⟨a0, a1, a2, a3⟩ := hargs c
  refine ⟨h0.trans ?_, h1.trans ?_, h2.trans ?_, hk⟩
  · rw [Cert.Reference17Ideal.Read.val_main_v23_eq, a0, a1, a2, a3]
    exact (Cert.Kernel17Ideal.Own.step_eq _ _ _ _).symm
  · rw [Cert.Reference17Ideal.Read.val_main_v4_eq, a1, a2]
    exact (Cert.Kernel17Ideal.Own.first_eq _ _).symm
  · rw [Cert.Reference17Ideal.Read.val_main_v10_eq, a1, a3]
    exact (Cert.Kernel17Ideal.Own.second_eq _ _).symm

/-- The plain step of the mixer's input weights ends, with its arguments unchanged. -/
theorem reference17_ends : Cert.quiescent_Reference17Ideal (hReference17Ideal := Cert.Reference17Ideal.Gen.facts) := fun m ρ _ =>
  (θ_run _ _ _).mono (fun r h => ⟨fun c => (h c).2.2.2, sem_eq_zero_of_no_sems (by decide) r.2⟩) (Cert.Reference17Ideal.Value.run m ρ)

/-- The same two constants, for the mixer's output weights. -/
theorem adamw_names18 : Cert.preserves_Kernel18_Kernel18Ideal :=
  ⟨IdealRules.named_const.statement _ _ _ _ _ rfl, IdealRules.named_const.statement _ _ _ _ _ rfl⟩

/-- The optimiser's step of the mixer's output weights. -/
theorem adamw18 : Cert.algebraic_Kernel18Ideal_Reference18Ideal (hKernel18Ideal := Cert.Kernel18Ideal.Gen.facts) (hReference18Ideal := Cert.Reference18Ideal.Gen.facts) := by
  intro m g m' g' _ hargs
  refine ⟨_, _, _, Cert.Kernel18Ideal.Value.run m g, (θ_run _ _ _).mono (fun r h c => ?_) (Cert.Reference18Ideal.Value.run m' g')⟩
  obtain ⟨h0, h1, h2, hk⟩ := h c
  obtain ⟨a0, a1, a2, a3⟩ := hargs c
  refine ⟨h0.trans ?_, h1.trans ?_, h2.trans ?_, hk⟩
  · rw [Cert.Reference18Ideal.Read.val_main_v23_eq, a0, a1, a2, a3]
    exact (Cert.Kernel18Ideal.Own.step_eq _ _ _ _).symm
  · rw [Cert.Reference18Ideal.Read.val_main_v4_eq, a1, a2]
    exact (Cert.Kernel18Ideal.Own.first_eq _ _).symm
  · rw [Cert.Reference18Ideal.Read.val_main_v10_eq, a1, a3]
    exact (Cert.Kernel18Ideal.Own.second_eq _ _).symm

/-- The plain step of the mixer's output weights ends, with its arguments unchanged. -/
theorem reference18_ends : Cert.quiescent_Reference18Ideal (hReference18Ideal := Cert.Reference18Ideal.Gen.facts) := fun m ρ _ =>
  (θ_run _ _ _).mono (fun r h => ⟨fun c => (h c).2.2.2, sem_eq_zero_of_no_sems (by decide) r.2⟩) (Cert.Reference18Ideal.Value.run m ρ)

/-- The same two constants, for the small weights, packed in rows. -/
theorem adamw_names19 : Cert.preserves_Kernel19_Kernel19Ideal :=
  ⟨IdealRules.named_const.statement _ _ _ _ _ rfl, IdealRules.named_const.statement _ _ _ _ _ rfl⟩

/-- The optimiser's step of the small weights, packed in rows. -/
theorem adamw19 : Cert.algebraic_Kernel19Ideal_Reference19Ideal (hKernel19Ideal := Cert.Kernel19Ideal.Gen.facts) (hReference19Ideal := Cert.Reference19Ideal.Gen.facts) := by
  intro m g m' g' _ hargs
  refine ⟨_, _, _, Cert.Kernel19Ideal.Value.run m g, (θ_run _ _ _).mono (fun r h c => ?_) (Cert.Reference19Ideal.Value.run m' g')⟩
  obtain ⟨h0, h1, h2, hk⟩ := h c
  obtain ⟨a0, a1, a2, a3⟩ := hargs c
  refine ⟨h0.trans ?_, h1.trans ?_, h2.trans ?_, hk⟩
  · rw [Cert.Reference19Ideal.Read.val_main_v23_eq, a0, a1, a2, a3]
    exact (Cert.Kernel19Ideal.Own.step_eq _ _ _ _).symm
  · rw [Cert.Reference19Ideal.Read.val_main_v4_eq, a1, a2]
    exact (Cert.Kernel19Ideal.Own.first_eq _ _).symm
  · rw [Cert.Reference19Ideal.Read.val_main_v10_eq, a1, a3]
    exact (Cert.Kernel19Ideal.Own.second_eq _ _).symm

/-- The plain step of the small weights, packed in rows ends, with its arguments unchanged. -/
theorem reference19_ends : Cert.quiescent_Reference19Ideal (hReference19Ideal := Cert.Reference19Ideal.Gen.facts) := fun m ρ _ =>
  (θ_run _ _ _).mono (fun r h => ⟨fun c => (h c).2.2.2, sem_eq_zero_of_no_sems (by decide) r.2⟩) (Cert.Reference19Ideal.Value.run m ρ)

/-- The gradient of the spatial unit's bias, before the sum over the lanes of a group, by the mixer's whole backward call. -/
theorem mix_bias : Cert.algebraic_Kernel20Ideal_Reference20Ideal (hKernel20Ideal := Cert.Kernel20Ideal.Gen.facts) (hReference20Ideal := Cert.Reference20Ideal.Gen.facts) := by
  intro m g m' g' _ hargs
  refine ⟨_, (θ_run _ _ _).mono (fun r h c => ⟨h.1 c, h.2 c⟩) (Idealize.ShloMosaic.θ_run_and (Cert.Kernel20Ideal.Own.result m g) (Cert.Kernel20Ideal.Own.kept m g)),
    (θ_run _ _ _).mono (fun r h c => ?_) (Cert.Reference20Ideal.Value.run m' g')⟩
  obtain ⟨h0, hk⟩ := h c
  obtain ⟨a0, a1, -⟩ := hargs c
  refine ⟨h0.trans ?_, hk⟩
  rw [Cert.Reference20Ideal.Read.val_main_v63_eq, a0, a1]
  exact (Cert.Kernel20Ideal.Own.final29 m c).symm

/-- The plain gradient of the spatial unit's bias ends, with its arguments unchanged. -/
theorem reference20_ends : Cert.quiescent_Reference20Ideal (hReference20Ideal := Cert.Reference20Ideal.Gen.facts) := fun m ρ _ =>
  (θ_run _ _ _).mono (fun r h => ⟨fun c => (h c).2, sem_eq_zero_of_no_sems (by decide) r.2⟩) (Cert.Reference20Ideal.Value.run m ρ)

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Pre_finite.Own.facts,
    fun m ρ _ => Cert.Kernel.Own.frame m ρ, fun m ρ _ => Cert.KernelIdeal.Own.frame m ρ, reference_ends,
    fun m ρ _ => Cert.Kernel2.Gen.frame m ρ, fun m ρ _ => Cert.Kernel2Ideal.Gen.frame m ρ, reference2_ends,
    fun m ρ _ => Cert.Kernel3.Gen.frame m ρ, fun m ρ _ => Cert.Kernel3Ideal.Gen.frame m ρ, reference3_ends,
    fun m ρ _ => Cert.Kernel4.Gen.frame m ρ, fun m ρ _ => Cert.Kernel4.Gen.frame m ρ, fun m ρ _ => Cert.Kernel4Ideal.Gen.frame m ρ, reference4_ends,
    fun m ρ _ => Cert.Kernel5.Gen.frame m ρ, fun m ρ _ => Cert.Kernel5Ideal.Gen.frame m ρ, reference5_ends,
    fun m ρ _ => Cert.Kernel6.Gen.frame m ρ, fun m ρ _ => Cert.Kernel6Ideal.Gen.frame m ρ, reference6_ends,
    fun m ρ _ => Cert.Kernel7.Gen.frame m ρ, fun m ρ _ => Cert.Kernel7Ideal.Gen.frame m ρ, reference7_ends,
    fun m ρ _ => Cert.Kernel8.Gen.frame m ρ, fun m ρ _ => Cert.Kernel8Ideal.Gen.frame m ρ, reference8_ends,
    fun m ρ _ => Cert.Kernel9.Gen.frame m ρ, fun m ρ _ => Cert.Kernel9Ideal.Gen.frame m ρ, reference9_ends,
    fun m ρ _ => Cert.Kernel10.Gen.frame m ρ, fun m ρ _ => Cert.Kernel10Ideal.Gen.frame m ρ, reference10_ends,
    fun m ρ _ => Cert.Kernel11.Gen.frame m ρ, fun m ρ _ => Cert.Kernel11Ideal.Gen.frame m ρ, reference11_ends,
    fun m ρ _ => Cert.Kernel12.Gen.frame m ρ, fun m ρ _ => Cert.Kernel12Ideal.Gen.frame m ρ, reference12_ends,
    fun m ρ _ => Cert.Kernel13.Gen.frame m ρ, fun m ρ _ => Cert.Kernel13Ideal.Gen.frame m ρ, reference13_ends,
    fun m ρ _ => Cert.Kernel14.Gen.frame m ρ, fun m ρ _ => Cert.Kernel14Ideal.Gen.frame m ρ, reference14_ends,
    fun m ρ _ => Cert.Kernel15.Gen.frame m ρ, fun m ρ _ => Cert.Kernel15Ideal.Gen.frame m ρ, reference15_ends,
    fun m ρ _ => Cert.Kernel16.Gen.frame m ρ, fun m ρ _ => Cert.Kernel16Ideal.Gen.frame m ρ, reference16_ends,
    fun m ρ _ => Cert.Kernel17.Gen.frame m ρ, fun m ρ _ => Cert.Kernel17Ideal.Gen.frame m ρ, reference17_ends,
    fun m ρ _ => Cert.Kernel18.Gen.frame m ρ, fun m ρ _ => Cert.Kernel18Ideal.Gen.frame m ρ, reference18_ends,
    fun m ρ _ => Cert.Kernel19.Gen.frame m ρ, fun m ρ _ => Cert.Kernel19Ideal.Gen.frame m ρ, reference19_ends,
    fun m ρ _ => Cert.Kernel20.Own.frame m ρ, fun m ρ _ => Cert.Kernel20Ideal.Own.frame m ρ, reference20_ends,
    trivial, trivial, dh_rms, trivial, mm_tn, trivial, ffn_unit, trivial, ffn_out, trivial, mix_out, trivial, mix_dy, trivial, mix_dwo, trivial, mix_dwin, trivial, mix_dh, trivial, mix_in, trivial, dh_rms2, trivial, final_loss,
    adamw_names, adamw, trivial, sum_eight, adamw_names16, adamw16, adamw_names17, adamw17, adamw_names18, adamw18, adamw_names19, adamw19, trivial, mix_bias⟩

end Cert.Proof

end
